-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2.2.2.2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_biased [hPre_biased : Cert.Pre_biased.Facts] (m : (ℓ : Loc Cert.GateIdeal.nD Cert.GateIdeal.τ Cert.GateIdeal.sig) → Buf (Elt Ideal) ℓ) : Prop :=
  ∀ c : Dev Cert.GateIdeal.nD,
    (Cert.Pre_biased.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_biased [hPre_biased : Cert.Pre_biased.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_biased.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_biased [hGateIdeal : Cert.GateIdeal.Facts] [hPre_biased : Cert.Pre_biased.Facts] : Prop :=
  ∀ (m : (ℓ : Loc Cert.GateIdeal.nD Cert.GateIdeal.τ Cert.GateIdeal.sig) → Buf (Elt Ideal) ℓ) (g : Dev Cert.GateIdeal.nD → PrngReg), Pre_GateIdeal_biased m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_biased [hGateReferenceIdeal : Cert.GateReferenceIdeal.Facts] [hPre_biased : Cert.Pre_biased.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_biased m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Gate_GateIdeal : Prop :=
  True

def algebraic_GateIdeal_GateReferenceIdeal_pre_biased [hGateIdeal : Cert.GateIdeal.Facts] [hGateReferenceIdeal : Cert.GateReferenceIdeal.Facts] [hPre_biased : Cert.Pre_biased.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_biased m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)) (v2 : (c : Dev Cert.GateIdeal.nD) → Buf (Elt Ideal) ((c.tc : Thread Cert.GateIdeal.nD Cert.GateIdeal.τ).loc Cert.GateIdeal.main_v2_2)) (v3 : (c : Dev Cert.GateIdeal.nD) → Buf (Elt Ideal) ((c.tc : Thread Cert.GateIdeal.nD Cert.GateIdeal.τ).loc Cert.GateIdeal.main_v2_3)) (v4 : (c : Dev Cert.GateIdeal.nD) → Buf (Elt Ideal) ((c.tc : Thread Cert.GateIdeal.nD Cert.GateIdeal.τ).loc Cert.GateIdeal.main_v2_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_v2_2) = v2 c
          ∧ r.2.mem ((c.tc : Thread Cert.GateIdeal.nD Cert.GateIdeal.τ).loc Cert.GateIdeal.main_v2_3) = v3 c
          ∧ r.2.mem ((c.tc : Thread Cert.GateIdeal.nD Cert.GateIdeal.τ).loc Cert.GateIdeal.main_v2_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v18) = v0 c
          ∧ r.2.mem ((c.tc : Thread Cert.GateReferenceIdeal.nD Cert.GateReferenceIdeal.τ).loc Cert.GateReferenceIdeal.main_v78) = v1 c
          ∧ r.2.mem ((c.tc : Thread Cert.GateReferenceIdeal.nD Cert.GateReferenceIdeal.τ).loc Cert.GateReferenceIdeal.main_v91) = v2 c
          ∧ r.2.mem ((c.tc : Thread Cert.GateReferenceIdeal.nD Cert.GateReferenceIdeal.τ).loc Cert.GateReferenceIdeal.main_v44) = v3 c
          ∧ r.2.mem ((c.tc : Thread Cert.GateReferenceIdeal.nD Cert.GateReferenceIdeal.τ).loc Cert.GateReferenceIdeal.main_arg0) = v4 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hPre_routed : Cert.Pre_routed.Facts) (hPre_biased : Cert.Pre_biased.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Gate (hGate := hGate)
    ∧ quiescent_GateIdeal (hGateIdeal := hGateIdeal)
    ∧ quiescent_GateIdeal_pre_biased (hGateIdeal := hGateIdeal) (hPre_biased := hPre_biased)
    ∧ quiescent_GateReferenceIdeal (hGateReferenceIdeal := hGateReferenceIdeal)
    ∧ quiescent_GateReferenceIdeal_pre_biased (hGateReferenceIdeal := hGateReferenceIdeal) (hPre_biased := hPre_biased)
    ∧ preserves_Kernel_KernelIdeal
    ∧ algebraic_KernelIdeal_ReferenceIdeal (hKernelIdeal := hKernelIdeal) (hReferenceIdeal := hReferenceIdeal) (hPre_routed := hPre_routed)
    ∧ preserves_Gate_GateIdeal
    ∧ algebraic_GateIdeal_GateReferenceIdeal_pre_biased (hGateIdeal := hGateIdeal) (hGateReferenceIdeal := hGateReferenceIdeal) (hPre_biased := hPre_biased)
-- ==== Pre_biased.lean ====
abbrev S2048x768 : Shape := ⟨2, ![2048, 768]⟩
abbrev S23x768 : Shape := ⟨2, ![23, 768]⟩
abbrev S23 : Shape := ⟨1, ![23]⟩
abbrev S_ : Shape := ⟨0, ![]⟩

class Facts : Prop where
  bcast_S_S23 : S_.BroadcastsInDim S23 (![] : Fin 0 → Fin S23.rank)

variable [Facts]

def fn {F : FTy → Type} [FloatOps F] (main_arg0 : FVec F S2048x768 .f32) (main_arg1 : FVec F S23x768 .f32) (main_arg2 : FVec F S23 .f32) (main_arg3 : FVec F S23 .f32) : IVec S23 1 :=
  let main_cst : FVec F S_ .f32 := constant S_ .f32 0xF149F2CA#32
  let main_v0 : FVec F S23 .f32 := broadcastInDim S23 ![] bcast_S_S23 main_cst
  let main_v1 : IVec S23 1 := cmpf .ogt main_arg3 main_v0
  main_v1
-- ==== Pre_routed.lean ====
abbrev S2048x768 : Shape := ⟨2, ![2048, 768]⟩
abbrev S2048x3 : Shape := ⟨2, ![2048, 3]⟩
abbrev S1x72 : Shape := ⟨2, ![1, 72]⟩
abbrev S23x384x768 : Shape := ⟨3, ![23, 384, 768]⟩
abbrev S23x384 : Shape := ⟨2, ![23, 384]⟩
abbrev S23x768x384 : Shape := ⟨3, ![23, 768, 384]⟩
abbrev S23x768 : Shape := ⟨2, ![23, 768]⟩
abbrev S384x768 : Shape := ⟨2, ![384, 768]⟩
abbrev S384 : Shape := ⟨1, ![384]⟩
abbrev S768x384 : Shape := ⟨2, ![768, 384]⟩
abbrev S768 : Shape := ⟨1, ![768]⟩
abbrev S6144 : Shape := ⟨1, ![6144]⟩
abbrev S6144x1 : Shape := ⟨2, ![6144, 1]⟩
abbrev S1x6144 : Shape := ⟨2, ![1, 6144]⟩
abbrev S6144x6144 : Shape := ⟨2, ![6144, 6144]⟩
abbrev S72 : Shape := ⟨1, ![72]⟩
abbrev S_ : Shape := ⟨0, ![]⟩
abbrev S2048x3x1 : Shape := ⟨3, ![2048, 3, 1]⟩
abbrev S1x1x72 : Shape := ⟨3, ![1, 1, 72]⟩
abbrev S2048x3x72 : Shape := ⟨3, ![2048, 3, 72]⟩
abbrev S2048x1 : Shape := ⟨2, ![2048, 1]⟩
abbrev S2048 : Shape := ⟨1, ![2048]⟩

class Facts : Prop where
  shapeCasts_S2048x3_S6144 : S2048x3.ShapeCasts S6144
  bcast_S6144_S6144x1_0 : S6144.BroadcastsInDim S6144x1 (![0] : Fin 1 → Fin S6144x1.rank)
  bcast_S6144_S1x6144_1 : S6144.BroadcastsInDim S1x6144 (![1] : Fin 1 → Fin S1x6144.rank)
  bcast_S6144x1_S6144x6144_0_1 : S6144x1.BroadcastsInDim S6144x6144 (![0, 1] : Fin 2 → Fin S6144x6144.rank)
  bcast_S1x6144_S6144x6144_0_1 : S1x6144.BroadcastsInDim S6144x6144 (![0, 1] : Fin 2 → Fin S6144x6144.rank)
  bcast_S_S72 : S_.BroadcastsInDim S72 (![] : Fin 0 → Fin S72.rank)
  bcast_S2048x3_S2048x3x1_0_1 : S2048x3.BroadcastsInDim S2048x3x1 (![0, 1] : Fin 2 → Fin S2048x3x1.rank)
  bcast_S72_S1x1x72_2 : S72.BroadcastsInDim S1x1x72 (![2] : Fin 1 → Fin S1x1x72.rank)
  bcast_S2048x3x1_S2048x3x72_0_1_2 : S2048x3x1.BroadcastsInDim S2048x3x72 (![0, 1, 2] : Fin 3 → Fin S2048x3x72.rank)
  bcast_S1x1x72_S2048x3x72_0_1_2 : S1x1x72.BroadcastsInDim S2048x3x72 (![0, 1, 2] : Fin 3 → Fin S2048x3x72.rank)
  shapeCasts_S1x72_S72 : S1x72.ShapeCasts S72
  slices_S2048x3_S2048x1_0_0 : S2048x3.Slices ![0, 0] S2048x1
  shapeCasts_S2048x1_S2048 : S2048x1.ShapeCasts S2048
  slices_S2048x3_S2048x1_0_1 : S2048x3.Slices ![0, 1] S2048x1
  slices_S2048x3_S2048x1_0_2 : S2048x3.Slices ![0, 2] S2048x1
  bcast_S_S2048x3 : S_.BroadcastsInDim S2048x3 (![] : Fin 0 → Fin S2048x3.rank)
  bcast_S_S1x72 : S_.BroadcastsInDim S1x72 (![] : Fin 0 → Fin S1x72.rank)

variable [Facts]

def fn_part2 {F : FTy → Type} [FloatOps F] (main_arg1 : IVec S2048x3 32) (main_arg2 : IVec S1x72 32) (main_v12 : IVec S6144x6144 1) (main_v36 : IVec S2048x3x72 1) (main_v38 : IVec S2048 32) (main_v40 : IVec S2048 32) (main_v42 : IVec S2048 32) (main_v44 : IVec S2048x3 1) : IVec S2048x3 1 × IVec S1x72 1 × IVec S6144x6144 1 × IVec S2048x3x72 1 × IVec S2048 1 × IVec S2048 1 × IVec S2048 1 :=
  let main_c_2 : IVec S_ 32 := constantI S_ 32 9216#32
  let main_v45 : IVec S2048x3 32 := broadcastInDim S2048x3 ![] bcast_S_S2048x3 main_c_2
  let main_v46 : IVec S2048x3 1 := cmpi .slt main_arg1 main_v45
  let main_v47 : IVec S2048x3 1 := andi main_v44 main_v46
  let main_c_3 : IVec S_ 32 := constantI S_ 32 0#32
  let main_v48 : IVec S1x72 32 := broadcastInDim S1x72 ![] bcast_S_S1x72 main_c_3
  let main_v49 : IVec S1x72 1 := cmpi .sge main_arg2 main_v48
  let main_c_4 : IVec S_ 32 := constantI S_ 32 23#32
  let main_v50 : IVec S1x72 32 := broadcastInDim S1x72 ![] bcast_S_S1x72 main_c_4
  let main_v51 : IVec S1x72 1 := cmpi .slt main_arg2 main_v50
  let main_v52 : IVec S1x72 1 := andi main_v49 main_v51
  let main_v53 : IVec S2048 1 := cmpi .ne main_v38 main_v40
  let main_v54 : IVec S2048 1 := cmpi .ne main_v38 main_v42
  let main_v55 : IVec S2048 1 := cmpi .ne main_v40 main_v42
  (main_v47, main_v52, main_v12, main_v36, main_v53, main_v54, main_v55)

def fn_part1 {F : FTy → Type} [FloatOps F] (main_arg1 : IVec S2048x3 32) (main_arg2 : IVec S1x72 32) (main_arg12 : IVec S2048x3 32) (main_v12 : IVec S6144x6144 1) (main_v15 : IVec S72 32) (main_v20 : IVec S2048x3x72 1) (main_v21 : IVec S2048x3x1 32) (main_c_0 : IVec S_ 32) : IVec S2048x3 1 × IVec S1x72 1 × IVec S6144x6144 1 × IVec S2048x3x72 1 × IVec S2048 1 × IVec S2048 1 × IVec S2048 1 :=
  let main_v22 : IVec S72 32 := broadcastInDim S72 ![] bcast_S_S72 main_c_0
  let main_v23 : IVec S72 32 := addi main_v15 main_v22
  let main_v24 : IVec S1x1x72 32 := broadcastInDim S1x1x72 ![2] bcast_S72_S1x1x72_2 main_v23
  let main_v25 : IVec S2048x3x72 32 := broadcastInDim S2048x3x72 ![0, 1, 2] bcast_S2048x3x1_S2048x3x72_0_1_2 main_v21
  let main_v26 : IVec S2048x3x72 32 := broadcastInDim S2048x3x72 ![0, 1, 2] bcast_S1x1x72_S2048x3x72_0_1_2 main_v24
  let main_v27 : IVec S2048x3x72 1 := cmpi .slt main_v25 main_v26
  let main_v28 : IVec S2048x3x72 1 := andi main_v20 main_v27
  let main_v29 : IVec S72 32 := shapeCast S72 main_arg2 shapeCasts_S1x72_S72
  let main_v30 : IVec S2048x3x1 32 := broadcastInDim S2048x3x1 ![0, 1] bcast_S2048x3_S2048x3x1_0_1 main_arg12
  let main_v31 : IVec S1x1x72 32 := broadcastInDim S1x1x72 ![2] bcast_S72_S1x1x72_2 main_v29
  let main_v32 : IVec S2048x3x72 32 := broadcastInDim S2048x3x72 ![0, 1, 2] bcast_S1x1x72_S2048x3x72_0_1_2 main_v31
  let main_v33 : IVec S2048x3x72 32 := broadcastInDim S2048x3x72 ![0, 1, 2] bcast_S2048x3x1_S2048x3x72_0_1_2 main_v30
  let main_v34 : IVec S2048x3x72 1 := cmpi .eq main_v32 main_v33
  let main_v35 : IVec S2048x3x72 1 := noti main_v28
  let main_v36 : IVec S2048x3x72 1 := ori main_v34 main_v35
  let main_v37 : IVec S2048x1 32 := (extractStridedSlice S2048x1 ![0, 0] · slices_S2048x3_S2048x1_0_0) main_arg12
  let main_v38 : IVec S2048 32 := shapeCast S2048 main_v37 shapeCasts_S2048x1_S2048
  let main_v39 : IVec S2048x1 32 := (extractStridedSlice S2048x1 ![0, 1] · slices_S2048x3_S2048x1_0_1) main_arg12
  let main_v40 : IVec S2048 32 := shapeCast S2048 main_v39 shapeCasts_S2048x1_S2048
  let main_v41 : IVec S2048x1 32 := (extractStridedSlice S2048x1 ![0, 2] · slices_S2048x3_S2048x1_0_2) main_arg12
  let main_v42 : IVec S2048 32 := shapeCast S2048 main_v41 shapeCasts_S2048x1_S2048
  let main_c_1 : IVec S_ 32 := constantI S_ 32 0#32
  let main_v43 : IVec S2048x3 32 := broadcastInDim S2048x3 ![] bcast_S_S2048x3 main_c_1
  let main_v44 : IVec S2048x3 1 := cmpi .sge main_arg1 main_v43
  fn_part2 (F := F) main_arg1 main_arg2 main_v12 main_v36 main_v38 main_v40 main_v42 main_v44

def fn {F : FTy → Type} [FloatOps F] (main_arg0 : FVec F S2048x768 .f32) (main_arg1 : IVec S2048x3 32) (main_arg2 : IVec S1x72 32) (main_arg3 : FVec F S2048x3 .f32) (main_arg4 : FVec F S23x384x768 .f32) (main_arg5 : FVec F S23x384 .f32) (main_arg6 : FVec F S23x768x384 .f32) (main_arg7 : FVec F S23x768 .f32) (main_arg8 : FVec F S384x768 .f32) (main_arg9 : FVec F S384 .f32) (main_arg10 : FVec F S768x384 .f32) (main_arg11 : FVec F S768 .f32) (main_arg12 : IVec S2048x3 32) : IVec S2048x3 1 × IVec S1x72 1 × IVec S6144x6144 1 × IVec S2048x3x72 1 × IVec S2048 1 × IVec S2048 1 × IVec S2048 1 :=
  let main_v0 : IVec S6144 32 := shapeCast S6144 main_arg1 shapeCasts_S2048x3_S6144
  let main_v1 : IVec S6144 32 := iotaInDim S6144 32 0
  let main_v2 : IVec S6144x1 32 := broadcastInDim S6144x1 ![0] bcast_S6144_S6144x1_0 main_v0
  let main_v3 : IVec S1x6144 32 := broadcastInDim S1x6144 ![1] bcast_S6144_S1x6144_1 main_v0
  let main_v4 : IVec S6144x6144 32 := broadcastInDim S6144x6144 ![0, 1] bcast_S6144x1_S6144x6144_0_1 main_v2
  let main_v5 : IVec S6144x6144 32 := broadcastInDim S6144x6144 ![0, 1] bcast_S1x6144_S6144x6144_0_1 main_v3
  let main_v6 : IVec S6144x6144 1 := cmpi .ne main_v4 main_v5
  let main_v7 : IVec S6144x1 32 := broadcastInDim S6144x1 ![0] bcast_S6144_S6144x1_0 main_v1
  let main_v8 : IVec S1x6144 32 := broadcastInDim S1x6144 ![1] bcast_S6144_S1x6144_1 main_v1
  let main_v9 : IVec S6144x6144 32 := broadcastInDim S6144x6144 ![0, 1] bcast_S6144x1_S6144x6144_0_1 main_v7
  let main_v10 : IVec S6144x6144 32 := broadcastInDim S6144x6144 ![0, 1] bcast_S1x6144_S6144x6144_0_1 main_v8
  let main_v11 : IVec S6144x6144 1 := cmpi .eq main_v9 main_v10
  let main_v12 : IVec S6144x6144 1 := ori main_v6 main_v11
  let main_v13 : IVec S72 32 := iotaInDim S72 32 0
  let main_c : IVec S_ 32 := constantI S_ 32 128#32
  let main_v14 : IVec S72 32 := broadcastInDim S72 ![] bcast_S_S72 main_c
  let main_v15 : IVec S72 32 := muli main_v13 main_v14
  let main_v16 : IVec S2048x3x1 32 := broadcastInDim S2048x3x1 ![0, 1] bcast_S2048x3_S2048x3x1_0_1 main_arg1
  let main_v17 : IVec S1x1x72 32 := broadcastInDim S1x1x72 ![2] bcast_S72_S1x1x72_2 main_v15
  let main_v18 : IVec S2048x3x72 32 := broadcastInDim S2048x3x72 ![0, 1, 2] bcast_S2048x3x1_S2048x3x72_0_1_2 main_v16
  let main_v19 : IVec S2048x3x72 32 := broadcastInDim S2048x3x72 ![0, 1, 2] bcast_S1x1x72_S2048x3x72_0_1_2 main_v17
  let main_v20 : IVec S2048x3x72 1 := cmpi .sge main_v18 main_v19
  let main_v21 : IVec S2048x3x1 32 := broadcastInDim S2048x3x1 ![0, 1] bcast_S2048x3_S2048x3x1_0_1 main_arg1
  let main_c_0 : IVec S_ 32 := constantI S_ 32 128#32
  fn_part1 (F := F) main_arg1 main_arg2 main_arg12 main_v12 main_v15 main_v20 main_v21 main_c_0
-- ==== Kernel.lean ====
abbrev S2048x768 : Shape := ⟨2, ![2048, 768]⟩
abbrev S2048x3 : Shape := ⟨2, ![2048, 3]⟩
abbrev S1x72 : Shape := ⟨2, ![1, 72]⟩
abbrev S23x384x768 : Shape := ⟨3, ![23, 384, 768]⟩
abbrev S23x384 : Shape := ⟨2, ![23, 384]⟩
abbrev S23x768x384 : Shape := ⟨3, ![23, 768, 384]⟩
abbrev S23x768 : Shape := ⟨2, ![23, 768]⟩
abbrev S384x768 : Shape := ⟨2, ![384, 768]⟩
abbrev S384 : Shape := ⟨1, ![384]⟩
abbrev S768x384 : Shape := ⟨2, ![768, 384]⟩
abbrev S768 : Shape := ⟨1, ![768]⟩
abbrev S72 : Shape := ⟨1, ![72]⟩
abbrev S2048x1 : Shape := ⟨2, ![2048, 1]⟩
abbrev S2048 : Shape := ⟨1, ![2048]⟩
abbrev S9216x768 : Shape := ⟨2, ![9216, 768]⟩
abbrev S64x768 : Shape := ⟨2, ![64, 768]⟩
abbrev S64 : Shape := ⟨1, ![64]⟩
abbrev S3x6 : Shape := ⟨2, ![3, 6]⟩
abbrev S_ : Shape := ⟨0, ![]⟩
abbrev S64x128 : Shape := ⟨2, ![64, 128]⟩
abbrev S9216x128 : Shape := ⟨2, ![9216, 128]⟩
abbrev S1x1 : Shape := ⟨2, ![1, 1]⟩
abbrev S23x1x384 : Shape := ⟨3, ![23, 1, 384]⟩
abbrev S23x1x768 : Shape := ⟨3, ![23, 1, 768]⟩
abbrev S128x768 : Shape := ⟨2, ![128, 768]⟩
abbrev S1x384x768 : Shape := ⟨3, ![1, 384, 768]⟩
abbrev S1 : Shape := ⟨1, ![1]⟩
abbrev S1x1x384 : Shape := ⟨3, ![1, 1, 384]⟩
abbrev S1x768x384 : Shape := ⟨3, ![1, 768, 384]⟩
abbrev S1x1x768 : Shape := ⟨3, ![1, 1, 768]⟩
abbrev S128x384 : Shape := ⟨2, ![128, 384]⟩
abbrev S1x384 : Shape := ⟨2, ![1, 384]⟩
abbrev S1x768 : Shape := ⟨2, ![1, 768]⟩
abbrev S6144 : Shape := ⟨1, ![6144]⟩
abbrev S6144x768 : Shape := ⟨2, ![6144, 768]⟩
abbrev S2x6 : Shape := ⟨2, ![2, 6]⟩
abbrev S2048x2304 : Shape := ⟨2, ![2048, 2304]⟩
abbrev S512x768 : Shape := ⟨2, ![512, 768]⟩
abbrev S512x2304 : Shape := ⟨2, ![512, 2304]⟩
abbrev S512x3 : Shape := ⟨2, ![512, 3]⟩
abbrev S512x384 : Shape := ⟨2, ![512, 384]⟩
abbrev S512x1 : Shape := ⟨2, ![512, 1]⟩

abbrev nBuf : Table → Nat
  | .hbm => 29
  | .local .tc .vmem => 24
  | .local .tc .smem => 1
  | .local .scVector .vmem => 8
  | _ => 0

abbrev bufTy : (tb : Table) → Fin (nBuf tb) → BufTy
  | .hbm, ⟨0, _⟩ => ⟨S2048x768, .f32⟩
  | .hbm, ⟨1, _⟩ => ⟨S2048x3, .i32⟩
  | .hbm, ⟨2, _⟩ => ⟨S1x72, .i32⟩
  | .hbm, ⟨3, _⟩ => ⟨S2048x3, .f32⟩
  | .hbm, ⟨4, _⟩ => ⟨S23x384x768, .f32⟩
  | .hbm, ⟨5, _⟩ => ⟨S23x384, .f32⟩
  | .hbm, ⟨6, _⟩ => ⟨S23x768x384, .f32⟩
  | .hbm, ⟨7, _⟩ => ⟨S23x768, .f32⟩
  | .hbm, ⟨8, _⟩ => ⟨S384x768, .f32⟩
  | .hbm, ⟨9, _⟩ => ⟨S384, .f32⟩
  | .hbm, ⟨10, _⟩ => ⟨S768x384, .f32⟩
  | .hbm, ⟨11, _⟩ => ⟨S768, .f32⟩
  | .hbm, ⟨12, _⟩ => ⟨S2048x3, .i32⟩
  | .hbm, ⟨13, _⟩ => ⟨S2048x1, .i32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S9216x768, .f32⟩
  | .hbm, ⟨20, _⟩ => ⟨S23x1x384, .f32⟩
  | .hbm, ⟨21, _⟩ => ⟨S23x1x768, .f32⟩
  | .hbm, ⟨22, _⟩ => ⟨S9216x768, .f32⟩
  | .hbm, ⟨23, _⟩ => ⟨S6144, .i32⟩
  | .hbm, ⟨24, _⟩ => ⟨S6144x768, .f32⟩
  | .hbm, ⟨25, _⟩ => ⟨S2048x2304, .f32⟩
  | .hbm, ⟨26, _⟩ => ⟨S1x384, .f32⟩
  | .hbm, ⟨27, _⟩ => ⟨S1x768, .f32⟩
  | .hbm, ⟨28, _⟩ => ⟨S2048x768, .f32⟩
  | .local .tc .vmem, ⟨0, _⟩ => ⟨S128x768, .f32⟩
  | .local .tc .vmem, ⟨1, _⟩ => ⟨S128x768, .f32⟩
  | .local .tc .vmem, ⟨2, _⟩ => ⟨S1x384x768, .f32⟩
  | .local .tc .vmem, ⟨3, _⟩ => ⟨S1x384x768, .f32⟩
  | .local .tc .vmem, ⟨4, _⟩ => ⟨S1x1x384, .f32⟩
  | .local .tc .vmem, ⟨5, _⟩ => ⟨S1x1x384, .f32⟩
  | .local .tc .vmem, ⟨6, _⟩ => ⟨S1x768x384, .f32⟩
  | .local .tc .vmem, ⟨7, _⟩ => ⟨S1x768x384, .f32⟩
  | .local .tc .vmem, ⟨8, _⟩ => ⟨S1x1x768, .f32⟩
  | .local .tc .vmem, ⟨9, _⟩ => ⟨S1x1x768, .f32⟩
  | .local .tc .vmem, ⟨10, _⟩ => ⟨S128x768, .f32⟩
  | .local .tc .vmem, ⟨11, _⟩ => ⟨S128x768, .f32⟩
  | .local .tc .vmem, ⟨12, _⟩ => ⟨S512x768, .f32⟩
  | .local .tc .vmem, ⟨13, _⟩ => ⟨S512x768, .f32⟩
  | .local .tc .vmem, ⟨14, _⟩ => ⟨S512x2304, .f32⟩
  | .local .tc .vmem, ⟨15, _⟩ => ⟨S512x2304, .f32⟩
  | .local .tc .vmem, ⟨16, _⟩ => ⟨S512x3, .f32⟩
  | .local .tc .vmem, ⟨17, _⟩ => ⟨S512x3, .f32⟩
  | .local .tc .vmem, ⟨18, _⟩ => ⟨S384x768, .f32⟩
  | .local .tc .vmem, ⟨19, _⟩ => ⟨S1x384, .f32⟩
  | .local .tc .vmem, ⟨20, _⟩ => ⟨S768x384, .f32⟩
  | .local .tc .vmem, ⟨21, _⟩ => ⟨S1x768, .f32⟩
  | .local .tc .vmem, ⟨22, _⟩ => ⟨S512x768, .f32⟩
  | .local .tc .vmem, ⟨23, _⟩ => ⟨S512x768, .f32⟩
  | .local .tc .smem, ⟨0, _⟩ => ⟨S72, .i32⟩
  | .local .scVector .vmem, ⟨0, _⟩ => ⟨S64x768, .f32⟩
  | .local .scVector .vmem, ⟨1, _⟩ => ⟨S64, .i32⟩
  | .local .scVector .vmem, ⟨2, _⟩ => ⟨S64, .i32⟩
  | .local .scVector .vmem, ⟨3, _⟩ => ⟨S64, .i32⟩
  | .local .scVector .vmem, ⟨4, _⟩ => ⟨S64x768, .f32⟩
  | .local .scVector .vmem, ⟨5, _⟩ => ⟨S64x768, .f32⟩
  | .local .scVector .vmem, ⟨6, _⟩ => ⟨S64, .i32⟩
  | .local .scVector .vmem, ⟨7, _⟩ => ⟨S64, .i32⟩
  | _, _ => ⟨S2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 64 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTables nBuf rfl bufTy 4 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v0 : Ref sig .tc := ⟨.smem, 0, rfl⟩
abbrev main_arg0_scv : Ref sig .scVector := ⟨.hbm, 0, rfl⟩
abbrev main_v2_scv : Ref sig .scVector := ⟨.hbm, 14, rfl⟩
abbrev main_v4_scv : Ref sig .scVector := ⟨.hbm, 16, rfl⟩
abbrev main_v6_scv : Ref sig .scVector := ⟨.hbm, 18, rfl⟩
abbrev main_v7_scv : Ref sig .scVector := ⟨.hbm, 19, rfl⟩
abbrev main_v10_scv : Ref sig .scVector := ⟨.hbm, 22, rfl⟩
abbrev main_v11_scv : Ref sig .scVector := ⟨.hbm, 23, rfl⟩
abbrev main_v12_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc3_stg7_1 : Ref sig .tc := ⟨.vmem, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem2_1 : DmaSem sig := 57
abbrev cc3_sem3_0 : DmaSem sig := 58
abbrev cc3_sem4_0 : DmaSem sig := 59
abbrev cc3_sem5_0 : DmaSem sig := 60
abbrev cc3_sem6_0 : DmaSem sig := 61
abbrev cc3_sem7_0 : DmaSem sig := 62
abbrev cc3_sem7_1 : DmaSem sig := 63
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_278_r0 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev grid1 : Pipeline.Grid := ⟨1, ![72], ![false]⟩

abbrev pre1 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S72.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S72) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S72.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S72) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S72.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S72) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S72.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S72) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x384x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x768x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  ![v2.toNat]
def k2_off2 (i : grid2.Coords) (c64_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v33 : BitVec 32 := Scalar.addi v2 c64_i32
  ![v33.toNat]
def k2_off3 (i : grid2.Coords) (c0_i32_134 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v94 : BitVec 32 := Scalar.addi v2 c0_i32_134
  let c0_i32_282_r2 : BitVec 32 := 0#32
  ![v94.toNat, 0]
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x2304 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S384x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S768x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x768 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S512x768 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x768 : Shape := ⟨2, ![2048, 768]⟩
abbrev S2048x3 : Shape := ⟨2, ![2048, 3]⟩
abbrev S1x72 : Shape := ⟨2, ![1, 72]⟩
abbrev S23x384x768 : Shape := ⟨3, ![23, 384, 768]⟩
abbrev S23x384 : Shape := ⟨2, ![23, 384]⟩
abbrev S23x768x384 : Shape := ⟨3, ![23, 768, 384]⟩
abbrev S23x768 : Shape := ⟨2, ![23, 768]⟩
abbrev S384x768 : Shape := ⟨2, ![384, 768]⟩
abbrev S384 : Shape := ⟨1, ![384]⟩
abbrev S768x384 : Shape := ⟨2, ![768, 384]⟩
abbrev S768 : Shape := ⟨1, ![768]⟩
abbrev S2048x3x1 : Shape := ⟨3, ![2048, 3, 1]⟩
abbrev S1x1x23 : Shape := ⟨3, ![1, 1, 23]⟩
abbrev S2048x3x23 : Shape := ⟨3, ![2048, 3, 23]⟩
abbrev S_ : Shape := ⟨0, ![]⟩
abbrev S2048x23 : Shape := ⟨2, ![2048, 23]⟩
abbrev S2048x23x384 : Shape := ⟨3, ![2048, 23, 384]⟩
abbrev S1x23x384 : Shape := ⟨3, ![1, 23, 384]⟩
abbrev S23x768x2048 : Shape := ⟨3, ![23, 768, 2048]⟩
abbrev S2048x23x768 : Shape := ⟨3, ![2048, 23, 768]⟩
abbrev S1x23x768 : Shape := ⟨3, ![1, 23, 768]⟩
abbrev S2048x23x1 : Shape := ⟨3, ![2048, 23, 1]⟩
abbrev S2048x384 : Shape := ⟨2, ![2048, 384]⟩
abbrev S1x384 : Shape := ⟨2, ![1, 384]⟩
abbrev S1x768 : Shape := ⟨2, ![1, 768]⟩

abbrev nBuf : Space → Nat
  | .hbm => 71
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x3, .i32⟩
  | .hbm, ⟨2, _⟩ => ⟨S1x72, .i32⟩
  | .hbm, ⟨3, _⟩ => ⟨S2048x3, .f32⟩
  | .hbm, ⟨4, _⟩ => ⟨S23x384x768, .f32⟩
  | .hbm, ⟨5, _⟩ => ⟨S23x384, .f32⟩
  | .hbm, ⟨6, _⟩ => ⟨S23x768x384, .f32⟩
  | .hbm, ⟨7, _⟩ => ⟨S23x768, .f32⟩
  | .hbm, ⟨8, _⟩ => ⟨S384x768, .f32⟩
  | .hbm, ⟨9, _⟩ => ⟨S384, .f32⟩
  | .hbm, ⟨10, _⟩ => ⟨S768x384, .f32⟩
  | .hbm, ⟨11, _⟩ => ⟨S768, .f32⟩
  | .hbm, ⟨12, _⟩ => ⟨S2048x3, .i32⟩
  | .hbm, ⟨13, _⟩ => ⟨S2048x3x1, .i32⟩
  | .hbm, ⟨14, _⟩ => ⟨S1x1x23, .i32⟩
  | .hbm, ⟨15, _⟩ => ⟨S2048x3x23, .i32⟩
  | .hbm, ⟨16, _⟩ => ⟨S2048x3x23, .i32⟩
  | .hbm, ⟨17, _⟩ => ⟨S2048x3x23, .i1⟩
  | .hbm, ⟨18, _⟩ => ⟨S2048x3x23, .f32⟩
  | .hbm, ⟨19, _⟩ => ⟨S2048x3x1, .f32⟩
  | .hbm, ⟨20, _⟩ => ⟨S2048x3x23, .f32⟩
  | .hbm, ⟨21, _⟩ => ⟨S2048x3x23, .f32⟩
  | .hbm, ⟨22, _⟩ => ⟨S_, .f32⟩
  | .hbm, ⟨23, _⟩ => ⟨S2048x23, .f32⟩
  | .hbm, ⟨24, _⟩ => ⟨S2048x23x384, .f32⟩
  | .hbm, ⟨25, _⟩ => ⟨S1x23x384, .f32⟩
  | .hbm, ⟨26, _⟩ => ⟨S2048x23x384, .f32⟩
  | .hbm, ⟨27, _⟩ => ⟨S2048x23x384, .f32⟩
  | .hbm, ⟨28, _⟩ => ⟨S_, .f32⟩
  | .hbm, ⟨29, _⟩ => ⟨S2048x23x384, .f32⟩
  | .hbm, ⟨30, _⟩ => ⟨S2048x23x384, .f32⟩
  | .hbm, ⟨31, _⟩ => ⟨S_, .f32⟩
  | .hbm, ⟨32, _⟩ => ⟨S2048x23x384, .f32⟩
  | .hbm, ⟨33, _⟩ => ⟨S2048x23x384, .f32⟩
  | .hbm, ⟨34, _⟩ => ⟨S2048x23x384, .f32⟩
  | .hbm, ⟨35, _⟩ => ⟨S_, .f32⟩
  | .hbm, ⟨36, _⟩ => ⟨S2048x23x384, .f32⟩
  | .hbm, ⟨37, _⟩ => ⟨S2048x23x384, .f32⟩
  | .hbm, ⟨38, _⟩ => ⟨S2048x23x384, .f32⟩
  | .hbm, ⟨39, _⟩ => ⟨S23x768x2048, .f32⟩
  | .hbm, ⟨40, _⟩ => ⟨S2048x23x768, .f32⟩
  | .hbm, ⟨41, _⟩ => ⟨S1x23x768, .f32⟩
  | .hbm, ⟨42, _⟩ => ⟨S2048x23x768, .f32⟩
  | .hbm, ⟨43, _⟩ => ⟨S2048x23x768, .f32⟩
  | .hbm, ⟨44, _⟩ => ⟨S2048x23x1, .f32⟩
  | .hbm, ⟨45, _⟩ => ⟨S2048x23x768, .f32⟩
  | .hbm, ⟨46, _⟩ => ⟨S2048x23x768, .f32⟩
  | .hbm, ⟨47, _⟩ => ⟨S_, .f32⟩
  | .hbm, ⟨48, _⟩ => ⟨S2048x768, .f32⟩
  | .hbm, ⟨49, _⟩ => ⟨S768x384, .f32⟩
  | .hbm, ⟨50, _⟩ => ⟨S2048x384, .f32⟩
  | .hbm, ⟨51, _⟩ => ⟨S1x384, .f32⟩
  | .hbm, ⟨52, _⟩ => ⟨S2048x384, .f32⟩
  | .hbm, ⟨53, _⟩ => ⟨S2048x384, .f32⟩
  | .hbm, ⟨54, _⟩ => ⟨S_, .f32⟩
  | .hbm, ⟨55, _⟩ => ⟨S2048x384, .f32⟩
  | .hbm, ⟨56, _⟩ => ⟨S2048x384, .f32⟩
  | .hbm, ⟨57, _⟩ => ⟨S_, .f32⟩
  | .hbm, ⟨58, _⟩ => ⟨S2048x384, .f32⟩
  | .hbm, ⟨59, _⟩ => ⟨S2048x384, .f32⟩
  | .hbm, ⟨60, _⟩ => ⟨S2048x384, .f32⟩
  | .hbm, ⟨61, _⟩ => ⟨S_, .f32⟩
  | .hbm, ⟨62, _⟩ => ⟨S2048x384, .f32⟩
  | .hbm, ⟨63, _⟩ => ⟨S2048x384, .f32⟩
  | .hbm, ⟨64, _⟩ => ⟨S2048x384, .f32⟩
  | .hbm, ⟨65, _⟩ => ⟨S384x768, .f32⟩
  | .hbm, ⟨66, _⟩ => ⟨S2048x768, .f32⟩
  | .hbm, ⟨67, _⟩ => ⟨S1x768, .f32⟩
  | .hbm, ⟨68, _⟩ => ⟨S2048x768, .f32⟩
  | .hbm, ⟨69, _⟩ => ⟨S2048x768, .f32⟩
  | .hbm, ⟨70, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Gate.lean ====
abbrev S2048x768 : Shape := ⟨2, ![2048, 768]⟩
abbrev S23x768 : Shape := ⟨2, ![23, 768]⟩
abbrev S23 : Shape := ⟨1, ![23]⟩
abbrev S1x23 : Shape := ⟨2, ![1, 23]⟩
abbrev S2048x3 : Shape := ⟨2, ![2048, 3]⟩
abbrev S1x72 : Shape := ⟨2, ![1, 72]⟩
abbrev S1x1 : Shape := ⟨2, ![1, 1]⟩
abbrev S2048x23 : Shape := ⟨2, ![2048, 23]⟩
abbrev S2048 : Shape := ⟨1, ![2048]⟩
abbrev S2048x1 : Shape := ⟨2, ![2048, 1]⟩
abbrev S256x256 : Shape := ⟨2, ![256, 256]⟩
abbrev S256x23 : Shape := ⟨2, ![256, 23]⟩
abbrev S23x23 : Shape := ⟨2, ![23, 23]⟩
abbrev S23x72 : Shape := ⟨2, ![23, 72]⟩
abbrev S23x1 : Shape := ⟨2, ![23, 1]⟩
abbrev S72 : Shape := ⟨1, ![72]⟩
abbrev S1x1x23 : Shape := ⟨3, ![1, 1, 23]⟩
abbrev S1 : Shape := ⟨1, ![1]⟩
abbrev S1x1x1 : Shape := ⟨3, ![1, 1, 1]⟩

abbrev nBuf : Space → Nat
  | .hbm => 11
  | .vmem => 9
  | .smem => 0
  | _ => 0

abbrev bufTy : (tb : Table) → Fin (tcTables nBuf tb) → BufTy
  | .hbm, ⟨0, _⟩ => ⟨S2048x768, .f32⟩
  | .hbm, ⟨1, _⟩ => ⟨S23x768, .f32⟩
  | .hbm, ⟨2, _⟩ => ⟨S23, .f32⟩
  | .hbm, ⟨3, _⟩ => ⟨S23, .f32⟩
  | .hbm, ⟨4, _⟩ => ⟨S1x23, .f32⟩
  | .hbm, ⟨5, _⟩ => ⟨S1x23, .f32⟩
  | .hbm, ⟨6, _⟩ => ⟨S2048x3, .f32⟩
  | .hbm, ⟨7, _⟩ => ⟨S2048x3, .i32⟩
  | .hbm, ⟨8, _⟩ => ⟨S1x72, .i32⟩
  | .hbm, ⟨9, _⟩ => ⟨S1x1, .f32⟩
  | .hbm, ⟨10, _⟩ => ⟨S2048x768, .f32⟩
  | .local _ .vmem, ⟨0, _⟩ => ⟨S2048x768, .f32⟩
  | .local _ .vmem, ⟨1, _⟩ => ⟨S23x768, .f32⟩
  | .local _ .vmem, ⟨2, _⟩ => ⟨S1x23, .f32⟩
  | .local _ .vmem, ⟨3, _⟩ => ⟨S1x23, .f32⟩
  | .local _ .vmem, ⟨4, _⟩ => ⟨S2048x3, .f32⟩
  | .local _ .vmem, ⟨5, _⟩ => ⟨S2048x3, .i32⟩
  | .local _ .vmem, ⟨6, _⟩ => ⟨S1x72, .i32⟩
  | .local _ .vmem, ⟨7, _⟩ => ⟨S1x1, .f32⟩
  | .local _ .vmem, ⟨8, _⟩ => ⟨S2048x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S23x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x23 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x23 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x3 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x72 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== GateReferenceIdeal.lean ====
abbrev S2048x768 : Shape := ⟨2, ![2048, 768]⟩
abbrev S23x768 : Shape := ⟨2, ![23, 768]⟩
abbrev S23 : Shape := ⟨1, ![23]⟩
abbrev S768x23 : Shape := ⟨2, ![768, 23]⟩
abbrev S2048x23 : Shape := ⟨2, ![2048, 23]⟩
abbrev S1x23 : Shape := ⟨2, ![1, 23]⟩
abbrev S_ : Shape := ⟨0, ![]⟩
abbrev S2048x3 : Shape := ⟨2, ![2048, 3]⟩
abbrev S2048x3x1 : Shape := ⟨3, ![2048, 3, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S6144 : Shape := ⟨1, ![6144]⟩
abbrev S6144x1 : Shape := ⟨2, ![6144, 1]⟩
abbrev S1x1 : Shape := ⟨2, ![1, 1]⟩
abbrev S1x1x23 : Shape := ⟨3, ![1, 1, 23]⟩
abbrev S2048x3x23 : Shape := ⟨3, ![2048, 3, 23]⟩
abbrev S1x2048 : Shape := ⟨2, ![1, 2048]⟩
abbrev S2048x2048 : Shape := ⟨2, ![2048, 2048]⟩
abbrev S23x1 : Shape := ⟨2, ![23, 1]⟩
abbrev S23x23 : Shape := ⟨2, ![23, 23]⟩
abbrev S2048x1x23 : Shape := ⟨3, ![2048, 1, 23]⟩
abbrev S72 : Shape := ⟨1, ![72]⟩
abbrev S1x72 : Shape := ⟨2, ![1, 72]⟩
abbrev S23x72 : Shape := ⟨2, ![23, 72]⟩

abbrev nBuf : Space → Nat
  | .hbm => 147
  | .vmem => 0
  | .smem => 0
  | _ => 0

abbrev hbmTy0_0 (i : Nat) : BufTy := match i % 128 with
  | 0 => ⟨S2048x768, .f32⟩
  | 1 => ⟨S23x768, .f32⟩
  | 2 => ⟨S23, .f32⟩
  | 3 => ⟨S23, .f32⟩
  | 4 => ⟨S768x23, .f32⟩
  | 5 => ⟨S2048x23, .f32⟩
  | 6 => ⟨S1x23, .f32⟩
  | 7 => ⟨S2048x23, .f32⟩
  | 8 => ⟨S2048x23, .f32⟩
  | 9 => ⟨S2048x23, .f32⟩
  | 10 => ⟨S2048x23, .f32⟩
  | 11 => ⟨S_, .f32⟩
  | 12 => ⟨S2048x23, .f32⟩
  | 13 => ⟨S2048x23, .f32⟩
  | 14 => ⟨S_, .f32⟩
  | 15 => ⟨S2048x23, .f32⟩
  | 16 => ⟨S2048x23, .f32⟩
  | 17 => ⟨S1x23, .f32⟩
  | 18 => ⟨S2048x23, .f32⟩
  | 19 => ⟨S2048x23, .f32⟩
  | 20 => ⟨S2048x3, .f32⟩
  | 21 => ⟨S2048x3, .i32⟩
  | 22 => ⟨S_, .i32⟩
  | 23 => ⟨S2048x3, .i32⟩
  | 24 => ⟨S2048x3, .i1⟩
  | 25 => ⟨S_, .i32⟩
  | 26 => ⟨S2048x3, .i32⟩
  | 27 => ⟨S2048x3, .i32⟩
  | 28 => ⟨S2048x3, .i32⟩
  | 29 => ⟨S2048x3x1, .i32⟩
  | 30 => ⟨S1, .i32⟩
  | 31 => ⟨S_, .i32⟩
  | 32 => ⟨S2048x3x1, .i32⟩
  | 33 => ⟨S2048x3x1, .i1⟩
  | 34 => ⟨S1x1x1, .i32⟩
  | 35 => ⟨S2048x3x1, .i32⟩
  | 36 => ⟨S2048x3x1, .i1⟩
  | 37 => ⟨S2048x3x1, .i1⟩
  | 38 => ⟨S_, .i1⟩
  | 39 => ⟨S2048x3, .i1⟩
  | 40 => ⟨S2048x3, .f32⟩
  | 41 => ⟨S_, .f32⟩
  | 42 => ⟨S2048x3, .f32⟩
  | 43 => ⟨S2048x3, .f32⟩
  | 44 => ⟨S_, .f32⟩
  | 45 => ⟨S2048, .f32⟩
  | 46 => ⟨S2048x1, .f32⟩
  | 47 => ⟨S2048x3, .f32⟩
  | 48 => ⟨S2048x3, .f32⟩
  | 49 => ⟨S_, .f32⟩
  | 50 => ⟨S2048, .f32⟩
  | 51 => ⟨S2048x1, .f32⟩
  | 52 => ⟨S2048x23, .f32⟩
  | 53 => ⟨S2048x23, .f32⟩
  | 54 => ⟨S_, .f32⟩
  | 55 => ⟨S23, .f32⟩
  | 56 => ⟨S_, .f32⟩
  | 57 => ⟨S23, .f32⟩
  | 58 => ⟨S23, .f32⟩
  | 59 => ⟨S6144, .i32⟩
  | 60 => ⟨S_, .i32⟩
  | 61 => ⟨S23, .i32⟩
  | 62 => ⟨S_, .i32⟩
  | 63 => ⟨S_, .i32⟩
  | 64 => ⟨S6144, .i32⟩
  | 65 => ⟨S6144, .i32⟩
  | 66 => ⟨S_, .i32⟩
  | 67 => ⟨S6144, .i32⟩
  | 68 => ⟨S6144, .i1⟩
  | 69 => ⟨S_, .i32⟩
  | 70 => ⟨S6144, .i32⟩
  | 71 => ⟨S6144, .i32⟩
  | 72 => ⟨S6144, .i32⟩
  | 73 => ⟨S6144x1, .i32⟩
  | 74 => ⟨S_, .i32⟩
  | 75 => ⟨S6144, .i32⟩
  | 76 => ⟨S23, .i32⟩
  | 77 => ⟨S23, .f32⟩
  | 78 => ⟨S_, .f32⟩
  | 79 => ⟨S23, .f32⟩
  | 80 => ⟨S23, .f32⟩
  | 81 => ⟨S_, .f32⟩
  | 82 => ⟨S23, .f32⟩
  | 83 => ⟨S23, .f32⟩
  | 84 => ⟨S23, .f32⟩
  | 85 => ⟨S_, .f32⟩
  | 86 => ⟨S_, .f32⟩
  | 87 => ⟨S1x1, .f32⟩
  | 88 => ⟨S2048x3x1, .i32⟩
  | 89 => ⟨S1x1x23, .i32⟩
  | 90 => ⟨S2048x3x23, .i32⟩
  | 91 => ⟨S2048x3x23, .i32⟩
  | 92 => ⟨S2048x3x23, .i1⟩
  | 93 => ⟨S2048x3x23, .f32⟩
  | 94 => ⟨S_, .f32⟩
  | 95 => ⟨S2048x23, .f32⟩
  | 96 => ⟨S2048, .i32⟩
  | 97 => ⟨S2048x1, .i32⟩
  | 98 => ⟨S2048, .i32⟩
  | 99 => ⟨S1x2048, .i32⟩
  | 100 => ⟨S2048x2048, .i32⟩
  | 101 => ⟨S2048x2048, .i32⟩
  | 102 => ⟨S2048x2048, .i1⟩
  | 103 => ⟨S2048x2048, .f32⟩
  | 104 => ⟨S2048x23, .f32⟩
  | 105 => ⟨S_, .f32⟩
  | 106 => ⟨S23, .f32⟩
  | 107 => ⟨S_, .f32⟩
  | 108 => ⟨S23, .f32⟩
  | 109 => ⟨S23, .f32⟩
  | 110 => ⟨S23, .f32⟩
  | 111 => ⟨S23, .i32⟩
  | 112 => ⟨S23x1, .i32⟩
  | 113 => ⟨S23, .i32⟩
  | 114 => ⟨S1x23, .i32⟩
  | 115 => ⟨S23x23, .i32⟩
  | 116 => ⟨S23x23, .i32⟩
  | 117 => ⟨S23x23, .i1⟩
  | 118 => ⟨S23x23, .f32⟩
  | 119 => ⟨S23, .f32⟩
  | 120 => ⟨S_, .f32⟩
  | 121 => ⟨S23, .f32⟩
  | 122 => ⟨S23, .f32⟩
  | 123 => ⟨S1x23, .f32⟩
  | 124 => ⟨S2048x23, .f32⟩
  | 125 => ⟨S2048x23, .f32⟩
  | 126 => ⟨S2048x1x23, .f32⟩
  | 127 => ⟨S2048x3x23, .f32⟩
  | _ => ⟨S2048x768, .f32⟩

abbrev hbmTy0_1 (i : Nat) : BufTy := match i % 128 with
  | 0 => ⟨S2048x3x23, .f32⟩
  | 1 => ⟨S_, .f32⟩
  | 2 => ⟨S2048x3, .f32⟩
  | 3 => ⟨S2048x3, .i32⟩
  | 4 => ⟨S23x1, .f32⟩
  | 5 => ⟨S72, .i32⟩
  | 6 => ⟨S72, .f32⟩
  | 7 => ⟨S1x72, .f32⟩
  | 8 => ⟨S23x72, .f32⟩
  | 9 => ⟨S23x72, .f32⟩
  | 10 => ⟨S23x72, .i1⟩
  | 11 => ⟨S23x72, .f32⟩
  | 12 => ⟨S_, .f32⟩
  | 13 => ⟨S72, .f32⟩
  | 14 => ⟨S_, .f32⟩
  | 15 => ⟨S72, .f32⟩
  | 16 => ⟨S72, .f32⟩
  | 17 => ⟨S72, .i32⟩
  | 18 => ⟨S1x72, .i32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c : Ref sig .tc := ⟨.hbm, 60, rfl⟩
abbrev main_v27 : Ref sig .tc := ⟨.hbm, 61, rfl⟩
abbrev main_c_5 : Ref sig .tc := ⟨.hbm, 62, rfl⟩
abbrev main_call1_v0 : Ref sig .tc := ⟨.hbm, 63, rfl⟩
abbrev main_call1_v1 : Ref sig .tc := ⟨.hbm, 64, rfl⟩
abbrev main_v28 : Ref sig .tc := ⟨.hbm, 65, rfl⟩
abbrev main_c_6 : Ref sig .tc := ⟨.hbm, 66, rfl⟩
abbrev main_v29 : Ref sig .tc := ⟨.hbm, 67, rfl⟩
abbrev main_v30 : Ref sig .tc := ⟨.hbm, 68, rfl⟩
abbrev main_c_7 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_9 : Ref sig .tc := ⟨.hbm, 78, rfl⟩
abbrev main_v38 : Ref sig .tc := ⟨.hbm, 79, rfl⟩
abbrev main_v39 : Ref sig .tc := ⟨.hbm, 80, rfl⟩
abbrev main_cst_10 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_11 : Ref sig .tc := ⟨.hbm, 85, rfl⟩
abbrev main_v43 : Ref sig .tc := ⟨.hbm, 86, rfl⟩
abbrev main_v44 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v45 : Ref sig .tc := ⟨.hbm, 93, rfl⟩
abbrev main_cst_12 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_13 : Ref sig .tc := ⟨.hbm, 105, rfl⟩
abbrev main_v56 : Ref sig .tc := ⟨.hbm, 106, rfl⟩
abbrev main_cst_14 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_15 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_16 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_17 : Ref sig .tc := ⟨.hbm, 140, rfl⟩
abbrev main_v87 : Ref sig .tc := ⟨.hbm, 141, rfl⟩
abbrev main_cst_18 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩

abbrev nD : Nat := 1
abbrev τ : Topo := Topo.v7x

variable {F : FTy → Type} [FloatOps F]
-- ==== Proof.Moe.Base.lean ====
/-
  The program as the launch theorem sees it, the resource algebra of the run, shares of a buffer read by many, and the
  step rules of a tile: one column piece of an indirect gather, its wait, a plain copy with its wait.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_0 : (K (F := F)).nSub 0 = 16 := rfl
theorem nSub_1 : (K (F := F)).nSub 1 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-- Where the pipelines' rounds sit. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EP_landsIn : (EP : Emb UP 𝕄).LandsIn (upEmb : UEmb _ 𝕄) := by unfold EP; infer_instance

/-! ## Steps of a tile -/

section Steps

variable {d : Dev nD} {c : Fin τ.nSC} {j : Fin τ.nSub}

/-- A plain copy issued and waited for, on its own semaphore. -/
theorem wp_copy {sp sp' : Space} {s : Shape} {e : EltTy} {src : Memref sig .scVector sp s e} {dst : Memref sig .scVector sp' s e} {sem : DmaSem sig}
    {hsrc : src.view.WordExact} {hdst : dst.view.WordExact} {hsem : DmaTarget.Typed (nD := nD) (τ := τ) (p := (V d c j : Thread nD τ).2) sp (.dma sem) (.here dst)}
    {Q : PUnit → sProp 𝕄} {q : PosShare TreeShare} {fs : Buf (Elt F) (src.view.loc (V d c j))} {fd : Buf (Elt F) (dst.view.loc (V d c j))}
    {O : CellTallies nD τ sig (HIx 2)} {W : Waits sig (HIx 2)} (hN0 : 0 < dst.view.dmaCredit) :
    iprop((src.view.loc (V d c j) ↦[src.view.set]{q} fs) ∗ (dst.view.loc (V d c j) ↦[dst.view.set]{fullShare} fd) ∗ semVal (V d c j, SemLoc.dma sem) 0
        ∗ owes (V d c j) O W ∗ Transfers.MayWaits (V d c j) (default : HIx 2) O)
      ⊢ iprop((iprop((dst.view.loc (V d c j) ↦[dst.view.set]{fullShare} (dst.view.write (Elt F) fd (src.view.read (Elt F) fs) Finset.univ))
                ∗ (src.view.loc (V d c j) ↦[src.view.set]{q} fs) ∗ semVal (V d c j, SemLoc.dma sem) 0
                ∗ owes (V d c j) O (insert (SemLoc.dma sem, default) W)) -∗ Q ⟨⟩)
          -∗ wp frame (wpE (defs₀ (F := F)) 𝒱₀ (V d c j) none) Set.univ (Prog.lift (.enqueueDma src (.here dst) (.dma sem) hsrc hdst hsem))
            fun _ => wp frame (wpE (defs₀ (F := F)) 𝒱₀ (V d c j) none) Set.univ (Prog.lift (.waitDma2 sem src dst hsrc hdst)) Q) := by
  unfold Prog.lift
  iintro ⟨Hs, Hd, Hv, HO, #Hmw⟩ Hk
  iapply (Transfers.wp_dmaLocal countersEmb 𝒱₀ (V d c j) none (default : HIx 2) dst.view.dmaCredit rfl hN0 subset_rfl) $$ [Hs Hd Hv]
  · isplitl [Hs]; · iexact Hs
    isplitl [Hd] <;> iassumption
  iintro Hfl
  rw [wp_ret]; imodintro
  iapply (Transfers.wp_waitLocalO countersEmb 𝒱₀ (V d c j) none (default : HIx 2) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  rw [wp_ret]; imodintro
  iapply Hk
  isplitl [Hd]; · iexact Hd
  isplitl [Hs]; · iexact Hs
  isplitl [Hv] <;> iassumption

/-- A wait for a transfer in flight. -/
theorem wp_wait {sp sp' : Space} {s s' : Shape} {e e' : EltTy} {κ' : Kind} {src : Memref sig .scVector sp' s' e'} {dst : Memref sig κ' sp s e} {sem : DmaSem sig}
    {hsrc : src.view.WordExact} {hdst : dst.view.WordExact} {Q : PUnit → sProp 𝕄} {N : ℕ} (hN : dst.view.dmaCredit = N) {R : sProp 𝕄}
    {O : CellTallies nD τ sig (HIx 2)} {W : Waits sig (HIx 2)} :
    iprop(Transfers.Flight countersEmb (V d c j) (.dma sem) (default : HIx 2) N R ∗ owes (V d c j) O W ∗ Transfers.MayWaits (V d c j) (default : HIx 2) O)
      ⊢ iprop((iprop(R ∗ semVal (V d c j, SemLoc.dma sem) 0 ∗ owes (V d c j) O (insert (SemLoc.dma sem, default) W)) -∗ Q ⟨⟩)
          -∗ wp frame (wpE (defs₀ (F := F)) 𝒱₀ (V d c j) none) Set.univ (.op (.waitDma2 sem src dst hsrc hdst) fun _ => .ret ⟨⟩) Q) := by
  iintro ⟨Hfl, HO, #Hmw⟩ Hk
  iapply (Transfers.wp_waitLocalO countersEmb 𝒱₀ (V d c j) none (default : HIx 2) hN) $$ [Hfl HO]
  · isplitl [Hfl]; · iexact Hfl
    isplitl [HO]; · iexact HO
    iapply (Transfers.MayWaits.elim (SemLoc.dma sem)) $$ Hmw
  iintro ⟨HR, Hv, HO⟩
  rw [wp_ret]; imodintro
  iapply Hk
  isplitl [HR]; · iexact HR
  isplitl [Hv] <;> iassumption

omit [FloatOps F] in
theorem cast_cast_eq {A B : Type} (h : A = B) (x : A) : _root_.cast h.symm (_root_.cast h x) = x := by subst h; rfl

/-- The rows of an array named by a list, 128 of their columns at a time: the gather issued, the buffer's columns to
    come back at contents chosen beforehand. -/
theorem wp_gather {src : Memref sig .scVector .hbm S9216x128 .f32} {dst : Memref sig .scVector .vmem S64x128 .f32} {ix : Memref sig .scVector .vmem S64 .i32}
    {sem : DmaSem sig} {hsrc : src.view.WordExact} {Q : PUnit → sProp 𝕄} {q qo : PosShare TreeShare}
    {fs : Buf (Elt F) (src.view.loc (V d c j))} {fd G : Buf (Elt F) (dst.view.loc (V d c j))} {fo : Buf (Elt F) (ix.view.loc (V d c j))}
    {hn : S64.numel = S64x128.size gathers_S9216x128_S64x128.axis'} {hp he hsp hr}
    (hN : ∑ k, (dst.slice (S64x128.rowRect gathers_S9216x128_S64x128.axis' k) (S64x128.stride_rowRect gathers_S9216x128_S64x128.axis' k)).view.dmaCredit
      = dst.view.dmaCredit)
    (hin : ∀ x, (ix.view.read (Elt F) fo x).toNat < S9216x128.size gathers_S9216x128_S64x128.axis)
    (hG : ∀ x, dst.view.read (Elt F) G x
      = src.view.read (Elt F) fs (gathers_S9216x128_S64x128.idx (SparseCore.rows (ix.view.read (Elt F) fo) hn hin) x)) :
    iprop((src.view.loc (V d c j) ↦[src.view.set]{q} fs) ∗ (dst.view.loc (V d c j) ↦[dst.view.set]{fullShare} fd)
        ∗ (ix.view.loc (V d c j) ↦[ix.view.set]{qo} fo) ∗ semVal (V d c j, SemLoc.dma sem) 0)
      ⊢ iprop((Transfers.Flight countersEmb (V d c j) (.dma sem) (default : HIx 2) dst.view.dmaCredit
                  iprop((dst.view.loc (V d c j) ↦[dst.view.set]{fullShare} G) ∗ (src.view.loc (V d c j) ↦[src.view.set]{q} fs)
                    ∗ (ix.view.loc (V d c j) ↦[ix.view.set]{qo} fo)) -∗ Q ⟨⟩)
          -∗ wp frame (wpE (defs₀ (F := F)) 𝒱₀ (V d c j) none) Set.univ
            (SparseCore.enqueueIndirectGather hp src dst gathers_S9216x128_S64x128 ix hn sem hsrc he hsp hr) Q) := by
  iintro H Hk
  have e : ∀ p : Prog (TpuEff nD τ sig (Elt F) Λ₀ (V d c j : Thread nD τ).2) PUnit, p = (p >>= fun u => Prog.ret u) := fun p => (bind_pure p).symm
  rw [e (SparseCore.enqueueIndirectGather hp src dst gathers_S9216x128_S64x128 ix hn sem hsrc he hsp hr)]
  iapply (SparseCore.wp_indirectGatherLocal countersEmb 𝒱₀ (V d c j) none (default : HIx 2) dst.view.dmaCredit hN (by decide) hin) $$ H
  iintro Hfl
  rw [wp_ret]; imodintro
  iapply Hk
  iapply (Transfers.Flight_mono countersEmb (V d c j) ?_) $$ Hfl
  refine Entails.of_eq (congrArg₂ _ (pointsTo_congr fun i hi => ?_) rfl)
  obtain ⟨x, -, rfl⟩ := Finset.mem_map.mp hi
  rw [View.write_emb_of_mem _ _ (Finset.mem_univ x)]
  exact (congrArg _ (hG x)).symm.trans (cast_cast_eq _ _)

end Steps

end Cert.Proof.Moe

end
-- ==== Proof.Moe.Bodies.lean ====
/-
  The bodies of the two TensorCore kernels on whole staging buffers: the result's buffer is left at the value of the
  body's arithmetic at the operands' blocks.
-/
module

public import proofs.«01_k».proof.Proof.Moe.Base
public import Idealize.ShloMosaic.Lib.Pipeline.FrameBody
public import Idealize.ShloMosaic.Lib.Pipeline.Value
public import Idealize.ShloMosaic.Lib.WritesUnit
public import Idealize.ShloMosaic.Lib.Ring

@[expose] public section

set_option maxRecDepth 16384

noncomputable section

namespace Cert.Proof.Moe

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A load of a whole buffer reads what the buffer holds. -/
theorem load_whole {s : Shape} {e : EltTy} (r : Memref sig .tc .vmem s e) (hr : r.IsWhole) {off : Fin s.rank → ℕ}
    (h : off = fun _ => 0) (inb : ∀ a, off a + s.size a ≤ s.size a) (x : Vec F s e) :
    View.readAt (Elt F) r.view (Rect.unit off s.size inb).toLoadRect (hr.unread x) = x := by
  subst h
  funext y
  rw [View.readAt_apply, hr.read_unread]
  congr 1
  funext a
  apply Fin.ext
  rw [LoadRect.idx_apply]
  simp

/-- A store of a whole buffer leaves what was stored. -/
theorem store_whole {s : Shape} {e : EltTy} (r : Memref sig .tc .vmem s e) {off : Fin s.rank → ℕ}
    (h : off = fun _ => 0) (inb : ∀ a, off a + s.size a ≤ s.size a) (f : r.view.ty.Contents (Elt F)) (x : Vec F s e) :
    r.view.read (Elt F) (r.view.writes (Elt F) f [⟨Rect.unit off s.size inb, x⟩]) = x := by
  funext y
  exact View.read_writes_cons_unit_of_mem r.view f inb x [] y y h fun a => by simp

theorem zero2 : (![0, 0] : Fin 2 → ℕ) = fun _ => 0 := by funext a; fin_cases a <;> rfl
theorem zero3 : (![0, 0, 0] : Fin 3 → ℕ) = fun _ => 0 := by funext a; fin_cases a <;> rfl

/-- What a block of the combine leaves: the shared expert of the tokens and their three rows, weighed. -/
def combOut (x : Vec F S512x768 .f32) (yg : Vec F S512x2304 .f32) (tw : Vec F S512x3 .f32) (u1 : Vec F S384x768 .f32)
    (c1 : Vec F S1x384 .f32) (u2 : Vec F S768x384 .f32) (c2 : Vec F S1x768 .f32) : Vec F S512x768 .f32 :=
  k3_pay1 (k3_pay3 x u1 c1 u2 c2 tw yg) (k3_pay4 tw) (k3_pay5 yg)

set_option maxHeartbeats 1000000 in
/-- The expert's body on whole buffers. -/
theorem ffn_run (c : Dev nD) (i : grid1.Coords) (arg2 : Memref sig .tc .vmem S128x768 .f32) (harg2 : arg2.IsWhole) (arg3 : Memref sig .tc .vmem S1x384x768 .f32) (harg3 : arg3.IsWhole) (arg4 : Memref sig .tc .vmem S1x1x384 .f32) (harg4 : arg4.IsWhole) (arg5 : Memref sig .tc .vmem S1x768x384 .f32) (harg5 : arg5.IsWhole) (arg6 : Memref sig .tc .vmem S1x1x768 .f32) (harg6 : arg6.IsWhole) (arg7 : Memref sig .tc .vmem S128x768 .f32) (harg7 : arg7.IsWhole) (x0 : Vec F S128x768 .f32) (x1 : Vec F S1x384x768 .f32) (x2 : Vec F S1x1x384 .f32) (x3 : Vec F S1x768x384 .f32) (x4 : Vec F S1x1x768 .f32) (E : Set ℕ) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay1 x0 x1 x2 x3 x4)) -∗ Q ⟨⟩))
      ⊢ wp frame (wpE (defs₀ (F := F)) Variants.none c none) E
        (cc1__ffn_kernel i (Memref.whole main_v0) (Memref.isWhole_whole _) arg2 harg2 arg3 harg3 arg4 harg4 arg5 harg5 arg6 harg6 arg7 harg7) Q := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d, %f, -, H⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H
  ipureintro
  refine (store_whole arg7 zero2 _ f _).trans ?_
  rw [load_whole arg2 harg2 zero2, load_whole arg3 harg3 zero3, load_whole arg4 harg4 zero3, load_whole arg5 harg5 zero3,
    load_whole arg6 harg6 zero3]

set_option maxHeartbeats 1000000 in
/-- The combine's body on whole buffers. -/
theorem comb_run (c : Dev nD) (i : grid3.Coords) (arg1 : Memref sig .tc .vmem S512x768 .f32) (harg1 : arg1.IsWhole) (arg2 : Memref sig .tc .vmem S512x2304 .f32) (harg2 : arg2.IsWhole) (arg3 : Memref sig .tc .vmem S512x3 .f32) (harg3 : arg3.IsWhole) (arg4 : Memref sig .tc .vmem S384x768 .f32) (harg4 : arg4.IsWhole) (arg5 : Memref sig .tc .vmem S1x384 .f32) (harg5 : arg5.IsWhole) (arg6 : Memref sig .tc .vmem S768x384 .f32) (harg6 : arg6.IsWhole) (arg7 : Memref sig .tc .vmem S1x768 .f32) (harg7 : arg7.IsWhole) (arg8 : Memref sig .tc .vmem S512x768 .f32) (harg8 : arg8.IsWhole) (x0 : Vec F S512x768 .f32) (x1 : Vec F S512x2304 .f32) (x2 : Vec F S512x3 .f32) (x3 : Vec F S384x768 .f32) (x4 : Vec F S1x384 .f32) (x5 : Vec F S768x384 .f32) (x6 : Vec F S1x768 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (combOut x0 x1 x2 x3 x4 x5 x6)) -∗ Q ⟨⟩))
      ⊢ wp frame (wpE (defs₀ (F := F)) Variants.none c none) E
        (cc3__combine_kernel i arg1 harg1 arg2 harg2 arg3 harg3 arg4 harg4 arg5 harg5 arg6 harg6 arg7 harg7 arg8 harg8) Q := by
  simp only [cc3__combine_kernel_eq_skeleton]; unfold cc3__combine_kernel_skel; simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %f, -, H⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact H
  ipureintro
  refine (store_whole arg8 zero2 _ f _).trans ?_
  unfold combOut
  rw [load_whole arg1 harg1 zero2, load_whole arg2 harg2 zero2, load_whole arg3 harg3 zero2, load_whole arg4 harg4 zero2,
    load_whole arg5 harg5 zero2, load_whole arg6 harg6 zero2, load_whole arg7 harg7 zero2]

end Cert.Proof.Moe

end
-- ==== Proof.Moe.Region.lean ====
/-
  One TensorCore call of the launch as a step of @main between two SparseCore calls: entered with its arrays and its
  tables held, left with the arrays at what the pipeline writes, the core owing the SparseCore calls to come throughout.
-/
module

public import proofs.«01_k».proof.Proof.Moe.Bodies
public import Idealize.ShloMosaic.Lib.Pipeline.RegionArraysT

@[expose] public section

set_option maxRecDepth 16384

noncomputable section

namespace Cert.Proof.Moe

open Cert.KernelIdeal Cert.KernelIdeal.Gen

open Idealize.ShloMosaic Idealize.ShloMosaic.TcCoe Idealize.ShloMosaic.Pipeline
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "BL" => SparseCore.Cfg.Blocks.fst (Q := 2) (N := 2)

/-- What a core's waits before SparseCore call `n` may have recorded. -/
def early (n : ℕ) (c : Dev nD) : Set (SemLoc sig × HIx 2) :=
  {q | (K (F := F)).lev (T c, q.1) q.2 ≤ 8 * BL n}

section

variable (a : (p : Fin 2) → (pcfgs (F := F) p).Adm)
  (pd : (p : Fin 2) → (c : Dev nD) → Dat τ (Elt F) (HIx 2) ℕ UU ℕ (pin pcfgs a p) c)

/-- A TensorCore call as a step: the call's tables pass through unread, and what the core owes the later SparseCore
    calls stays owed. -/
def step (p : Fin 2) (n : ℕ) (kit : PLaunchFacts (nD := nD) (τ := τ) (pcfgs (F := F)) p)
    (hbody : ∀ c, BodyObligationLoose (pd p c) defs₀ 𝒱₀ none Set.univ)
    (howed : ∀ c t, (pd p c).owed t = (K (F := F)).Otc c n)
    (hrec : ∀ c t, (pd p c).recorded t = early (F := F) n c)
    (hshare : ∀ c w, (pd p c).share w = fullShare)
    (hΦ : ∀ c t, (pd p c).Φ t = iprop(scopedRest (pin pcfgs a p).spec c ∗ tablesAt pcfgs a p c))
    (W W' : Valuation τ sig (Elt F))
    (hW : ∀ c w, (pd p c).arrAt w 0 = W (Proc.devRef .tc (arrRef (pin pcfgs a p).spec w)))
    (hT : ∀ k, (a p).1 k = W (Proc.devRef .tc ((pcfgs (F := F) p).pre.ref k)))
    (hW' : ∀ c w, (pd p c).arrAt w (pin pcfgs a p).N = W' (Proc.devRef .tc (arrRef (pin pcfgs a p).spec w)))
    (hT' : ∀ k, (a p).1 k = W' (Proc.devRef .tc ((pcfgs (F := F) p).pre.ref k))) :
    RegionSeg pcfgs a pd none defs₀ 𝒱₀ (K (F := F)).L (K (F := F)).lev p where
  win := kit.to₀.win
  block_pos := kit.to₀.block_pos
  stage_whole := kit.to₀.stage_whole
  K := PEmpty
  osem k := k.elim
  ho := OwnSemFacts.none _
  hbody := hbody
  hwaits c := cellsWaits_of_cut (pin pcfgs a) pd none p c 0 _ (howed c) (fun _ _ => Finset.mem_univ _) (fun _ _ => le_rfl)
    fun g i h => ⟨Finset.mem_univ _, lt_of_lt_of_le (Nat.succ_pos _) (SparseCore.Cfg.lev_of_Otc_pos h)⟩
  pre c := iprop(StableHlo.held (T c) (arrRefs (pcfgs (F := F) p).spec) W ∗ StableHlo.held (T c) (tblRefs (pcfgs (F := F) p).pre) W
      ∗ ∃ Wd, ⌜(K (F := F)).WBelow (T c) Wd (8 * BL n)⌝ ∗ owes (T c) ((K (F := F)).Otc c n) Wd)
  post c := iprop(StableHlo.held (T c) (arrRefs (pcfgs (F := F) p).spec) W' ∗ StableHlo.held (T c) (tblRefs (pcfgs (F := F) p).pre) W'
      ∗ ∃ Wd, ⌜(K (F := F)).WBelow (T c) Wd (8 * BL n)⌝ ∗ owes (T c) ((K (F := F)).Otc c n) Wd)
  X _ := iprop(emp)
  Y c := tablesAt pcfgs a p c
  Z _ := iprop(emp)
  hentry c := by
    rw [← arrays_held pcfgs a pd p kit c (hshare c) ((pd p c).arrAt · 0) W (hW c),
      ← prefHeld_held (pcfgs (F := F) p).pre kit.pre.inj c (a p).1 W hT, ownSems0_none]
    iintro ⟨⟨Ha, Ht, ⟨%Wd, %hWd, HO⟩⟩, -, -⟩
    imodintro
    isplitl [Ha]; · iexact Ha
    isplitl [Ht]; · iexact Ht
    isplitl [HO]
    · unfold Dat.owesAt owesWithin Dat.bound
      rw [howed c 0, hrec c 0]
      iexists Wd; isplitr; · ipureintro; exact fun q hq => Or.inl (hWd q hq)
      iexact HO
    isplitl [] <;> iempintro
  hin c := by
    rw [hΦ c 0]
    iintro ⟨-, Ht, Hr⟩
    isplitl [Hr]; · iexact Hr
    iexact Ht
  hout c := by
    rw [hΦ c (Fin.last _), ownSems0_none]
    iintro ⟨Hr, Ht⟩
    isplitl [Ht]; · iexact Ht
    isplitr; · iempintro
    iexact Hr
  hexit c := by
    rw [← arrays_held pcfgs a pd p kit c (hshare c) ((pd p c).arrAt · (pin pcfgs a p).N) W' (hW' c),
      ← prefHeld_held (pcfgs (F := F) p).pre kit.pre.inj c (a p).1 W' hT']
    iintro ⟨Ha, HO, Ht, -⟩
    imodintro
    isplitl [Ha]; · iexact Ha
    isplitl [Ht]; · iexact Ht
    unfold Dat.owesAt owesWithin Dat.bound
    rw [howed c (Fin.last _), hrec c (Fin.last _)]
    icases HO with ⟨%Wd, %hWd, HO⟩
    iexists Wd
    isplitr
    · ipureintro
      intro q hq
      rcases hWd hq with h | h
      · exact h
      · obtain ⟨w, s, rfl⟩ := h
        exact Nat.zero_le _
    iexact HO

end

end Cert.Proof.Moe

end
-- ==== Proof.Moe.Calls.lean ====
/-
  The two TensorCore calls: the experts over the rows sorted by expert, and the combine. Their runs' data and bodies.
-/
module

public import proofs.«01_k».proof.Proof.Moe.Region

@[expose] public section

set_option maxRecDepth 16384

noncomputable section

namespace Cert.Proof.Moe

open Cert.KernelIdeal Cert.KernelIdeal.Gen

open Idealize.ShloMosaic Idealize.ShloMosaic.TcCoe Idealize.ShloMosaic.Pipeline
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- Window `w`'s block at point `t`. -/
def ffnBlk (tb : pre1.Contents (Elt F)) (hO : ok1 (F := F) tb) (V : Valuation τ sig (Elt F)) (c : Dev nD) (w : Fin 6) (t : Fin (cfg1 (F := F) ⟨tb, hO⟩).N) :
    (((cfg1 (F := F) ⟨tb, hO⟩).win w).xblock ((cfg1 (F := F) ⟨tb, hO⟩).grid.coords t)).Idx → Elt F ((cfg1 (F := F) ⟨tb, hO⟩).win w).elt :=
  (((cfg1 (F := F) ⟨tb, hO⟩).win w).blk t).view.read (Elt F) (V (Proc.devRef .tc (arrRef spec1 w)))

/-- What the experts' call leaves in the result's buffer at point `t`. -/
def ffnRes (tb : pre1.Contents (Elt F)) (hO : ok1 (F := F) tb) (V : Valuation τ sig (Elt F)) (c : Dev nD) (t : Fin (cfg1 (F := F) ⟨tb, hO⟩).N) : Vec F S128x768 .f32 :=
  k1_pay1 (ffnBlk tb hO V c 0 t) (ffnBlk tb hO V c 1 t) (ffnBlk tb hO V c 2 t) (ffnBlk tb hO V c 3 t) (ffnBlk tb hO V c 4 t)

/-- The call's run: the arrays as the call finds them, each operand's buffer at its block, the result's at the body's value. -/
def ffnDat (tb : pre1.Contents (Elt F)) (hO : ok1 (F := F) tb) (V : Valuation τ sig (Elt F)) (c : Dev nD) : Dat τ (Elt F) (HIx 2) ℕ UU ℕ (cfg1 (F := F) ⟨tb, hO⟩) c where
  A w := V (Proc.devRef .tc (arrRef spec1 w))
  after w t := match w with
    | ⟨0, _⟩ => ffnBlk tb hO V c 0 t
    | ⟨1, _⟩ => ffnBlk tb hO V c 1 t
    | ⟨2, _⟩ => ffnBlk tb hO V c 2 t
    | ⟨3, _⟩ => ffnBlk tb hO V c 3 t
    | ⟨4, _⟩ => ffnBlk tb hO V c 4 t
    | ⟨5, _⟩ => ffnRes tb hO V c t
  Φ _ := iprop(scopedRest spec1 c ∗ prefHeld pre1 c (fun _ => fullShare) tb)
  q _ := fullShare
  owed _ := (K (F := F)).Otc c 1
  recorded _ := early (F := F) 1 c

section

variable (tb : pre1.Contents (Elt F)) (hO : ok1 (F := F) tb) (V : Valuation τ sig (Elt F)) (c : Dev nD)

theorem ffn_A (w : Fin (cfg1 (F := F) ⟨tb, hO⟩).W) : (ffnDat tb hO V c).A w = V (Proc.devRef .tc (arrRef spec1 w)) := by
  dsimp only [ffnDat]
theorem ffn_after0 (t : Fin (cfg1 (F := F) ⟨tb, hO⟩).N) : (ffnDat tb hO V c).after 0 t = ffnBlk tb hO V c 0 t := by
  dsimp only [ffnDat]; try rfl
theorem ffn_after1 (t : Fin (cfg1 (F := F) ⟨tb, hO⟩).N) : (ffnDat tb hO V c).after 1 t = ffnBlk tb hO V c 1 t := by
  dsimp only [ffnDat]; try rfl
theorem ffn_after2 (t : Fin (cfg1 (F := F) ⟨tb, hO⟩).N) : (ffnDat tb hO V c).after 2 t = ffnBlk tb hO V c 2 t := by
  dsimp only [ffnDat]; try rfl
theorem ffn_after3 (t : Fin (cfg1 (F := F) ⟨tb, hO⟩).N) : (ffnDat tb hO V c).after 3 t = ffnBlk tb hO V c 3 t := by
  dsimp only [ffnDat]; try rfl
theorem ffn_after4 (t : Fin (cfg1 (F := F) ⟨tb, hO⟩).N) : (ffnDat tb hO V c).after 4 t = ffnBlk tb hO V c 4 t := by
  dsimp only [ffnDat]; try rfl
theorem ffn_after5 (t : Fin (cfg1 (F := F) ⟨tb, hO⟩).N) : (ffnDat tb hO V c).after 5 t = ffnRes tb hO V c t := by
  dsimp only [ffnDat]; try rfl
theorem ffn_before0 (t : Fin (cfg1 (F := F) ⟨tb, hO⟩).N) (d) : (ffnDat tb hO V c).before 0 t d = ffnBlk tb hO V c 0 t :=
  ((ffnDat tb hO V c).before_in_eq_fetched 0 rfl (fun _ => rfl) (fun _ _ _ => rfl)
    (fun t => by rw [ffn_after0]; unfold Dat.blockOf ffnBlk; rw [ffn_A]; try rfl) t d).trans
    (by unfold Dat.fetched Dat.blockOf ffnBlk; rw [ffn_A]; try rfl)
theorem ffn_before1 (t : Fin (cfg1 (F := F) ⟨tb, hO⟩).N) (d) : (ffnDat tb hO V c).before 1 t d = ffnBlk tb hO V c 1 t :=
  ((ffnDat tb hO V c).before_in_eq_fetched 1 rfl (fun _ => rfl) (fun _ _ _ => rfl)
    (fun t => by rw [ffn_after1]; unfold Dat.blockOf ffnBlk; rw [ffn_A]; try rfl) t d).trans
    (by unfold Dat.fetched Dat.blockOf ffnBlk; rw [ffn_A]; try rfl)
theorem ffn_before2 (t : Fin (cfg1 (F := F) ⟨tb, hO⟩).N) (d) : (ffnDat tb hO V c).before 2 t d = ffnBlk tb hO V c 2 t :=
  ((ffnDat tb hO V c).before_in_eq_fetched 2 rfl (fun _ => rfl) (fun _ _ _ => rfl)
    (fun t => by rw [ffn_after2]; unfold Dat.blockOf ffnBlk; rw [ffn_A]; try rfl) t d).trans
    (by unfold Dat.fetched Dat.blockOf ffnBlk; rw [ffn_A]; try rfl)
theorem ffn_before3 (t : Fin (cfg1 (F := F) ⟨tb, hO⟩).N) (d) : (ffnDat tb hO V c).before 3 t d = ffnBlk tb hO V c 3 t :=
  ((ffnDat tb hO V c).before_in_eq_fetched 3 rfl (fun _ => rfl) (fun _ _ _ => rfl)
    (fun t => by rw [ffn_after3]; unfold Dat.blockOf ffnBlk; rw [ffn_A]; try rfl) t d).trans
    (by unfold Dat.fetched Dat.blockOf ffnBlk; rw [ffn_A]; try rfl)
theorem ffn_before4 (t : Fin (cfg1 (F := F) ⟨tb, hO⟩).N) (d) : (ffnDat tb hO V c).before 4 t d = ffnBlk tb hO V c 4 t :=
  ((ffnDat tb hO V c).before_in_eq_fetched 4 rfl (fun _ => rfl) (fun _ _ _ => rfl)
    (fun t => by rw [ffn_after4]; unfold Dat.blockOf ffnBlk; rw [ffn_A]; try rfl) t d).trans
    (by unfold Dat.fetched Dat.blockOf ffnBlk; rw [ffn_A]; try rfl)

/-- The body as the call runs it at point `t`. -/
abbrev ffnAt (t : Fin (cfg1 (F := F) ⟨tb, hO⟩).N) : Prog (TpuEff nD τ sig (Elt F) Λ₀ .tc) PUnit :=
  cc1__ffn_kernel (grid1.coords t) (Memref.whole main_v0) (Memref.isWhole_whole _) (spec1_0.stage ((cfg1 (F := F) ⟨tb, hO⟩).slots t 0)) (hstage1_0 (((cfg1 (F := F) ⟨tb, hO⟩).slots t 0).cast nbuf1_0)) (spec1_1.stage ((cfg1 (F := F) ⟨tb, hO⟩).slots t 1)) (hstage1_1 (((cfg1 (F := F) ⟨tb, hO⟩).slots t 1).cast nbuf1_1)) (spec1_2.stage ((cfg1 (F := F) ⟨tb, hO⟩).slots t 2)) (hstage1_2 (((cfg1 (F := F) ⟨tb, hO⟩).slots t 2).cast nbuf1_2)) (spec1_3.stage ((cfg1 (F := F) ⟨tb, hO⟩).slots t 3)) (hstage1_3 (((cfg1 (F := F) ⟨tb, hO⟩).slots t 3).cast nbuf1_3)) (spec1_4.stage ((cfg1 (F := F) ⟨tb, hO⟩).slots t 4)) (hstage1_4 (((cfg1 (F := F) ⟨tb, hO⟩).slots t 4).cast nbuf1_4)) (spec1_5.stage ((cfg1 (F := F) ⟨tb, hO⟩).slots t 5)) (hstage1_5 (((cfg1 (F := F) ⟨tb, hO⟩).slots t 5).cast nbuf1_5))

theorem ffn_row (t : Fin (cfg1 (F := F) ⟨tb, hO⟩).N) :
    defs₀ (F := F) .tc (cfg1 (F := F) ⟨tb, hO⟩).body ((cfg1 (F := F) ⟨tb, hO⟩).bodyArgs t ((cfg1 (F := F) ⟨tb, hO⟩).slots t)) = ffnAt tb hO t := by
  rfl

/-- The body at any point: its operands are their blocks, what it leaves in the result's buffer is the body's value. -/
theorem ffn_body (t : Fin (cfg1 (F := F) ⟨tb, hO⟩).N) :
    iprop((ffnDat tb hO V c).Φ t.castSucc ∗ (ffnDat tb hO V c).owesAt none t.castSucc
      ∗ (∃ d, owns (c : Thread nD τ) (spec1_0.stage ((cfg1 (F := F) ⟨tb, hO⟩).slots t 0)) fullShare ((ffnDat tb hO V c).before 0 t d)) ∗ (∃ d, owns (c : Thread nD τ) (spec1_1.stage ((cfg1 (F := F) ⟨tb, hO⟩).slots t 1)) fullShare ((ffnDat tb hO V c).before 1 t d)) ∗ (∃ d, owns (c : Thread nD τ) (spec1_2.stage ((cfg1 (F := F) ⟨tb, hO⟩).slots t 2)) fullShare ((ffnDat tb hO V c).before 2 t d)) ∗ (∃ d, owns (c : Thread nD τ) (spec1_3.stage ((cfg1 (F := F) ⟨tb, hO⟩).slots t 3)) fullShare ((ffnDat tb hO V c).before 3 t d)) ∗ (∃ d, owns (c : Thread nD τ) (spec1_4.stage ((cfg1 (F := F) ⟨tb, hO⟩).slots t 4)) fullShare ((ffnDat tb hO V c).before 4 t d)) ∗ (∃ d, owns (c : Thread nD τ) (spec1_5.stage ((cfg1 (F := F) ⟨tb, hO⟩).slots t 5)) fullShare ((ffnDat tb hO V c).before 5 t d)))
    ⊢ wp frame (wpE (defs₀ (F := F)) Variants.none c none) Set.univ (ffnAt tb hO t) fun _ =>
      iprop((ffnDat tb hO V c).Φ t.succ ∗ (ffnDat tb hO V c).owesAt none t.succ
      ∗ owns (c : Thread nD τ) (spec1_0.stage ((cfg1 (F := F) ⟨tb, hO⟩).slots t 0)) fullShare ((ffnDat tb hO V c).after 0 t) ∗ owns (c : Thread nD τ) (spec1_1.stage ((cfg1 (F := F) ⟨tb, hO⟩).slots t 1)) fullShare ((ffnDat tb hO V c).after 1 t) ∗ owns (c : Thread nD τ) (spec1_2.stage ((cfg1 (F := F) ⟨tb, hO⟩).slots t 2)) fullShare ((ffnDat tb hO V c).after 2 t) ∗ owns (c : Thread nD τ) (spec1_3.stage ((cfg1 (F := F) ⟨tb, hO⟩).slots t 3)) fullShare ((ffnDat tb hO V c).after 3 t) ∗ owns (c : Thread nD τ) (spec1_4.stage ((cfg1 (F := F) ⟨tb, hO⟩).slots t 4)) fullShare ((ffnDat tb hO V c).after 4 t) ∗ owns (c : Thread nD τ) (spec1_5.stage ((cfg1 (F := F) ⟨tb, hO⟩).slots t 5)) fullShare ((ffnDat tb hO V c).after 5 t)) := by
  simp only [ffn_before0, ffn_before1, ffn_before2, ffn_before3, ffn_before4]
  rw [show (ffnDat tb hO V c).Φ t.succ = (ffnDat tb hO V c).Φ t.castSucc from rfl,
    show (ffnDat tb hO V c).owesAt none t.succ = (ffnDat tb hO V c).owesAt none t.castSucc from rfl,
    ffn_after0, ffn_after1, ffn_after2, ffn_after3, ffn_after4, ffn_after5]
  iintro ⟨HΦ, Ho, ⟨%d0, H0⟩, ⟨%d1, H1⟩, ⟨%d2, H2⟩, ⟨%d3, H3⟩, ⟨%d4, H4⟩, ⟨%d5, H5⟩⟩
  iapply (ffn_run c (grid1.coords t) _ _ _ _ _ _ _ _ _ _ _ _ (ffnBlk tb hO V c 0 t) (ffnBlk tb hO V c 1 t) (ffnBlk tb hO V c 2 t) (ffnBlk tb hO V c 3 t) (ffnBlk tb hO V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem ffn_obligation : BodyObligation (ffnDat tb hO V c) (defs₀ (F := F)) Variants.none none Set.univ := fun t => by
  rw [bigSep_W1, bigSep_W1, ffn_row tb hO]
  exact triple_restated (ffn_body tb hO V c t) rfl .rfl fun _ => .rfl

end

/-- Window `w`'s block at point `t`. -/
def combBlk  (V : Valuation τ sig (Elt F)) (c : Dev nD) (w : Fin 8) (t : Fin (cfg3).N) :
    (((cfg3).win w).xblock ((cfg3).grid.coords t)).Idx → Elt F ((cfg3).win w).elt :=
  (((cfg3).win w).blk t).view.read (Elt F) (V (Proc.devRef .tc (arrRef spec3 w)))

/-- What the combine leaves in the result's buffer at point `t`. -/
def combRes  (V : Valuation τ sig (Elt F)) (c : Dev nD) (t : Fin (cfg3).N) : Vec F S512x768 .f32 :=
  combOut (combBlk  V c 0 t) (combBlk  V c 1 t) (combBlk  V c 2 t) (combBlk  V c 3 t) (combBlk  V c 4 t) (combBlk  V c 5 t) (combBlk  V c 6 t)

/-- The call's run: the arrays as the call finds them, each operand's buffer at its block, the result's at the body's value. -/
def combDat  (V : Valuation τ sig (Elt F)) (c : Dev nD) : Dat τ (Elt F) (HIx 2) ℕ UU ℕ (cfg3) c where
  A w := V (Proc.devRef .tc (arrRef spec3 w))
  after w t := match w with
    | ⟨0, _⟩ => combBlk  V c 0 t
    | ⟨1, _⟩ => combBlk  V c 1 t
    | ⟨2, _⟩ => combBlk  V c 2 t
    | ⟨3, _⟩ => combBlk  V c 3 t
    | ⟨4, _⟩ => combBlk  V c 4 t
    | ⟨5, _⟩ => combBlk  V c 5 t
    | ⟨6, _⟩ => combBlk  V c 6 t
    | ⟨7, _⟩ => combRes  V c t
  Φ _ := iprop(scopedRest spec3 c ∗ prefHeld (cfg3.toPCfg (Val := Elt F)).pre c (fun _ => fullShare) (cfg3.toPCfg_adm (Val := Elt F)).1)
  q _ := fullShare
  owed _ := (K (F := F)).Otc c 2
  recorded _ := early (F := F) 2 c

section

variable (V : Valuation τ sig (Elt F)) (c : Dev nD)

theorem comb_A (w : Fin (cfg3).W) : (combDat  V c).A w = V (Proc.devRef .tc (arrRef spec3 w)) := by
  dsimp only [combDat]
theorem comb_after0 (t : Fin (cfg3).N) : (combDat  V c).after 0 t = combBlk  V c 0 t := by
  dsimp only [combDat]; try rfl
theorem comb_after1 (t : Fin (cfg3).N) : (combDat  V c).after 1 t = combBlk  V c 1 t := by
  dsimp only [combDat]; try rfl
theorem comb_after2 (t : Fin (cfg3).N) : (combDat  V c).after 2 t = combBlk  V c 2 t := by
  dsimp only [combDat]; try rfl
theorem comb_after3 (t : Fin (cfg3).N) : (combDat  V c).after 3 t = combBlk  V c 3 t := by
  dsimp only [combDat]; try rfl
theorem comb_after4 (t : Fin (cfg3).N) : (combDat  V c).after 4 t = combBlk  V c 4 t := by
  dsimp only [combDat]; try rfl
theorem comb_after5 (t : Fin (cfg3).N) : (combDat  V c).after 5 t = combBlk  V c 5 t := by
  dsimp only [combDat]; try rfl
theorem comb_after6 (t : Fin (cfg3).N) : (combDat  V c).after 6 t = combBlk  V c 6 t := by
  dsimp only [combDat]; try rfl
theorem comb_after7 (t : Fin (cfg3).N) : (combDat  V c).after 7 t = combRes  V c t := by
  dsimp only [combDat]; try rfl
theorem comb_before0 (t : Fin (cfg3).N) (d) : (combDat  V c).before 0 t d = combBlk  V c 0 t :=
  ((combDat  V c).before_in_eq_fetched 0 rfl (fun _ => rfl) (fun _ _ _ => rfl)
    (fun t => by rw [comb_after0]; unfold Dat.blockOf combBlk; rw [comb_A]; try rfl) t d).trans
    (by unfold Dat.fetched Dat.blockOf combBlk; rw [comb_A]; try rfl)
theorem comb_before1 (t : Fin (cfg3).N) (d) : (combDat  V c).before 1 t d = combBlk  V c 1 t :=
  ((combDat  V c).before_in_eq_fetched 1 rfl (fun _ => rfl) (fun _ _ _ => rfl)
    (fun t => by rw [comb_after1]; unfold Dat.blockOf combBlk; rw [comb_A]; try rfl) t d).trans
    (by unfold Dat.fetched Dat.blockOf combBlk; rw [comb_A]; try rfl)
theorem comb_before2 (t : Fin (cfg3).N) (d) : (combDat  V c).before 2 t d = combBlk  V c 2 t :=
  ((combDat  V c).before_in_eq_fetched 2 rfl (fun _ => rfl) (fun _ _ _ => rfl)
    (fun t => by rw [comb_after2]; unfold Dat.blockOf combBlk; rw [comb_A]; try rfl) t d).trans
    (by unfold Dat.fetched Dat.blockOf combBlk; rw [comb_A]; try rfl)
theorem comb_before3 (t : Fin (cfg3).N) (d) : (combDat  V c).before 3 t d = combBlk  V c 3 t :=
  ((combDat  V c).before_in_eq_fetched 3 rfl (fun _ => rfl) (fun _ _ _ => rfl)
    (fun t => by rw [comb_after3]; unfold Dat.blockOf combBlk; rw [comb_A]; try rfl) t d).trans
    (by unfold Dat.fetched Dat.blockOf combBlk; rw [comb_A]; try rfl)
theorem comb_before4 (t : Fin (cfg3).N) (d) : (combDat  V c).before 4 t d = combBlk  V c 4 t :=
  ((combDat  V c).before_in_eq_fetched 4 rfl (fun _ => rfl) (fun _ _ _ => rfl)
    (fun t => by rw [comb_after4]; unfold Dat.blockOf combBlk; rw [comb_A]; try rfl) t d).trans
    (by unfold Dat.fetched Dat.blockOf combBlk; rw [comb_A]; try rfl)
theorem comb_before5 (t : Fin (cfg3).N) (d) : (combDat  V c).before 5 t d = combBlk  V c 5 t :=
  ((combDat  V c).before_in_eq_fetched 5 rfl (fun _ => rfl) (fun _ _ _ => rfl)
    (fun t => by rw [comb_after5]; unfold Dat.blockOf combBlk; rw [comb_A]; try rfl) t d).trans
    (by unfold Dat.fetched Dat.blockOf combBlk; rw [comb_A]; try rfl)
theorem comb_before6 (t : Fin (cfg3).N) (d) : (combDat  V c).before 6 t d = combBlk  V c 6 t :=
  ((combDat  V c).before_in_eq_fetched 6 rfl (fun _ => rfl) (fun _ _ _ => rfl)
    (fun t => by rw [comb_after6]; unfold Dat.blockOf combBlk; rw [comb_A]; try rfl) t d).trans
    (by unfold Dat.fetched Dat.blockOf combBlk; rw [comb_A]; try rfl)

/-- The body as the call runs it at point `t`. -/
abbrev combAt (t : Fin (cfg3).N) : Prog (TpuEff nD τ sig (Elt F) Λ₀ .tc) PUnit :=
  cc3__combine_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7))

theorem comb_row (t : Fin (cfg3).N) :
    defs₀ (F := F) .tc (cfg3).body ((cfg3).bodyArgs t ((cfg3).slots t)) = combAt  t := by
  rfl

/-- The body at any point: its operands are their blocks, what it leaves in the result's buffer is the body's value. -/
theorem comb_body (t : Fin (cfg3).N) :
    iprop((combDat  V c).Φ t.castSucc ∗ (combDat  V c).owesAt none t.castSucc
      ∗ (∃ d, owns (c : Thread nD τ) (win3_0.stage (cfg3.slots t 0)) fullShare ((combDat  V c).before 0 t d)) ∗ (∃ d, owns (c : Thread nD τ) (win3_1.stage (cfg3.slots t 1)) fullShare ((combDat  V c).before 1 t d)) ∗ (∃ d, owns (c : Thread nD τ) (win3_2.stage (cfg3.slots t 2)) fullShare ((combDat  V c).before 2 t d)) ∗ (∃ d, owns (c : Thread nD τ) (win3_3.stage (cfg3.slots t 3)) fullShare ((combDat  V c).before 3 t d)) ∗ (∃ d, owns (c : Thread nD τ) (win3_4.stage (cfg3.slots t 4)) fullShare ((combDat  V c).before 4 t d)) ∗ (∃ d, owns (c : Thread nD τ) (win3_5.stage (cfg3.slots t 5)) fullShare ((combDat  V c).before 5 t d)) ∗ (∃ d, owns (c : Thread nD τ) (win3_6.stage (cfg3.slots t 6)) fullShare ((combDat  V c).before 6 t d)) ∗ (∃ d, owns (c : Thread nD τ) (win3_7.stage (cfg3.slots t 7)) fullShare ((combDat  V c).before 7 t d)))
    ⊢ wp frame (wpE (defs₀ (F := F)) Variants.none c none) Set.univ (combAt  t) fun _ =>
      iprop((combDat  V c).Φ t.succ ∗ (combDat  V c).owesAt none t.succ
      ∗ owns (c : Thread nD τ) (win3_0.stage (cfg3.slots t 0)) fullShare ((combDat  V c).after 0 t) ∗ owns (c : Thread nD τ) (win3_1.stage (cfg3.slots t 1)) fullShare ((combDat  V c).after 1 t) ∗ owns (c : Thread nD τ) (win3_2.stage (cfg3.slots t 2)) fullShare ((combDat  V c).after 2 t) ∗ owns (c : Thread nD τ) (win3_3.stage (cfg3.slots t 3)) fullShare ((combDat  V c).after 3 t) ∗ owns (c : Thread nD τ) (win3_4.stage (cfg3.slots t 4)) fullShare ((combDat  V c).after 4 t) ∗ owns (c : Thread nD τ) (win3_5.stage (cfg3.slots t 5)) fullShare ((combDat  V c).after 5 t) ∗ owns (c : Thread nD τ) (win3_6.stage (cfg3.slots t 6)) fullShare ((combDat  V c).after 6 t) ∗ owns (c : Thread nD τ) (win3_7.stage (cfg3.slots t 7)) fullShare ((combDat  V c).after 7 t)) := by
  simp only [comb_before0, comb_before1, comb_before2, comb_before3, comb_before4, comb_before5, comb_before6]
  rw [show (combDat  V c).Φ t.succ = (combDat  V c).Φ t.castSucc from rfl,
    show (combDat  V c).owesAt none t.succ = (combDat  V c).owesAt none t.castSucc from rfl,
    comb_after0, comb_after1, comb_after2, comb_after3, comb_after4, comb_after5, comb_after6, comb_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (comb_run c (grid3.coords t) _ _ _ _ _ _ _ _ _ _ _ _ _ _ _ _ (combBlk  V c 0 t) (combBlk  V c 1 t) (combBlk  V c 2 t) (combBlk  V c 3 t) (combBlk  V c 4 t) (combBlk  V c 5 t) (combBlk  V c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem comb_obligation : BodyObligation (combDat  V c) (defs₀ (F := F)) Variants.none none Set.univ := fun t => by
  rw [bigSep_W3, bigSep_W3, comb_row ]
  exact triple_restated (comb_body  V c t) rfl .rfl fun _ => .rfl

end

end Cert.Proof.Moe

end
-- ==== Proof.Moe.GatherSteps.lean ====
/-
  The gather call's tile, its parts: the arrays' columns, the rows a list names, and one column piece of a chunk's gather.
-/
module

public import proofs.«01_k».proof.Proof.Moe.Base

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Indices -/

/-- The index of a one-axis shape. -/
def i1 {n : ℕ} (k : Fin n) : (⟨1, ![n]⟩ : Shape).Idx := fun a => match a with | 0 => k
/-- The index of a two-axis shape. -/
def i2 {n m : ℕ} (k : Fin n) (c : Fin m) : (⟨2, ![n, m]⟩ : Shape).Idx := fun a => match a with | 0 => k | 1 => c

omit [FloatOps F] in
theorem i2_eta {n m : ℕ} (x : (⟨2, ![n, m]⟩ : Shape).Idx) : i2 (x 0) (x 1) = x := by
  funext a; match a with | 0 => rfl | 1 => rfl
omit [FloatOps F] in
theorem i1_eta {n : ℕ} (x : (⟨1, ![n]⟩ : Shape).Idx) : i1 (x 0) = x := by
  funext a; match a with | 0 => rfl

omit [FloatOps F] in
theorem s64_symm (k : Fin S64.numel) : (S64.rowMajor.symm k 0).val = k.val := by
  have h := Shape.rowMajor_val_one (d := ![64]) (S64.rowMajor.symm k)
  rw [show (⟨1, ![64]⟩ : Shape).rowMajor = S64.rowMajor from rfl, Equiv.apply_symm_apply] at h
  exact h.symm

/-! ## Six columns pieces of a 768-wide array -/

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem inbR (j : Fin 6) : ∀ a, (![0, 128 * j.val] : Fin 2 → ℕ) a + S64x128.size a ≤ S64x768.size a := fun a => by
  match a with
  | 0 => exact Nat.le_refl 64
  | 1 => show 128 * j.val + 128 ≤ 768; omega
theorem inbY (j : Fin 6) : ∀ a, (![0, 128 * j.val] : Fin 2 → ℕ) a + S9216x128.size a ≤ S9216x768.size a := fun a => by
  match a with
  | 0 => exact Nat.le_refl 9216
  | 1 => show 128 * j.val + 128 ≤ 768; omega

abbrev colR (j : Fin 6) : Rect S64x768 := Rect.unit (s := S64x768) ![0, 128 * j.val] S64x128.size (inbR j)
abbrev colY (j : Fin 6) : Rect S9216x768 := Rect.unit (s := S9216x768) ![0, 128 * j.val] S9216x128.size (inbY j)

theorem mem_colR (j : Fin 6) (i : S64x768.Idx) : i ∈ (colR j).set ↔ (i 1).val / 128 = j.val := by
  rw [Rect.mem_set_unit]
  constructor
  · intro h; have := h 1; simp at this; omega
  · intro h a
    match a with
    | 0 => exact ⟨Nat.zero_le _, by simpa using (i 0).isLt⟩
    | 1 => simp; omega
theorem mem_colY (j : Fin 6) (i : S9216x768.Idx) : i ∈ (colY j).set ↔ (i 1).val / 128 = j.val := by
  rw [Rect.mem_set_unit]
  constructor
  · intro h; have := h 1; simp at this; omega
  · intro h a
    match a with
    | 0 => exact ⟨Nat.zero_le _, by simpa using (i 0).isLt⟩
    | 1 => simp; omega

theorem colR_disjoint : ∀ j ∈ (Finset.univ : Finset (Fin 6)), ∀ j' ∈ (Finset.univ : Finset (Fin 6)), j ≠ j' → Disjoint (colR j).set (colR j').set :=
  fun j _ j' _ h => Finset.disjoint_left.mpr fun i hi hi' => h (Fin.ext (((mem_colR j i).mp hi).symm.trans ((mem_colR j' i).mp hi')))
theorem colY_disjoint : ∀ j ∈ (Finset.univ : Finset (Fin 6)), ∀ j' ∈ (Finset.univ : Finset (Fin 6)), j ≠ j' → Disjoint (colY j).set (colY j').set :=
  fun j _ j' _ h => Finset.disjoint_left.mpr fun i hi hi' => h (Fin.ext (((mem_colY j i).mp hi).symm.trans ((mem_colY j' i).mp hi')))
theorem colR_cover : (Finset.univ : Finset (Fin 6)).biUnion (fun j => (colR j).set) = Finset.univ :=
  Finset.eq_univ_iff_forall.mpr fun i => Finset.mem_biUnion.mpr ⟨⟨(i 1).val / 128, by have : (i 1).val < 768 := (i 1).isLt; omega⟩, Finset.mem_univ _, (mem_colR _ i).mpr rfl⟩
theorem colY_cover : (Finset.univ : Finset (Fin 6)).biUnion (fun j => (colY j).set) = Finset.univ :=
  Finset.eq_univ_iff_forall.mpr fun i => Finset.mem_biUnion.mpr ⟨⟨(i 1).val / 128, by have : (i 1).val < 768 := (i 1).isLt; omega⟩, Finset.mem_univ _, (mem_colY _ i).mpr rfl⟩

/-! ## The memrefs of the gather -/

abbrev yV : Memref sig .scVector .hbm S9216x768 .f32 := Memref.whole main_v10_scv
abbrev pV : Memref sig .scVector .hbm S6144 .i32 := Memref.whole main_v11_scv
abbrev oV : Memref sig .scVector .hbm S6144x768 .f32 := Memref.whole main_v12_scv
abbrev r0V : Memref sig .scVector .vmem S64x768 .f32 := Memref.whole cc2_scratch0
abbrev r1V : Memref sig .scVector .vmem S64x768 .f32 := Memref.whole cc2_scratch1
abbrev x0V : Memref sig .scVector .vmem S64 .i32 := Memref.whole cc2_scratch2
abbrev x1V : Memref sig .scVector .vmem S64 .i32 := Memref.whole cc2_scratch3

/-- Columns `o … o+127` of the source, all of its rows. -/
abbrev yS (o : ℕ) (h : ∀ a, (![0, o] : Fin 2 → ℕ) a + S9216x128.size a ≤ S9216x768.size a) : Memref sig .scVector .hbm S9216x128 .f32 :=
  (yV.slice (Rect.unit (s := S9216x768) ![0, o] S9216x128.size h) (fun _ => rfl)).slice
    (Rect.unit (s := S9216x128) ![0, 0] S9216x128.size inb_S9216x128_S9216x128_0_0) (fun _ => rfl)

theorem set_yS (o : ℕ) (h) : (yS o h).view.set = (Rect.unit (s := S9216x768) ![0, o] S9216x128.size h).set := by
  show (((View.whole main_v10_scv).slice (Rect.unit (s := S9216x768) ![0, o] S9216x128.size h)).slice
    (Rect.unit (s := S9216x128) ![0, 0] S9216x128.size inb_S9216x128_S9216x128_0_0)).set = _
  rw [View.set_slice, show (Rect.unit (s := S9216x128) ![0, 0] S9216x128.size inb_S9216x128_S9216x128_0_0).set = Finset.univ from
    Finset.eq_univ_iff_forall.mpr fun i => Rect.mem_set_unit.mpr fun a => by
      match a with
      | 0 => exact ⟨Nat.zero_le _, by simpa using (i 0).isLt⟩
      | 1 => exact ⟨Nat.zero_le _, by simpa using (i 1).isLt⟩]
  exact View.set_slice_whole _ _

section Tile

variable (d : Dev nD) (c : Fin τ.nSC) (j : Fin τ.nSub)

/-- A row buffer is its six columns pieces. -/
theorem r0_cols (q : PosShare TreeShare) (f : Buf (Elt F) (r0V.view.loc (V d c j))) :
    (r0V.view.loc (V d c j) ↦{q} f : sProp 𝕄) = bigSep Finset.univ fun k => r0V.view.loc (V d c j) ↦[(colR k).set]{q} f := by
  rw [← pointsTo_biUnion Finset.univ (ℓ := r0V.view.loc (V d c j)) (fun k => (colR k).set) colR_disjoint, colR_cover]; try rfl
theorem r1_cols (q : PosShare TreeShare) (f : Buf (Elt F) (r1V.view.loc (V d c j))) :
    (r1V.view.loc (V d c j) ↦{q} f : sProp 𝕄) = bigSep Finset.univ fun k => r1V.view.loc (V d c j) ↦[(colR k).set]{q} f := by
  rw [← pointsTo_biUnion Finset.univ (ℓ := r1V.view.loc (V d c j)) (fun k => (colR k).set) colR_disjoint, colR_cover]; try rfl
theorem y_cols (q : PosShare TreeShare) (f : Buf (Elt F) (yV.view.loc (V d c j))) :
    (yV.view.loc (V d c j) ↦{q} f : sProp 𝕄) = bigSep Finset.univ fun k => yV.view.loc (V d c j) ↦[(colY k).set]{q} f := by
  rw [← pointsTo_biUnion Finset.univ (ℓ := yV.view.loc (V d c j)) (fun k => (colY k).set) colY_disjoint, colY_cover]; try rfl

/-! ## What the gather computes -/

/-- Row `n` of the result is the row of `Y` that word `n` of the list names. -/
def gath (Y : S9216x768.Idx → Elt F .f32) (PF : S6144.Idx → BitVec 32) (hPF : ∀ n, (PF n).toNat < 9216) : S6144x768.Idx → Elt F .f32 :=
  fun x => Y (i2 ⟨(PF (i1 (x 0))).toNat, hPF _⟩ (x 1))

/-- 64 words of the list from `b` on. -/
def chunkL (PF : S6144.Idx → BitVec 32) (b : ℕ) (hb : b + 64 ≤ 6144) : S64.Idx → BitVec 32 :=
  fun x => PF (i1 ⟨b + (x 0).val, by have : (x 0).val < 64 := (x 0).isLt; omega⟩)

/-- 64 rows of the result from `b` on. -/
def chunkG (Z : S6144x768.Idx → Elt F .f32) (b : ℕ) (hb : b + 64 ≤ 6144) : S64x768.Idx → Elt F .f32 :=
  fun x => Z (i2 ⟨b + (x 0).val, by have : (x 0).val < 64 := (x 0).isLt; omega⟩ (x 1))

variable (Y : S9216x768.Idx → Elt F .f32) (PF : S6144.Idx → BitVec 32) (hPF : ∀ n, (PF n).toNat < 9216)

theorem credit0 (o : ℕ) (h1 hrk) : ∑ k, ((r0V.slice (Rect.unit (s := S64x768) ![0, o] S64x128.size h1) hrk).slice (S64x128.rowRect gathers_S9216x128_S64x128.axis' k)
      (S64x128.stride_rowRect gathers_S9216x128_S64x128.axis' k)).view.dmaCredit = (r0V.slice (Rect.unit (s := S64x768) ![0, o] S64x128.size h1) hrk).view.dmaCredit := by
  change ∑ _k : Fin 64, sig.dmaCredit .scVector (Kind.table .scVector .vmem) r0V.view.buf (S64x128.rowShape gathers_S9216x128_S64x128.axis') .f32
    = sig.dmaCredit .scVector (Kind.table .scVector .vmem) r0V.view.buf S64x128 .f32
  decide

theorem credit1 (o : ℕ) (h1 hrk) : ∑ k, ((r1V.slice (Rect.unit (s := S64x768) ![0, o] S64x128.size h1) hrk).slice (S64x128.rowRect gathers_S9216x128_S64x128.axis' k)
      (S64x128.stride_rowRect gathers_S9216x128_S64x128.axis' k)).view.dmaCredit = (r1V.slice (Rect.unit (s := S64x768) ![0, o] S64x128.size h1) hrk).view.dmaCredit := by
  change ∑ _k : Fin 64, sig.dmaCredit .scVector (Kind.table .scVector .vmem) r1V.view.buf (S64x128.rowShape gathers_S9216x128_S64x128.axis') .f32
    = sig.dmaCredit .scVector (Kind.table .scVector .vmem) r1V.view.buf S64x128 .f32
  decide

theorem yS_emb (o : ℕ) (h2) (r : Fin (S64x128.size gathers_S9216x128_S64x128.axis') → Fin (S9216x128.size gathers_S9216x128_S64x128.axis)) (x : S64x128.Idx) :
    (yS o h2).view.emb (gathers_S9216x128_S64x128.idx r x)
      = (i2 (n := 9216) (m := 768) (r (x 0)) ⟨o + (x 1).val, by have := h2 1; have : (x 1).val < 128 := (x 1).isLt; simp at *; omega⟩ : S9216x768.Idx) := by
  funext a
  match a with
  | 0 => exact Fin.ext (by
      show 0 + 1 * (0 + 1 * (gathers_S9216x128_S64x128.idx r x gathers_S9216x128_S64x128.axis).val) = (r (x 0)).val
      rw [Shape.Gathers.idx_axis]
      show 0 + 1 * (0 + 1 * (r (x 0)).val) = (r (x 0)).val
      omega)
  | 1 => exact Fin.ext (by
      show o + 1 * (0 + 1 * (gathers_S9216x128_S64x128.idx r x 1).val) = o + (x 1).val
      rw [Shape.Gathers.idx_of_ne gathers_S9216x128_S64x128 r x 1 (by decide)]
      show o + 1 * (0 + 1 * (x 1).val) = o + (x 1).val
      omega)

set_option maxRecDepth 65536 in
/-- One column piece of a chunk's gather into the first row buffer. -/
theorem gissue0 (b : ℕ) (hb : b + 64 ≤ 6144) (o : ℕ) {h1 h2 hrk} {hn} {sem : DmaSem sig} {hsrc hp he hsp hr} {Q : PUnit → sProp 𝕄} {q qo : PosShare TreeShare}
    {fd : Buf (Elt F) (r0V.view.loc (V d c j))} :
    iprop(((yS o h2).view.loc (V d c j) ↦[(yS o h2).view.set]{q} Y)
        ∗ ((r0V.slice (Rect.unit (s := S64x768) ![0, o] S64x128.size h1) hrk).view.loc (V d c j)
            ↦[(r0V.slice (Rect.unit (s := S64x768) ![0, o] S64x128.size h1) hrk).view.set]{fullShare} fd)
        ∗ (x0V.view.loc (V d c j) ↦[x0V.view.set]{qo} chunkL PF b hb) ∗ semVal (V d c j, SemLoc.dma sem) 0)
      ⊢ iprop((Transfers.Flight countersEmb (V d c j) (.dma sem) (default : HIx 2)
                (r0V.slice (Rect.unit (s := S64x768) ![0, o] S64x128.size h1) hrk).view.dmaCredit
                  iprop(((r0V.slice (Rect.unit (s := S64x768) ![0, o] S64x128.size h1) hrk).view.loc (V d c j)
                      ↦[(r0V.slice (Rect.unit (s := S64x768) ![0, o] S64x128.size h1) hrk).view.set]{fullShare} chunkG (gath Y PF hPF) b hb)
                    ∗ ((yS o h2).view.loc (V d c j) ↦[(yS o h2).view.set]{q} Y)
                    ∗ (x0V.view.loc (V d c j) ↦[x0V.view.set]{qo} chunkL PF b hb)) -∗ Q ⟨⟩)
          -∗ wp frame (wpE (defs₀ (F := F)) 𝒱₀ (V d c j) none) Set.univ
            (SparseCore.enqueueIndirectGather hp (yS o h2) (r0V.slice (Rect.unit (s := S64x768) ![0, o] S64x128.size h1) hrk)
              gathers_S9216x128_S64x128 x0V hn sem hsrc he hsp hr) Q) := by
  have hrd : ∀ x, x0V.view.read (Elt F) (chunkL PF b hb) x = chunkL PF b hb x := fun x => cast_eq _ _
  have hin : ∀ x, (x0V.view.read (Elt F) (chunkL PF b hb) x).toNat < S9216x128.size gathers_S9216x128_S64x128.axis := fun x => by rw [hrd]; exact hPF _
  have hG : ∀ x, (r0V.slice (Rect.unit (s := S64x768) ![0, o] S64x128.size h1) hrk).view.read (Elt F) (chunkG (gath Y PF hPF) b hb) x
      = (yS o h2).view.read (Elt F) Y (gathers_S9216x128_S64x128.idx (SparseCore.rows (x0V.view.read (Elt F) (chunkL PF b hb)) hn hin) x) := by
    intro x
    refine (cast_eq _ _).trans (Eq.trans ?_ (cast_eq _ _).symm)
    refine Eq.trans ?_ (congrArg Y (yS_emb o h2 _ x).symm)
    refine congrArg Y (funext fun a => ?_)
    match a with
    | 0 => exact Fin.ext (congrArg (fun n => (PF (i1 n)).toNat) (Fin.ext (by
        show b + (0 + 1 * (x 0).val) = b + (S64.rowMajor.symm (Fin.cast hn.symm (x 0)) 0).val
        rw [s64_symm]
        show b + (0 + 1 * (x 0).val) = b + (x 0).val
        omega)))
    | 1 => exact Fin.ext (by
        show o + 1 * (x 1).val = o + (x 1).val
        omega)
  exact wp_gather (d := d) (c := c) (j := j) (src := yS o h2) (dst := r0V.slice (Rect.unit (s := S64x768) ![0, o] S64x128.size h1) hrk) (ix := x0V) (sem := sem) (hsrc := hsrc) (Q := Q) (q := q) (qo := qo)
    (fs := Y) (fd := fd) (G := chunkG (gath Y PF hPF) b hb) (fo := chunkL PF b hb) (hn := hn) (hp := hp) (he := he) (hsp := hsp) (hr := hr) (credit0 o h1 hrk) hin hG

set_option maxRecDepth 65536 in
/-- One column piece of a chunk's gather into the second row buffer. -/
theorem gissue1 (b : ℕ) (hb : b + 64 ≤ 6144) (o : ℕ) {h1 h2 hrk} {hn} {sem : DmaSem sig} {hsrc hp he hsp hr} {Q : PUnit → sProp 𝕄} {q qo : PosShare TreeShare}
    {fd : Buf (Elt F) (r1V.view.loc (V d c j))} :
    iprop(((yS o h2).view.loc (V d c j) ↦[(yS o h2).view.set]{q} Y)
        ∗ ((r1V.slice (Rect.unit (s := S64x768) ![0, o] S64x128.size h1) hrk).view.loc (V d c j)
            ↦[(r1V.slice (Rect.unit (s := S64x768) ![0, o] S64x128.size h1) hrk).view.set]{fullShare} fd)
        ∗ (x1V.view.loc (V d c j) ↦[x1V.view.set]{qo} chunkL PF b hb) ∗ semVal (V d c j, SemLoc.dma sem) 0)
      ⊢ iprop((Transfers.Flight countersEmb (V d c j) (.dma sem) (default : HIx 2)
                (r1V.slice (Rect.unit (s := S64x768) ![0, o] S64x128.size h1) hrk).view.dmaCredit
                  iprop(((r1V.slice (Rect.unit (s := S64x768) ![0, o] S64x128.size h1) hrk).view.loc (V d c j)
                      ↦[(r1V.slice (Rect.unit (s := S64x768) ![0, o] S64x128.size h1) hrk).view.set]{fullShare} chunkG (gath Y PF hPF) b hb)
                    ∗ ((yS o h2).view.loc (V d c j) ↦[(yS o h2).view.set]{q} Y)
                    ∗ (x1V.view.loc (V d c j) ↦[x1V.view.set]{qo} chunkL PF b hb)) -∗ Q ⟨⟩)
          -∗ wp frame (wpE (defs₀ (F := F)) 𝒱₀ (V d c j) none) Set.univ
            (SparseCore.enqueueIndirectGather hp (yS o h2) (r1V.slice (Rect.unit (s := S64x768) ![0, o] S64x128.size h1) hrk)
              gathers_S9216x128_S64x128 x1V hn sem hsrc he hsp hr) Q) := by
  have hrd : ∀ x, x1V.view.read (Elt F) (chunkL PF b hb) x = chunkL PF b hb x := fun x => cast_eq _ _
  have hin : ∀ x, (x1V.view.read (Elt F) (chunkL PF b hb) x).toNat < S9216x128.size gathers_S9216x128_S64x128.axis := fun x => by rw [hrd]; exact hPF _
  have hG : ∀ x, (r1V.slice (Rect.unit (s := S64x768) ![0, o] S64x128.size h1) hrk).view.read (Elt F) (chunkG (gath Y PF hPF) b hb) x
      = (yS o h2).view.read (Elt F) Y (gathers_S9216x128_S64x128.idx (SparseCore.rows (x1V.view.read (Elt F) (chunkL PF b hb)) hn hin) x) := by
    intro x
    refine (cast_eq _ _).trans (Eq.trans ?_ (cast_eq _ _).symm)
    refine Eq.trans ?_ (congrArg Y (yS_emb o h2 _ x).symm)
    refine congrArg Y (funext fun a => ?_)
    match a with
    | 0 => exact Fin.ext (congrArg (fun n => (PF (i1 n)).toNat) (Fin.ext (by
        show b + (0 + 1 * (x 0).val) = b + (S64.rowMajor.symm (Fin.cast hn.symm (x 0)) 0).val
        rw [s64_symm]
        show b + (0 + 1 * (x 0).val) = b + (x 0).val
        omega)))
    | 1 => exact Fin.ext (by
        show o + 1 * (x 1).val = o + (x 1).val
        omega)
  exact wp_gather (d := d) (c := c) (j := j) (src := yS o h2) (dst := r1V.slice (Rect.unit (s := S64x768) ![0, o] S64x128.size h1) hrk) (ix := x1V) (sem := sem) (hsrc := hsrc) (Q := Q) (q := q) (qo := qo)
    (fs := Y) (fd := fd) (G := chunkG (gath Y PF hPF) b hb) (fo := chunkL PF b hb) (hn := hn) (hp := hp) (he := he) (hsp := hsp) (hr := hr) (credit1 o h1 hrk) hin hG

end Tile

end Cert.Proof.Moe

end
-- ==== Proof.Moe.Arrays.lean ====
/-
  What the two TensorCore calls leave in their results' arrays.
-/
module

public import proofs.«01_k».proof.Proof.Moe.Calls
public import proofs.«01_k».proof.Proof.Moe.GatherSteps

@[expose] public section

set_option maxRecDepth 16384

noncomputable section

namespace Cert.Proof.Moe

open Cert.KernelIdeal Cert.KernelIdeal.Gen

open Idealize.ShloMosaic Idealize.ShloMosaic.TcCoe Idealize.ShloMosaic.Pipeline
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The experts' result is written back at every point. -/
theorem ffn_flush (tb : pre1.Contents (Elt F)) (hO : ok1 (F := F) tb) (t : Fin (cfg1 (F := F) ⟨tb, hO⟩).N) :
    ((cfg1 (F := F) ⟨tb, hO⟩).win 5).flush t = true :=
  ((fun t => (Pipeline.Window.flushOf_reads cc1_transform_5 reads1_5 hreads1_5 0 (by decide) (by decide) (Pipeline.Window.sep_of_coord cc1_transform_5 0 0 (fun _ => rfl) (by decide)) (P := 1) (m := 0) (by decide) rfl t).mpr (Nat.mod_one _) : ∀ t : Fin grid1.N, Pipeline.Window.flushOf grid1 true cc1_transform_5 t = true)) t

section

variable (tb : pre1.Contents (Elt F)) (hO : ok1 (F := F) tb) (V : Valuation τ sig (Elt F)) (c : Dev nD)

/-- The point whose block holds row `i`. -/
def ffnPt (tb : pre1.Contents (Elt F)) (hO : ok1 (F := F) tb) (i : S9216x768.Idx) : Fin (cfg1 (F := F) ⟨tb, hO⟩).N :=
  ⟨(i 0).val / 128, lt_of_lt_of_eq (Nat.div_lt_of_lt_mul (show (i 0).val < 128 * 72 from (i 0).isLt)) (show 72 = (cfg1 (F := F) ⟨tb, hO⟩).N from (Gen.N_1).symm)⟩

/-- Where in that block. -/
def ffnIn (i : S9216x768.Idx) : S128x768.Idx :=
  i2 ⟨(i 0).val % 128, Nat.mod_lt _ (by decide)⟩ (i 1)

/-- The call's result: every block at the body's value. -/
def ffnVal (tb : pre1.Contents (Elt F)) (hO : ok1 (F := F) tb) (V : Valuation τ sig (Elt F)) (c : Dev nD) (i : S9216x768.Idx) : F .f32 :=
  ffnRes tb hO V c (ffnPt tb hO i) (ffnIn i)

theorem ffn_pt (t : Fin (cfg1 (F := F) ⟨tb, hO⟩).N) : ((grid1.coords t) 0).val = t.val := by
  rw [Grid.coords_val (G := grid1) t 0 (S := 1) (B := 72) (by decide) rfl, Nat.div_one]
  exact Nat.mod_eq_of_lt (lt_of_lt_of_eq t.isLt Gen.N_1)

/-- Where entry `y` of the block written at grid point `t` lies in the result. -/
def ffnEmb (t : Fin (cfg1 (F := F) ⟨tb, hO⟩).N) (y : S128x768.Idx) : S9216x768.Idx := (((cfg1 (F := F) ⟨tb, hO⟩).win 5).blk t).view.emb y

theorem ffn_emb (t : Fin (cfg1 (F := F) ⟨tb, hO⟩).N) (y : S128x768.Idx) :
    (ffnEmb tb hO t y 0).val = 128 * t.val + (y 0).val
      ∧ (ffnEmb tb hO t y 1).val = (y 1).val := by
  constructor
  · refine Eq.trans (((cfg1 (F := F) ⟨tb, hO⟩).win 5).rect_emb_val t y (0 : Fin 2)) ?_
    show (BitVec.ofNat 32 ((grid1.coords t) 0).val).toNat * 128 + (y 0).val = _
    rw [ffn_pt]
    have : t.val < 72 := lt_of_lt_of_eq t.isLt Gen.N_1
    rw [BitVec.toNat_ofNat]
    omega
  · refine Eq.trans (((cfg1 (F := F) ⟨tb, hO⟩).win 5).rect_emb_val t y (1 : Fin 2)) ?_
    show 0 * 768 + (y 1).val = _
    omega

theorem ffn_mem (i : S9216x768.Idx) : ffnEmb tb hO (ffnPt tb hO i) (ffnIn i) = i := by
  have h := ffn_emb tb hO (ffnPt tb hO i) (ffnIn i)
  refine funext fun (a : Fin 2) => Fin.ext ?_
  match a with
  | 0 => exact h.1.trans (Nat.div_add_mod (i 0).val 128)
  | 1 => exact h.2

theorem ffn_arr : (ffnDat tb hO V c).arrAt 5 (cfg1 (F := F) ⟨tb, hO⟩).N = ffnVal tb hO V c := by
  refine (ffnDat tb hO V c).arrAt_eq_of_cover 5 (ffnVal tb hO V c) (fun t _ => funext fun (y : S128x768.Idx) => ?_) (fun (i : S9216x768.Idx) => ?_)
  · have h := ffn_emb tb hO t y
    have hy : (y 0).val < 128 := (y 0).isLt
    have e1 : ffnPt tb hO (ffnEmb tb hO t y) = t := Fin.ext (by
      show (ffnEmb tb hO t y 0).val / 128 = t.val
      rw [h.1]; omega)
    have e2 : ffnIn (ffnEmb tb hO t y) = y := funext fun (a : Fin 2) => Fin.ext (by
      match a with
      | 0 =>
        show (ffnEmb tb hO t y 0).val % 128 = (y 0).val
        rw [h.1]; omega
      | 1 => exact h.2)
    show (ffnDat tb hO V c).after 5 t y = ffnRes tb hO V c (ffnPt tb hO (ffnEmb tb hO t y)) (ffnIn (ffnEmb tb hO t y))
    rw [ffn_after5, e1, e2]
  · refine ⟨ffnPt tb hO i, ffn_flush tb hO _, ?_⟩
    exact Eq.mp (congrArg (fun j => j ∈ (((cfg1 (F := F) ⟨tb, hO⟩).win 5).blk (ffnPt tb hO i)).view.set) (ffn_mem tb hO i))
      ((((cfg1 (F := F) ⟨tb, hO⟩).win 5).blk (ffnPt tb hO i)).view.emb_mem_set (ffnIn i))

end

section

variable (V : Valuation τ sig (Elt F)) (c : Dev nD)

/-- The point whose block holds row `i`. -/
def combPt  (i : S2048x768.Idx) : Fin (cfg3).N :=
  ⟨(i 0).val / 512, lt_of_lt_of_eq (Nat.div_lt_of_lt_mul (show (i 0).val < 512 * 4 from (i 0).isLt)) (show 4 = (cfg3).N from (Gen.N_3).symm)⟩

/-- Where in that block. -/
def combIn (i : S2048x768.Idx) : S512x768.Idx :=
  i2 ⟨(i 0).val % 512, Nat.mod_lt _ (by decide)⟩ (i 1)

/-- The call's result: every block at the body's value. -/
def combVal  (V : Valuation τ sig (Elt F)) (c : Dev nD) (i : S2048x768.Idx) : F .f32 :=
  combRes  V c (combPt  i) (combIn i)

theorem comb_pt (t : Fin (cfg3).N) : ((grid3.coords t) 0).val = t.val := by
  rw [Grid.coords_val (G := grid3) t 0 (S := 1) (B := 4) (by decide) rfl, Nat.div_one]
  exact Nat.mod_eq_of_lt (lt_of_lt_of_eq t.isLt Gen.N_3)

/-- Where entry `y` of the block written at grid point `t` lies in the result. -/
def combEmb (t : Fin (cfg3).N) (y : S512x768.Idx) : S2048x768.Idx := (((cfg3).win 7).blk t).view.emb y

theorem comb_emb (t : Fin (cfg3).N) (y : S512x768.Idx) :
    (combEmb  t y 0).val = 512 * t.val + (y 0).val
      ∧ (combEmb  t y 1).val = (y 1).val := by
  constructor
  · refine Eq.trans (((cfg3).win 7).rect_emb_val t y (0 : Fin 2)) ?_
    show (BitVec.ofNat 32 ((grid3.coords t) 0).val).toNat * 512 + (y 0).val = _
    rw [comb_pt]
    have : t.val < 4 := lt_of_lt_of_eq t.isLt Gen.N_3
    rw [BitVec.toNat_ofNat]
    omega
  · refine Eq.trans (((cfg3).win 7).rect_emb_val t y (1 : Fin 2)) ?_
    show 0 * 768 + (y 1).val = _
    omega

theorem comb_mem (i : S2048x768.Idx) : combEmb  (combPt  i) (combIn i) = i := by
  have h := comb_emb  (combPt  i) (combIn i)
  refine funext fun (a : Fin 2) => Fin.ext ?_
  match a with
  | 0 => exact h.1.trans (Nat.div_add_mod (i 0).val 512)
  | 1 => exact h.2

theorem comb_arr : (combDat  V c).arrAt 7 (cfg3).N = combVal  V c := by
  refine (combDat  V c).arrAt_eq_of_cover 7 (combVal  V c) (fun t _ => funext fun (y : S512x768.Idx) => ?_) (fun (i : S2048x768.Idx) => ?_)
  · have h := comb_emb  t y
    have hy : (y 0).val < 512 := (y 0).isLt
    have e1 : combPt  (combEmb  t y) = t := Fin.ext (by
      show (combEmb  t y 0).val / 512 = t.val
      rw [h.1]; omega)
    have e2 : combIn (combEmb  t y) = y := funext fun (a : Fin 2) => Fin.ext (by
      match a with
      | 0 =>
        show (combEmb  t y 0).val % 512 = (y 0).val
        rw [h.1]; omega
      | 1 => exact h.2)
    show (combDat  V c).after 7 t y = combRes  V c (combPt  (combEmb  t y)) (combIn (combEmb  t y))
    rw [comb_after7, e1, e2]
  · refine ⟨combPt  i, flush3_7 _, ?_⟩
    exact Eq.mp (congrArg (fun j => j ∈ (((cfg3).win 7).blk (combPt  i)).view.set) (comb_mem  i))
      ((((cfg3).win 7).blk (combPt  i)).view.emb_mem_set (combIn i))

end

end Cert.Proof.Moe

end
-- ==== Proof.Moe.Sems.lean ====
/-
  A tile's own semaphores and buffers, the ones each of the two calls uses named.
-/
module

public import proofs.«01_k».proof.Proof.Moe.GatherSteps

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (c : Fin τ.nSC) (j : Fin τ.nSub)

/-- A family of a tile's own semaphores and the rest of them. -/
theorem ownSems_split {ι : Type} [Fintype ι] (f : ι → DmaSem sig) (hf : Function.Injective f) (hs : ∀ i, (SemLoc.dma (f i) : SemLoc sig).isScoped .scVector = true) :
    (ownSems0 (V d c j) : sProp 𝕄)
      = iprop((bigSep Finset.univ fun i => semVal (V d c j, SemLoc.dma (f i)) 0)
          ∗ bigSep (ownCells (V d c j) \ Finset.univ.map ⟨fun i => ((V d c j, SemLoc.dma (f i)) : GSem nD τ sig), fun a b h => hf (by simpa using h)⟩)
              fun g => semVal g 0) := by
  classical
  unfold SparseCore.Cfg.ownSems0
  rw [BI.bigSep_sdiff_split (s := ownCells (V d c j)) (t := Finset.univ.map ⟨fun i => ((V d c j, SemLoc.dma (f i)) : GSem nD τ sig), fun a b h => hf (by simpa using h)⟩)
    (fun g hg => by
      obtain ⟨i, -, rfl⟩ := Finset.mem_map.mp hg
      exact mem_ownCells.mpr ⟨rfl, hs i⟩), SparseCore.bigSep_map]
  rfl

/-- A family of a tile's own buffers, each at some contents, and the rest of them. -/
theorem ownBufs_split {n : ℕ} (f : Fin n → Ref sig .scVector) (hf : Function.Injective f) (ho : ∀ i, ((Proc.scVector c j).devRef (f i)).owner = .proc (Proc.scVector c j)) :
    (ownBufs (V d c j) : sProp 𝕄)
      = iprop((bigSep Finset.univ fun i => iprop(∃ g, (V d c j).loc (f i) ↦{fullShare} g))
          ∗ bigSep (ownRefs (τ := τ) (.scVector c j) \ Finset.univ.map ⟨fun i => (Proc.scVector c j).devRef (f i), fun a b h => hf (Proc.devRef_injective _ h)⟩)
              fun b => iprop(∃ g, ((d, b) : Loc nD τ sig) ↦{fullShare} g)) := by
  classical
  unfold SparseCore.Cfg.ownBufs
  rw [BI.bigSep_sdiff_split (s := ownRefs (τ := τ) (.scVector c j)) (t := Finset.univ.map ⟨fun i => (Proc.scVector c j).devRef (f i), fun a b h => hf (Proc.devRef_injective _ h)⟩)
    (fun g hg => by
      obtain ⟨i, -, rfl⟩ := Finset.mem_map.mp hg
      exact SparseCore.Cfg.mem_ownRefs_of_owner (p := Proc.scVector c j) (ho i)), SparseCore.bigSep_map]
  rfl

/-! ## The gather's -/

abbrev gsemAt (a b : ℕ) (h : ∀ x, (![a, b] : Fin 2 → ℕ) x + S1x1.size x ≤ S2x6.size x) : DmaSem sig := ((cc2_scratch4.slice (Rect.unit (s := S2x6) ![a, b] S1x1.size h)).squeeze S_ squeezes_S1x1_S_).sem

theorem inbSem (s : Fin 2) (k : Fin 6) : ∀ x, (![s.val, k.val] : Fin 2 → ℕ) x + S1x1.size x ≤ S2x6.size x := by
  revert s k; decide
/-- The semaphore of a column piece's gather into row buffer `s`. -/
def gA (s : Fin 2) (k : Fin 6) : DmaSem sig := gsemAt s.val k.val (inbSem s k)
/-- The semaphores of the plain copies. -/
def gC : Fin 6 → DmaSem sig := ![cc2_scoped0.sem, cc2_scoped1.sem, cc2_scoped2.sem, cc2_scoped3.sem, cc2_scoped4.sem, cc2_scoped5.sem]
def gsem : Fin 6 ⊕ (Fin 6 ⊕ Fin 6) → DmaSem sig := Sum.elim (gA 0) (Sum.elim (gA 1) gC)

theorem gsem_inj : Function.Injective gsem := by decide
theorem gsem_scoped : ∀ i, (SemLoc.dma (gsem i) : SemLoc sig).isScoped .scVector = true := by decide

def gbuf : Fin 4 → Ref sig .scVector := ![cc2_scratch0, cc2_scratch1, cc2_scratch2, cc2_scratch3]
theorem gbuf_inj : Function.Injective gbuf := by decide
theorem gbuf_owner (i : Fin 4) : ((Proc.scVector c j).devRef (gbuf i)).owner = .proc (Proc.scVector c j) := by
  match i with | 0 => rfl | 1 => rfl | 2 => rfl | 3 => rfl

end Cert.Proof.Moe

end
-- ==== Proof.Moe.GatherWaves.lean ====
/-
  The gather call's tile: the six column pieces of a chunk's gather, issued together and waited for together.
-/
module

public import proofs.«01_k».proof.Proof.Moe.Sems

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile

variable (d : Dev nD) (c : Fin τ.nSC) (j : Fin τ.nSub)

/-- A step of a tile: from `A`, a program that leaves `B`. -/
def Step (p : Prog (TpuEff nD τ sig (Elt F) Λ₀ (V d c j : Thread nD τ).2) PUnit) (A B : sProp 𝕄) : Prop :=
  ∀ Q : PUnit → sProp 𝕄, A ⊢ iprop((B -∗ Q ⟨⟩) -∗ wp frame (wpE (defs₀ (F := F)) 𝒱₀ (V d c j) none) Set.univ p Q)

variable {d c j}

theorem step_frame {p : Prog (TpuEff nD τ sig (Elt F) Λ₀ (V d c j : Thread nD τ).2) PUnit} {A B : sProp 𝕄} (R : sProp 𝕄) (h : Step d c j p A B) :
    Step d c j p iprop(A ∗ R) iprop(B ∗ R) := by
  intro Q
  iintro ⟨HA, HR⟩ Hk
  iapply (h Q) $$ HA
  iintro HB
  iapply Hk
  isplitl [HB] <;> iassumption

/-- Six steps on six resources, one after another. -/
theorem steps6 {p0 p1 p2 p3 p4 p5 : Prog (TpuEff nD τ sig (Elt F) Λ₀ (V d c j : Thread nD τ).2) PUnit} {A B : Fin 6 → sProp 𝕄} {X : sProp 𝕄}
    (h0 : Step d c j p0 iprop(A 0 ∗ X) iprop(B 0 ∗ X)) (h1 : Step d c j p1 iprop(A 1 ∗ X) iprop(B 1 ∗ X)) (h2 : Step d c j p2 iprop(A 2 ∗ X) iprop(B 2 ∗ X))
    (h3 : Step d c j p3 iprop(A 3 ∗ X) iprop(B 3 ∗ X)) (h4 : Step d c j p4 iprop(A 4 ∗ X) iprop(B 4 ∗ X)) (h5 : Step d c j p5 iprop(A 5 ∗ X) iprop(B 5 ∗ X))
    (Q : PUnit → sProp 𝕄) :
    iprop((bigSep Finset.univ A) ∗ X) ⊢ iprop((iprop((bigSep Finset.univ B) ∗ X) -∗ Q ⟨⟩)
      -∗ wp frame (wpE (defs₀ (F := F)) 𝒱₀ (V d c j) none) Set.univ p0 fun _ => wp frame (wpE (defs₀ (F := F)) 𝒱₀ (V d c j) none) Set.univ p1
        fun _ => wp frame (wpE (defs₀ (F := F)) 𝒱₀ (V d c j) none) Set.univ p2 fun _ => wp frame (wpE (defs₀ (F := F)) 𝒱₀ (V d c j) none) Set.univ p3
        fun _ => wp frame (wpE (defs₀ (F := F)) 𝒱₀ (V d c j) none) Set.univ p4 fun _ => wp frame (wpE (defs₀ (F := F)) 𝒱₀ (V d c j) none) Set.univ p5 Q) := by
  rw [bigSep_fin6, bigSep_fin6]
  iintro ⟨⟨A0, A1, A2, A3, A4, A5⟩, HX⟩ Hk
  iapply (h0 _) $$ [A0 HX]
  · isplitl [A0] <;> iassumption
  iintro ⟨B0, HX⟩
  iapply (h1 _) $$ [A1 HX]
  · isplitl [A1] <;> iassumption
  iintro ⟨B1, HX⟩
  iapply (h2 _) $$ [A2 HX]
  · isplitl [A2] <;> iassumption
  iintro ⟨B2, HX⟩
  iapply (h3 _) $$ [A3 HX]
  · isplitl [A3] <;> iassumption
  iintro ⟨B3, HX⟩
  iapply (h4 _) $$ [A4 HX]
  · isplitl [A4] <;> iassumption
  iintro ⟨B4, HX⟩
  iapply (h5 _) $$ [A5 HX]
  · isplitl [A5] <;> iassumption
  iintro ⟨B5, HX⟩
  iapply Hk
  isplitr [HX]
  · isplitl [B0]; · iexact B0
    isplitl [B1]; · iexact B1
    isplitl [B2]; · iexact B2
    isplitl [B3]; · iexact B3
    isplitl [B4] <;> iassumption
  · iexact HX

/-- What the waits of a tile leave of what it owes: the waits added are all at the plain level. -/
def owesW (d : Dev nD) (c : Fin τ.nSC) (j : Fin τ.nSub) (O : CellTallies nD τ sig (HIx 2)) (W : Waits sig (HIx 2)) : sProp 𝕄 :=
  iprop((∃ W', ⌜∀ p ∈ W', p ∈ W ∨ p.2 = none⌝ ∗ owes (V d c j) O W') ∗ Transfers.MayWaits (V d c j) (default : HIx 2) O)

theorem step_wait {sp sp' : Space} {s s' : Shape} {e e' : EltTy} {κ' : Kind} {src : Memref sig .scVector sp' s' e'} {dst : Memref sig κ' sp s e} {sem : DmaSem sig}
    {hsrc : src.view.WordExact} {hdst : dst.view.WordExact} {N : ℕ} (hN : dst.view.dmaCredit = N) {R : sProp 𝕄}
    {O : CellTallies nD τ sig (HIx 2)} {W : Waits sig (HIx 2)} :
    Step d c j (.op (.waitDma2 sem src dst hsrc hdst) fun _ => .ret ⟨⟩)
      iprop(Transfers.Flight countersEmb (V d c j) (.dma sem) (default : HIx 2) N R ∗ owesW d c j O W)
      iprop((R ∗ semVal (V d c j, SemLoc.dma sem) 0) ∗ owesW d c j O W) := by
  intro Q
  unfold owesW
  iintro ⟨Hfl, ⟨%W', %hW, HO⟩, #Hmw⟩ Hk
  iapply (wp_wait hN) $$ [Hfl HO]
  · isplitl [Hfl]; · iexact Hfl
    isplitl [HO]; · iexact HO
    iexact Hmw
  iintro ⟨HR, Hv, HO⟩
  iapply Hk
  isplitl [HR Hv]
  · isplitl [HR] <;> iassumption
  isplitl [HO]
  · iexists (insert (SemLoc.dma sem, default) W')
    isplitr
    · ipureintro
      intro p hp
      rcases Finset.mem_insert.mp hp with rfl | hp
      · exact Or.inr rfl
      · exact hW p hp
    · iexact HO
  · iexact Hmw

/-- A plain copy with its wait. -/
theorem copyW {sp sp' : Space} {s : Shape} {e : EltTy} {src : Memref sig .scVector sp s e} {dst : Memref sig .scVector sp' s e} {sem : DmaSem sig}
    {hsrc : src.view.WordExact} {hdst : dst.view.WordExact} {hsem : DmaTarget.Typed (nD := nD) (τ := τ) (p := (V d c j : Thread nD τ).2) sp (.dma sem) (.here dst)}
    {Q : PUnit → sProp 𝕄} {q : PosShare TreeShare} {fs : Buf (Elt F) (src.view.loc (V d c j))} {fd G : Buf (Elt F) (dst.view.loc (V d c j))}
    {O : CellTallies nD τ sig (HIx 2)} {W : Waits sig (HIx 2)} (hN0 : 0 < dst.view.dmaCredit)
    (hG : ∀ x, dst.view.read (Elt F) G x = src.view.read (Elt F) fs x) :
    iprop((src.view.loc (V d c j) ↦[src.view.set]{q} fs) ∗ (dst.view.loc (V d c j) ↦[dst.view.set]{fullShare} fd) ∗ semVal (V d c j, SemLoc.dma sem) 0
        ∗ owesW d c j O W)
      ⊢ iprop((iprop((dst.view.loc (V d c j) ↦[dst.view.set]{fullShare} G)
                ∗ (src.view.loc (V d c j) ↦[src.view.set]{q} fs) ∗ semVal (V d c j, SemLoc.dma sem) 0 ∗ owesW d c j O W) -∗ Q ⟨⟩)
          -∗ wp frame (wpE (defs₀ (F := F)) 𝒱₀ (V d c j) none) Set.univ (Prog.lift (.enqueueDma src (.here dst) (.dma sem) hsrc hdst hsem))
            fun _ => wp frame (wpE (defs₀ (F := F)) 𝒱₀ (V d c j) none) Set.univ (Prog.lift (.waitDma2 sem src dst hsrc hdst)) Q) := by
  unfold owesW
  iintro ⟨Hs, Hd, Hv, ⟨%W', %hW, HO⟩, #Hmw⟩ Hk
  iapply (wp_copy (fs := fs) (fd := fd) (q := q) hN0) $$ [Hs Hd Hv HO]
  · isplitl [Hs]; · iexact Hs
    isplitl [Hd]; · iexact Hd
    isplitl [Hv]; · iexact Hv
    isplitl [HO]; · iexact HO
    iexact Hmw
  iintro ⟨Hd, Hs, Hv, HO⟩
  iapply Hk
  isplitl [Hd]
  · iapply (Entails.of_eq (pointsTo_congr fun i hi => by
      obtain ⟨x, -, rfl⟩ := Finset.mem_map.mp hi
      rw [View.write_emb_of_mem _ _ (Finset.mem_univ x)]
      exact (congrArg _ (hG x)).symm.trans (cast_cast_eq _ _))) $$ Hd
  isplitl [Hs]; · iexact Hs
  isplitl [Hv]; · iexact Hv
  isplitl [HO]
  · iexists (insert (SemLoc.dma sem, default) W')
    isplitr
    · ipureintro
      intro p hp
      rcases Finset.mem_insert.mp hp with rfl | hp
      · exact Or.inr rfl
      · exact hW p hp
    · iexact HO
  · iexact Hmw

/-! ## The six pieces of a chunk -/

variable (d c j)
variable (Y : S9216x768.Idx → Elt F .f32) (PF : S6144.Idx → BitVec 32) (hPF : ∀ n, (PF n).toNat < 9216)

/-- What the gather of one column piece brings back: the piece of the row buffer at the gathered rows, the source's
    columns, and the piece's share of the list. -/
def lane0 (q : PosShare TreeShare) (b : ℕ) (hb : b + 64 ≤ 6144) (k : Fin 6) : sProp 𝕄 :=
  iprop((r0V.view.loc (V d c j) ↦[(colR k).set]{fullShare} chunkG (gath Y PF hPF) b hb) ∗ (yV.view.loc (V d c j) ↦[(colY k).set]{q} Y)
    ∗ (x0V.view.loc (V d c j) ↦{pieceOf fullShare 6 (by decide) k} chunkL PF b hb))
def lane1 (q : PosShare TreeShare) (b : ℕ) (hb : b + 64 ≤ 6144) (k : Fin 6) : sProp 𝕄 :=
  iprop((r1V.view.loc (V d c j) ↦[(colR k).set]{fullShare} chunkG (gath Y PF hPF) b hb) ∗ (yV.view.loc (V d c j) ↦[(colY k).set]{q} Y)
    ∗ (x1V.view.loc (V d c j) ↦{pieceOf fullShare 6 (by decide) k} chunkL PF b hb))

theorem x0_pieces (f : Buf (Elt F) (x0V.view.loc (V d c j))) :
    (x0V.view.loc (V d c j) ↦{fullShare} f : sProp 𝕄) = bigSep Finset.univ fun k => x0V.view.loc (V d c j) ↦{pieceOf fullShare 6 (by decide) k} f :=
  pointsTo_piecesOf Finset.univ f (by decide) fullShare
theorem x1_pieces (f : Buf (Elt F) (x1V.view.loc (V d c j))) :
    (x1V.view.loc (V d c j) ↦{fullShare} f : sProp 𝕄) = bigSep Finset.univ fun k => x1V.view.loc (V d c j) ↦{pieceOf fullShare 6 (by decide) k} f :=
  pointsTo_piecesOf Finset.univ f (by decide) fullShare

theorem lane0_join (q : PosShare TreeShare) (b : ℕ) (hb : b + 64 ≤ 6144) :
    (bigSep Finset.univ (lane0 d c j Y PF hPF q b hb))
      = iprop((r0V.view.loc (V d c j) ↦{fullShare} chunkG (gath Y PF hPF) b hb) ∗ (yV.view.loc (V d c j) ↦{q} Y) ∗ (x0V.view.loc (V d c j) ↦{fullShare} chunkL PF b hb)) := by
  unfold lane0
  rw [bigSep_sep', bigSep_sep', ← r0_cols, ← y_cols, x0_pieces]
theorem lane1_join (q : PosShare TreeShare) (b : ℕ) (hb : b + 64 ≤ 6144) :
    (bigSep Finset.univ (lane1 d c j Y PF hPF q b hb))
      = iprop((r1V.view.loc (V d c j) ↦{fullShare} chunkG (gath Y PF hPF) b hb) ∗ (yV.view.loc (V d c j) ↦{q} Y) ∗ (x1V.view.loc (V d c j) ↦{fullShare} chunkL PF b hb)) := by
  unfold lane1
  rw [bigSep_sep', bigSep_sep', ← r1_cols, ← y_cols, x1_pieces]

/-- What one column piece's gather is issued from. -/
def pre0 (q : PosShare TreeShare) (b : ℕ) (hb : b + 64 ≤ 6144) (fd : Buf (Elt F) (r0V.view.loc (V d c j))) (sm : Fin 6 → DmaSem sig) (k : Fin 6) : sProp 𝕄 :=
  iprop((r0V.view.loc (V d c j) ↦[(colR k).set]{fullShare} fd) ∗ (yV.view.loc (V d c j) ↦[(colY k).set]{q} Y)
    ∗ (x0V.view.loc (V d c j) ↦{pieceOf fullShare 6 (by decide) k} chunkL PF b hb) ∗ semVal (V d c j, SemLoc.dma (sm k)) 0)
def pre1 (q : PosShare TreeShare) (b : ℕ) (hb : b + 64 ≤ 6144) (fd : Buf (Elt F) (r1V.view.loc (V d c j))) (sm : Fin 6 → DmaSem sig) (k : Fin 6) : sProp 𝕄 :=
  iprop((r1V.view.loc (V d c j) ↦[(colR k).set]{fullShare} fd) ∗ (yV.view.loc (V d c j) ↦[(colY k).set]{q} Y)
    ∗ (x1V.view.loc (V d c j) ↦{pieceOf fullShare 6 (by decide) k} chunkL PF b hb) ∗ semVal (V d c j, SemLoc.dma (sm k)) 0)

theorem pre0_join (q : PosShare TreeShare) (b : ℕ) (hb : b + 64 ≤ 6144) (fd) (sm : Fin 6 → DmaSem sig) :
    (bigSep Finset.univ (pre0 d c j Y PF q b hb fd sm))
      = iprop((r0V.view.loc (V d c j) ↦{fullShare} fd) ∗ (yV.view.loc (V d c j) ↦{q} Y) ∗ (x0V.view.loc (V d c j) ↦{fullShare} chunkL PF b hb)
        ∗ bigSep Finset.univ fun k => semVal (V d c j, SemLoc.dma (sm k)) 0) := by
  unfold pre0
  rw [bigSep_sep', bigSep_sep', bigSep_sep', ← r0_cols, ← y_cols, x0_pieces]
theorem pre1_join (q : PosShare TreeShare) (b : ℕ) (hb : b + 64 ≤ 6144) (fd) (sm : Fin 6 → DmaSem sig) :
    (bigSep Finset.univ (pre1 d c j Y PF q b hb fd sm))
      = iprop((r1V.view.loc (V d c j) ↦{fullShare} fd) ∗ (yV.view.loc (V d c j) ↦{q} Y) ∗ (x1V.view.loc (V d c j) ↦{fullShare} chunkL PF b hb)
        ∗ bigSep Finset.univ fun k => semVal (V d c j, SemLoc.dma (sm k)) 0) := by
  unfold pre1
  rw [bigSep_sep', bigSep_sep', bigSep_sep', ← r1_cols, ← y_cols, x1_pieces]

theorem set_r0c (k : Fin 6) (hrk) : (r0V.slice (colR k) hrk).view.set = (colR k).set := View.set_slice_whole _ _
theorem set_r1c (k : Fin 6) (hrk) : (r1V.slice (colR k) hrk).view.set = (colR k).set := View.set_slice_whole _ _
theorem set_x0 : x0V.view.set = Finset.univ := View.set_whole _
theorem set_x1 : x1V.view.set = Finset.univ := View.set_whole _

/-- The words that one column piece's gather signals. -/
def gN : ℕ := sig.dmaCredit .scVector (Kind.table .scVector .vmem) r0V.view.buf S64x128 .f32

/-- One column piece's gather issued. -/
abbrev gq0 (o : ℕ) (h1 : ∀ a, (![0, o] : Fin 2 → ℕ) a + S64x128.size a ≤ S64x768.size a) (h2 : ∀ a, (![0, o] : Fin 2 → ℕ) a + S9216x128.size a ≤ S9216x768.size a)
    (sem : DmaSem sig) : Prog (TpuEff nD τ sig (Elt F) Λ₀ (V d c j : Thread nD τ).2) PUnit :=
  SparseCore.enqueueIndirectGather rfl (yS o h2) (r0V.slice (Rect.unit (s := S64x768) ![0, o] S64x128.size h1) (fun _ => rfl)) gathers_S9216x128_S64x128 x0V rfl sem
    (View.wordExact_bits rfl) rfl (Or.inl rfl)
abbrev gq1 (o : ℕ) (h1 : ∀ a, (![0, o] : Fin 2 → ℕ) a + S64x128.size a ≤ S64x768.size a) (h2 : ∀ a, (![0, o] : Fin 2 → ℕ) a + S9216x128.size a ≤ S9216x768.size a)
    (sem : DmaSem sig) : Prog (TpuEff nD τ sig (Elt F) Λ₀ (V d c j : Thread nD τ).2) PUnit :=
  SparseCore.enqueueIndirectGather rfl (yS o h2) (r1V.slice (Rect.unit (s := S64x768) ![0, o] S64x128.size h1) (fun _ => rfl)) gathers_S9216x128_S64x128 x1V rfl sem
    (View.wordExact_bits rfl) rfl (Or.inl rfl)
/-- One column piece's gather waited for. -/
abbrev gw0 (o : ℕ) (h1 : ∀ a, (![0, o] : Fin 2 → ℕ) a + S64x128.size a ≤ S64x768.size a) (h2 : ∀ a, (![0, o] : Fin 2 → ℕ) a + S9216x128.size a ≤ S9216x768.size a)
    (sem : DmaSem sig) : Prog (TpuEff nD τ sig (Elt F) Λ₀ (V d c j : Thread nD τ).2) PUnit :=
  SparseCore.waitIndirectGather sem (yS o h2) (r0V.slice (Rect.unit (s := S64x768) ![0, o] S64x128.size h1) (fun _ => rfl)) (View.wordExact_bits rfl) (View.wordExact_bits rfl)
abbrev gw1 (o : ℕ) (h1 : ∀ a, (![0, o] : Fin 2 → ℕ) a + S64x128.size a ≤ S64x768.size a) (h2 : ∀ a, (![0, o] : Fin 2 → ℕ) a + S9216x128.size a ≤ S9216x768.size a)
    (sem : DmaSem sig) : Prog (TpuEff nD τ sig (Elt F) Λ₀ (V d c j : Thread nD τ).2) PUnit :=
  SparseCore.waitIndirectGather sem (yS o h2) (r1V.slice (Rect.unit (s := S64x768) ![0, o] S64x128.size h1) (fun _ => rfl)) (View.wordExact_bits rfl) (View.wordExact_bits rfl)

/-- A piece in flight. -/
def fly0 (q : PosShare TreeShare) (b : ℕ) (hb : b + 64 ≤ 6144) (sm : Fin 6 → DmaSem sig) (k : Fin 6) : sProp 𝕄 :=
  Transfers.Flight countersEmb (V d c j) (.dma (sm k)) (default : HIx 2) gN (lane0 d c j Y PF hPF q b hb k)
def fly1 (q : PosShare TreeShare) (b : ℕ) (hb : b + 64 ≤ 6144) (sm : Fin 6 → DmaSem sig) (k : Fin 6) : sProp 𝕄 :=
  Transfers.Flight countersEmb (V d c j) (.dma (sm k)) (default : HIx 2) gN (lane1 d c j Y PF hPF q b hb k)

theorem issue0 (q : PosShare TreeShare) (b : ℕ) (hb : b + 64 ≤ 6144) (fd) (sm : Fin 6 → DmaSem sig) (k : Fin 6) :
    Step d c j (gq0 d c j (128 * k.val) (inbR k) (inbY k) (sm k)) iprop(pre0 d c j Y PF q b hb fd sm k ∗ emp) iprop(fly0 d c j Y PF hPF q b hb sm k ∗ emp) := by
  intro Q
  unfold pre0
  iintro ⟨⟨Hr, Hy, Hx, Hv⟩, -⟩ Hk
  iapply (gissue0 d c j Y PF hPF b hb (128 * k.val) (q := q) (qo := pieceOf fullShare 6 (by decide) k) (fd := fd)) $$ [Hr Hy Hx Hv]
  · isplitl [Hy]; · rw [set_yS]; iexact Hy
    isplitl [Hr]; · rw [set_r0c k]; iexact Hr
    isplitl [Hx]; · rw [set_x0]; iexact Hx
    iexact Hv
  iintro Hfl
  iapply Hk
  isplitl
  · unfold fly0 lane0
    rw [set_yS, set_r0c k, set_x0]
    iapply (Transfers.Flight_mono countersEmb (V d c j) Entails.refl) $$ Hfl
  · iempintro

theorem issue1 (q : PosShare TreeShare) (b : ℕ) (hb : b + 64 ≤ 6144) (fd) (sm : Fin 6 → DmaSem sig) (k : Fin 6) :
    Step d c j (gq1 d c j (128 * k.val) (inbR k) (inbY k) (sm k)) iprop(pre1 d c j Y PF q b hb fd sm k ∗ emp) iprop(fly1 d c j Y PF hPF q b hb sm k ∗ emp) := by
  intro Q
  unfold pre1
  iintro ⟨⟨Hr, Hy, Hx, Hv⟩, -⟩ Hk
  iapply (gissue1 d c j Y PF hPF b hb (128 * k.val) (q := q) (qo := pieceOf fullShare 6 (by decide) k) (fd := fd)) $$ [Hr Hy Hx Hv]
  · isplitl [Hy]; · rw [set_yS]; iexact Hy
    isplitl [Hr]; · rw [set_r1c k]; iexact Hr
    isplitl [Hx]; · rw [set_x1]; iexact Hx
    iexact Hv
  iintro Hfl
  iapply Hk
  isplitl
  · unfold fly1 lane1
    rw [set_yS, set_r1c k, set_x1]
    iapply (Transfers.Flight_mono countersEmb (V d c j) Entails.refl) $$ Hfl
  · iempintro

/-- The six pieces of a chunk issued into row buffer 0. -/
theorem issueAll0 (q : PosShare TreeShare) (b : ℕ) (hb : b + 64 ≤ 6144) (fd) (Q : PUnit → sProp 𝕄) :
    iprop((r0V.view.loc (V d c j) ↦{fullShare} fd) ∗ (yV.view.loc (V d c j) ↦{q} Y) ∗ (x0V.view.loc (V d c j) ↦{fullShare} chunkL PF b hb)
        ∗ bigSep Finset.univ fun k => semVal (V d c j, SemLoc.dma (gA 0 k)) 0)
      ⊢ iprop(((bigSep Finset.univ (fly0 d c j Y PF hPF q b hb (gA 0))) -∗ Q ⟨⟩)
        -∗ wp frame (wpE (defs₀ (F := F)) 𝒱₀ (V d c j) none) Set.univ (gq0 d c j 0 inb_S64x768_S64x128_0_0 inb_S9216x768_S9216x128_0_0 (gsemAt 0 0 inb_S2x6_S1x1_0_0))
          fun _ => wp frame (wpE (defs₀ (F := F)) 𝒱₀ (V d c j) none) Set.univ (gq0 d c j 128 inb_S64x768_S64x128_0_128 inb_S9216x768_S9216x128_0_128 (gsemAt 0 1 inb_S2x6_S1x1_0_1))
          fun _ => wp frame (wpE (defs₀ (F := F)) 𝒱₀ (V d c j) none) Set.univ (gq0 d c j 256 inb_S64x768_S64x128_0_256 inb_S9216x768_S9216x128_0_256 (gsemAt 0 2 inb_S2x6_S1x1_0_2))
          fun _ => wp frame (wpE (defs₀ (F := F)) 𝒱₀ (V d c j) none) Set.univ (gq0 d c j 384 inb_S64x768_S64x128_0_384 inb_S9216x768_S9216x128_0_384 (gsemAt 0 3 inb_S2x6_S1x1_0_3))
          fun _ => wp frame (wpE (defs₀ (F := F)) 𝒱₀ (V d c j) none) Set.univ (gq0 d c j 512 inb_S64x768_S64x128_0_512 inb_S9216x768_S9216x128_0_512 (gsemAt 0 4 inb_S2x6_S1x1_0_4))
          fun _ => wp frame (wpE (defs₀ (F := F)) 𝒱₀ (V d c j) none) Set.univ (gq0 d c j 640 inb_S64x768_S64x128_0_640 inb_S9216x768_S9216x128_0_640 (gsemAt 0 5 inb_S2x6_S1x1_0_5)) Q) := by
  rw [← pre0_join]
  have h := fun k => issue0 d c j Y PF hPF q b hb fd (gA 0) k
  have hs := steps6 (h 0) (h 1) (h 2) (h 3) (h 4) (h 5) Q
  iintro H Hk
  iapply hs $$ [H]
  · isplitl; · iexact H
    iempintro
  iintro ⟨H, -⟩
  iapply Hk $$ H

/-- The six pieces of a chunk waited for: the row buffer at the chunk's rows. -/
theorem waitAll0 (q : PosShare TreeShare) (b : ℕ) (hb : b + 64 ≤ 6144) {O : CellTallies nD τ sig (HIx 2)} {W : Waits sig (HIx 2)} (Q : PUnit → sProp 𝕄) :
    iprop((bigSep Finset.univ (fly0 d c j Y PF hPF q b hb (gA 0))) ∗ owesW d c j O W)
      ⊢ iprop((iprop(((r0V.view.loc (V d c j) ↦{fullShare} chunkG (gath Y PF hPF) b hb) ∗ (yV.view.loc (V d c j) ↦{q} Y)
            ∗ (x0V.view.loc (V d c j) ↦{fullShare} chunkL PF b hb)) ∗ (bigSep Finset.univ fun k => semVal (V d c j, SemLoc.dma (gA 0 k)) 0) ∗ owesW d c j O W) -∗ Q ⟨⟩)
        -∗ wp frame (wpE (defs₀ (F := F)) 𝒱₀ (V d c j) none) Set.univ (gw0 d c j 0 inb_S64x768_S64x128_0_0 inb_S9216x768_S9216x128_0_0 (gsemAt 0 0 inb_S2x6_S1x1_0_0))
          fun _ => wp frame (wpE (defs₀ (F := F)) 𝒱₀ (V d c j) none) Set.univ (gw0 d c j 128 inb_S64x768_S64x128_0_128 inb_S9216x768_S9216x128_0_128 (gsemAt 0 1 inb_S2x6_S1x1_0_1))
          fun _ => wp frame (wpE (defs₀ (F := F)) 𝒱₀ (V d c j) none) Set.univ (gw0 d c j 256 inb_S64x768_S64x128_0_256 inb_S9216x768_S9216x128_0_256 (gsemAt 0 2 inb_S2x6_S1x1_0_2))
          fun _ => wp frame (wpE (defs₀ (F := F)) 𝒱₀ (V d c j) none) Set.univ (gw0 d c j 384 inb_S64x768_S64x128_0_384 inb_S9216x768_S9216x128_0_384 (gsemAt 0 3 inb_S2x6_S1x1_0_3))
          fun _ => wp frame (wpE (defs₀ (F := F)) 𝒱₀ (V d c j) none) Set.univ (gw0 d c j 512 inb_S64x768_S64x128_0_512 inb_S9216x768_S9216x128_0_512 (gsemAt 0 4 inb_S2x6_S1x1_0_4))
          fun _ => wp frame (wpE (defs₀ (F := F)) 𝒱₀ (V d c j) none) Set.univ (gw0 d c j 640 inb_S64x768_S64x128_0_640 inb_S9216x768_S9216x128_0_640 (gsemAt 0 5 inb_S2x6_S1x1_0_5)) Q) := by
  rw [← lane0_join]
  have h : ∀ (k : Fin 6), Step d c j (gw0 d c j (128 * k.val) (inbR k) (inbY k) (gA 0 k)) iprop(fly0 d c j Y PF hPF q b hb (gA 0) k ∗ owesW d c j O W)
      iprop((lane0 d c j Y PF hPF q b hb k ∗ semVal (V d c j, SemLoc.dma (gA 0 k)) 0) ∗ owesW d c j O W) := fun k => step_wait rfl
  have hs := steps6 (B := fun k => iprop(lane0 d c j Y PF hPF q b hb k ∗ semVal (V d c j, SemLoc.dma (gA 0 k)) 0)) (h 0) (h 1) (h 2) (h 3) (h 4) (h 5) Q
  rw [bigSep_sep'] at hs
  iintro H Hk
  iapply hs $$ H
  iintro ⟨H, HO⟩
  icases H with ⟨H, Hs⟩
  iapply Hk
  isplitl [H]; · iexact H
  isplitl [Hs] <;> iassumption

/-- The six pieces of a chunk issued into row buffer 1. -/
theorem issueAll1 (q : PosShare TreeShare) (b : ℕ) (hb : b + 64 ≤ 6144) (fd) (Q : PUnit → sProp 𝕄) :
    iprop((r1V.view.loc (V d c j) ↦{fullShare} fd) ∗ (yV.view.loc (V d c j) ↦{q} Y) ∗ (x1V.view.loc (V d c j) ↦{fullShare} chunkL PF b hb)
        ∗ bigSep Finset.univ fun k => semVal (V d c j, SemLoc.dma (gA 1 k)) 0)
      ⊢ iprop(((bigSep Finset.univ (fly1 d c j Y PF hPF q b hb (gA 1))) -∗ Q ⟨⟩)
        -∗ wp frame (wpE (defs₀ (F := F)) 𝒱₀ (V d c j) none) Set.univ (gq1 d c j 0 inb_S64x768_S64x128_0_0 inb_S9216x768_S9216x128_0_0 (gsemAt 1 0 inb_S2x6_S1x1_1_0))
          fun _ => wp frame (wpE (defs₀ (F := F)) 𝒱₀ (V d c j) none) Set.univ (gq1 d c j 128 inb_S64x768_S64x128_0_128 inb_S9216x768_S9216x128_0_128 (gsemAt 1 1 inb_S2x6_S1x1_1_1))
          fun _ => wp frame (wpE (defs₀ (F := F)) 𝒱₀ (V d c j) none) Set.univ (gq1 d c j 256 inb_S64x768_S64x128_0_256 inb_S9216x768_S9216x128_0_256 (gsemAt 1 2 inb_S2x6_S1x1_1_2))
          fun _ => wp frame (wpE (defs₀ (F := F)) 𝒱₀ (V d c j) none) Set.univ (gq1 d c j 384 inb_S64x768_S64x128_0_384 inb_S9216x768_S9216x128_0_384 (gsemAt 1 3 inb_S2x6_S1x1_1_3))
          fun _ => wp frame (wpE (defs₀ (F := F)) 𝒱₀ (V d c j) none) Set.univ (gq1 d c j 512 inb_S64x768_S64x128_0_512 inb_S9216x768_S9216x128_0_512 (gsemAt 1 4 inb_S2x6_S1x1_1_4))
          fun _ => wp frame (wpE (defs₀ (F := F)) 𝒱₀ (V d c j) none) Set.univ (gq1 d c j 640 inb_S64x768_S64x128_0_640 inb_S9216x768_S9216x128_0_640 (gsemAt 1 5 inb_S2x6_S1x1_1_5)) Q) := by
  rw [← pre1_join]
  have h := fun k => issue1 d c j Y PF hPF q b hb fd (gA 1) k
  have hs := steps6 (h 0) (h 1) (h 2) (h 3) (h 4) (h 5) Q
  iintro H Hk
  iapply hs $$ [H]
  · isplitl; · iexact H
    iempintro
  iintro ⟨H, -⟩
  iapply Hk $$ H

/-- The six pieces of a chunk waited for: the row buffer at the chunk's rows. -/
theorem waitAll1 (q : PosShare TreeShare) (b : ℕ) (hb : b + 64 ≤ 6144) {O : CellTallies nD τ sig (HIx 2)} {W : Waits sig (HIx 2)} (Q : PUnit → sProp 𝕄) :
    iprop((bigSep Finset.univ (fly1 d c j Y PF hPF q b hb (gA 1))) ∗ owesW d c j O W)
      ⊢ iprop((iprop(((r1V.view.loc (V d c j) ↦{fullShare} chunkG (gath Y PF hPF) b hb) ∗ (yV.view.loc (V d c j) ↦{q} Y)
            ∗ (x1V.view.loc (V d c j) ↦{fullShare} chunkL PF b hb)) ∗ (bigSep Finset.univ fun k => semVal (V d c j, SemLoc.dma (gA 1 k)) 0) ∗ owesW d c j O W) -∗ Q ⟨⟩)
        -∗ wp frame (wpE (defs₀ (F := F)) 𝒱₀ (V d c j) none) Set.univ (gw1 d c j 0 inb_S64x768_S64x128_0_0 inb_S9216x768_S9216x128_0_0 (gsemAt 1 0 inb_S2x6_S1x1_1_0))
          fun _ => wp frame (wpE (defs₀ (F := F)) 𝒱₀ (V d c j) none) Set.univ (gw1 d c j 128 inb_S64x768_S64x128_0_128 inb_S9216x768_S9216x128_0_128 (gsemAt 1 1 inb_S2x6_S1x1_1_1))
          fun _ => wp frame (wpE (defs₀ (F := F)) 𝒱₀ (V d c j) none) Set.univ (gw1 d c j 256 inb_S64x768_S64x128_0_256 inb_S9216x768_S9216x128_0_256 (gsemAt 1 2 inb_S2x6_S1x1_1_2))
          fun _ => wp frame (wpE (defs₀ (F := F)) 𝒱₀ (V d c j) none) Set.univ (gw1 d c j 384 inb_S64x768_S64x128_0_384 inb_S9216x768_S9216x128_0_384 (gsemAt 1 3 inb_S2x6_S1x1_1_3))
          fun _ => wp frame (wpE (defs₀ (F := F)) 𝒱₀ (V d c j) none) Set.univ (gw1 d c j 512 inb_S64x768_S64x128_0_512 inb_S9216x768_S9216x128_0_512 (gsemAt 1 4 inb_S2x6_S1x1_1_4))
          fun _ => wp frame (wpE (defs₀ (F := F)) 𝒱₀ (V d c j) none) Set.univ (gw1 d c j 640 inb_S64x768_S64x128_0_640 inb_S9216x768_S9216x128_0_640 (gsemAt 1 5 inb_S2x6_S1x1_1_5)) Q) := by
  rw [← lane1_join]
  have h : ∀ (k : Fin 6), Step d c j (gw1 d c j (128 * k.val) (inbR k) (inbY k) (gA 1 k)) iprop(fly1 d c j Y PF hPF q b hb (gA 1) k ∗ owesW d c j O W)
      iprop((lane1 d c j Y PF hPF q b hb k ∗ semVal (V d c j, SemLoc.dma (gA 1 k)) 0) ∗ owesW d c j O W) := fun k => step_wait rfl
  have hs := steps6 (B := fun k => iprop(lane1 d c j Y PF hPF q b hb k ∗ semVal (V d c j, SemLoc.dma (gA 1 k)) 0)) (h 0) (h 1) (h 2) (h 3) (h 4) (h 5) Q
  rw [bigSep_sep'] at hs
  iintro H Hk
  iapply hs $$ H
  iintro ⟨H, HO⟩
  icases H with ⟨H, Hs⟩
  iapply Hk
  isplitl [H]; · iexact H
  isplitl [Hs] <;> iassumption

end Tile

end Cert.Proof.Moe

end
-- ==== Proof.Moe.GatherCopies.lean ====
/-
  The gather call's tile: a chunk's list fetched, a chunk's rows written out.
-/
module

public import proofs.«01_k».proof.Proof.Moe.GatherWaves

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile

variable (d : Dev nD) (c : Fin τ.nSC) (j : Fin τ.nSub)
variable (PF : S6144.Idx → BitVec 32)

set_option maxRecDepth 65536

/-- 64 words of the list fetched into list buffer 0. -/
theorem fetch0 (b : ℕ) (hb : b + 64 ≤ 6144) {off : Fin 1 → ℕ} (h : ∀ a, off a + S64.size a ≤ S6144.size a) (ho : off = ![b]) {sem : DmaSem sig}
    {qp : PosShare TreeShare} {fd : Buf (Elt F) (x0V.view.loc (V d c j))} {O : CellTallies nD τ sig (HIx 2)} {W : Waits sig (HIx 2)} {hp1 hp2} (Q : PUnit → sProp 𝕄) :
    iprop((pV.view.loc (V d c j) ↦{qp} PF) ∗ (x0V.view.loc (V d c j) ↦{fullShare} fd) ∗ semVal (V d c j, SemLoc.dma sem) 0 ∗ owesW d c j O W)
      ⊢ iprop((iprop((x0V.view.loc (V d c j) ↦{fullShare} chunkL PF b hb) ∗ (pV.view.loc (V d c j) ↦{qp} PF) ∗ semVal (V d c j, SemLoc.dma sem) 0
            ∗ owesW d c j O W) -∗ Q ⟨⟩)
        -∗ wp frame (wpE (defs₀ (F := F)) 𝒱₀ (V d c j) none) Set.univ
            (Prog.lift (.enqueueDma (pV.slice (Rect.unit (s := S6144) off S64.size h) (fun _ => rfl)) (.here x0V) (.dma sem) (View.wordExact_bits rfl) hp1 ⟨Or.inl rfl, trivial⟩))
          fun _ => wp frame (wpE (defs₀ (F := F)) 𝒱₀ (V d c j) none) Set.univ
            (Prog.lift (.waitDma2 sem (pV.slice (Rect.unit (s := S6144) off S64.size h) (fun _ => rfl)) x0V (View.wordExact_bits rfl) hp2)) Q) := by
  subst ho
  have hG : ∀ x, x0V.view.read (Elt F) (chunkL PF b hb) x = (pV.slice (Rect.unit (s := S6144) ![b] S64.size h) (fun _ => rfl)).view.read (Elt F) PF x := by
    intro x
    refine (cast_eq _ _).trans (Eq.trans ?_ (cast_eq _ _).symm)
    refine congrArg PF (funext fun a => ?_)
    match a with
    | 0 => exact Fin.ext (by
        show b + (x 0).val = b + 1 * (x 0).val
        omega)
  iintro ⟨HP, Hx, Hv, HO⟩ Hk
  ihave HP' := (pointsTo_split_subset (ℓ := pV.view.loc (V d c j)) (q := qp) (f := PF) (S := Finset.univ) (Finset.subset_univ (pV.slice (Rect.unit (s := S6144) ![b] S64.size h) (fun _ => rfl)).view.set)).1 $$ HP
  icases HP' with ⟨HP, HPr⟩
  iapply (copyW (src := pV.slice (Rect.unit (s := S6144) ![b] S64.size h) (fun _ => rfl)) (dst := x0V) (q := qp) (fs := PF) (fd := fd) (by
      show 0 < sig.dmaCredit .scVector (Kind.table .scVector .vmem) x0V.view.buf S64 .i32
      decide) hG) $$ [HP Hx Hv HO]
  · isplitl [HP]; · iexact HP
    isplitl [Hx]; · rw [set_x0]; iexact Hx
    isplitl [Hv] <;> iassumption
  iintro ⟨Hx, HP, Hv, HO⟩
  ihave HP' := (pointsTo_split_subset (ℓ := pV.view.loc (V d c j)) (q := qp) (f := PF) (S := Finset.univ) (Finset.subset_univ (pV.slice (Rect.unit (s := S6144) ![b] S64.size h) (fun _ => rfl)).view.set)).2 $$ [HP HPr]
  · isplitl [HP] <;> iassumption
  iapply Hk
  isplitl [Hx]; · rw [set_x0]; iexact Hx
  isplitl [HP']; · iexact HP'
  isplitl [Hv] <;> iassumption

/-- Row buffer 0 written out to 64 rows of the result. -/
theorem put0 (Z : S6144x768.Idx → Elt F .f32) (b : ℕ) (hb : b + 64 ≤ 6144) {off : Fin 2 → ℕ} (h : ∀ a, off a + S64x768.size a ≤ S6144x768.size a) (ho : off = ![b, 0]) {sem : DmaSem sig}
    {fd : Buf (Elt F) (oV.view.loc (V d c j))} {O : CellTallies nD τ sig (HIx 2)} {W : Waits sig (HIx 2)} {hp1 hp2} (Q : PUnit → sProp 𝕄) :
    iprop((r0V.view.loc (V d c j) ↦{fullShare} chunkG Z b hb) ∗ (oV.view.loc (V d c j) ↦[(Rect.unit (s := S6144x768) off S64x768.size h).set]{fullShare} fd)
        ∗ semVal (V d c j, SemLoc.dma sem) 0 ∗ owesW d c j O W)
      ⊢ iprop((iprop((oV.view.loc (V d c j) ↦[(Rect.unit (s := S6144x768) off S64x768.size h).set]{fullShare} Z) ∗ (r0V.view.loc (V d c j) ↦{fullShare} chunkG Z b hb)
            ∗ semVal (V d c j, SemLoc.dma sem) 0 ∗ owesW d c j O W) -∗ Q ⟨⟩)
        -∗ wp frame (wpE (defs₀ (F := F)) 𝒱₀ (V d c j) none) Set.univ
            (Prog.lift (.enqueueDma r0V (.here (oV.slice (Rect.unit (s := S6144x768) off S64x768.size h) (fun _ => rfl))) (.dma sem) hp1 (View.wordExact_bits rfl) ⟨Or.inl rfl, trivial⟩))
          fun _ => wp frame (wpE (defs₀ (F := F)) 𝒱₀ (V d c j) none) Set.univ
            (Prog.lift (.waitDma2 sem r0V (oV.slice (Rect.unit (s := S6144x768) off S64x768.size h) (fun _ => rfl)) hp2 (View.wordExact_bits rfl))) Q) := by
  subst ho
  have hG : ∀ x, (oV.slice (Rect.unit (s := S6144x768) ![b, 0] S64x768.size h) (fun _ => rfl)).view.read (Elt F) Z x = r0V.view.read (Elt F) (chunkG Z b hb) x := by
    intro x
    refine (cast_eq _ _).trans (Eq.trans ?_ (cast_eq _ _).symm)
    refine congrArg Z (funext fun a => ?_)
    match a with
    | 0 => exact Fin.ext (by
        show b + 1 * (x 0).val = b + (x 0).val
        omega)
    | 1 => exact Fin.ext (by
        show 0 + 1 * (x 1).val = (x 1).val
        omega)
  have hs : (oV.slice (Rect.unit (s := S6144x768) ![b, 0] S64x768.size h) (fun _ => rfl)).view.set = (Rect.unit (s := S6144x768) ![b, 0] S64x768.size h).set := View.set_slice_whole _ _
  iintro ⟨Hr, Ho, Hv, HO⟩ Hk
  iapply (copyW (src := r0V) (dst := oV.slice (Rect.unit (s := S6144x768) ![b, 0] S64x768.size h) (fun _ => rfl)) (q := fullShare) (fs := chunkG Z b hb) (fd := fd) (by
      show 0 < sig.dmaCredit .scVector (Kind.table .scVector .hbm) oV.view.buf S64x768 .f32
      decide) hG) $$ [Hr Ho Hv HO]
  · isplitl [Hr]; · rw [show r0V.view.set = Finset.univ from View.set_whole _]; iexact Hr
    isplitl [Ho]; · rw [hs]; iexact Ho
    isplitl [Hv] <;> iassumption
  iintro ⟨Ho, Hr, Hv, HO⟩
  iapply Hk
  isplitl [Ho]; · rw [hs]; iexact Ho
  isplitl [Hr]; · rw [show r0V.view.set = Finset.univ from View.set_whole _]; iexact Hr
  isplitl [Hv] <;> iassumption

/-- 64 words of the list fetched into list buffer 1. -/
theorem fetch1 (b : ℕ) (hb : b + 64 ≤ 6144) {off : Fin 1 → ℕ} (h : ∀ a, off a + S64.size a ≤ S6144.size a) (ho : off = ![b]) {sem : DmaSem sig}
    {qp : PosShare TreeShare} {fd : Buf (Elt F) (x1V.view.loc (V d c j))} {O : CellTallies nD τ sig (HIx 2)} {W : Waits sig (HIx 2)} {hp1 hp2} (Q : PUnit → sProp 𝕄) :
    iprop((pV.view.loc (V d c j) ↦{qp} PF) ∗ (x1V.view.loc (V d c j) ↦{fullShare} fd) ∗ semVal (V d c j, SemLoc.dma sem) 0 ∗ owesW d c j O W)
      ⊢ iprop((iprop((x1V.view.loc (V d c j) ↦{fullShare} chunkL PF b hb) ∗ (pV.view.loc (V d c j) ↦{qp} PF) ∗ semVal (V d c j, SemLoc.dma sem) 0
            ∗ owesW d c j O W) -∗ Q ⟨⟩)
        -∗ wp frame (wpE (defs₀ (F := F)) 𝒱₀ (V d c j) none) Set.univ
            (Prog.lift (.enqueueDma (pV.slice (Rect.unit (s := S6144) off S64.size h) (fun _ => rfl)) (.here x1V) (.dma sem) (View.wordExact_bits rfl) hp1 ⟨Or.inl rfl, trivial⟩))
          fun _ => wp frame (wpE (defs₀ (F := F)) 𝒱₀ (V d c j) none) Set.univ
            (Prog.lift (.waitDma2 sem (pV.slice (Rect.unit (s := S6144) off S64.size h) (fun _ => rfl)) x1V (View.wordExact_bits rfl) hp2)) Q) := by
  subst ho
  have hG : ∀ x, x1V.view.read (Elt F) (chunkL PF b hb) x = (pV.slice (Rect.unit (s := S6144) ![b] S64.size h) (fun _ => rfl)).view.read (Elt F) PF x := by
    intro x
    refine (cast_eq _ _).trans (Eq.trans ?_ (cast_eq _ _).symm)
    refine congrArg PF (funext fun a => ?_)
    match a with
    | 0 => exact Fin.ext (by
        show b + (x 0).val = b + 1 * (x 0).val
        omega)
  iintro ⟨HP, Hx, Hv, HO⟩ Hk
  ihave HP' := (pointsTo_split_subset (ℓ := pV.view.loc (V d c j)) (q := qp) (f := PF) (S := Finset.univ) (Finset.subset_univ (pV.slice (Rect.unit (s := S6144) ![b] S64.size h) (fun _ => rfl)).view.set)).1 $$ HP
  icases HP' with ⟨HP, HPr⟩
  iapply (copyW (src := pV.slice (Rect.unit (s := S6144) ![b] S64.size h) (fun _ => rfl)) (dst := x1V) (q := qp) (fs := PF) (fd := fd) (by
      show 0 < sig.dmaCredit .scVector (Kind.table .scVector .vmem) x1V.view.buf S64 .i32
      decide) hG) $$ [HP Hx Hv HO]
  · isplitl [HP]; · iexact HP
    isplitl [Hx]; · rw [set_x1]; iexact Hx
    isplitl [Hv] <;> iassumption
  iintro ⟨Hx, HP, Hv, HO⟩
  ihave HP' := (pointsTo_split_subset (ℓ := pV.view.loc (V d c j)) (q := qp) (f := PF) (S := Finset.univ) (Finset.subset_univ (pV.slice (Rect.unit (s := S6144) ![b] S64.size h) (fun _ => rfl)).view.set)).2 $$ [HP HPr]
  · isplitl [HP] <;> iassumption
  iapply Hk
  isplitl [Hx]; · rw [set_x1]; iexact Hx
  isplitl [HP']; · iexact HP'
  isplitl [Hv] <;> iassumption

/-- Row buffer 1 written out to 64 rows of the result. -/
theorem put1 (Z : S6144x768.Idx → Elt F .f32) (b : ℕ) (hb : b + 64 ≤ 6144) {off : Fin 2 → ℕ} (h : ∀ a, off a + S64x768.size a ≤ S6144x768.size a) (ho : off = ![b, 0]) {sem : DmaSem sig}
    {fd : Buf (Elt F) (oV.view.loc (V d c j))} {O : CellTallies nD τ sig (HIx 2)} {W : Waits sig (HIx 2)} {hp1 hp2} (Q : PUnit → sProp 𝕄) :
    iprop((r1V.view.loc (V d c j) ↦{fullShare} chunkG Z b hb) ∗ (oV.view.loc (V d c j) ↦[(Rect.unit (s := S6144x768) off S64x768.size h).set]{fullShare} fd)
        ∗ semVal (V d c j, SemLoc.dma sem) 0 ∗ owesW d c j O W)
      ⊢ iprop((iprop((oV.view.loc (V d c j) ↦[(Rect.unit (s := S6144x768) off S64x768.size h).set]{fullShare} Z) ∗ (r1V.view.loc (V d c j) ↦{fullShare} chunkG Z b hb)
            ∗ semVal (V d c j, SemLoc.dma sem) 0 ∗ owesW d c j O W) -∗ Q ⟨⟩)
        -∗ wp frame (wpE (defs₀ (F := F)) 𝒱₀ (V d c j) none) Set.univ
            (Prog.lift (.enqueueDma r1V (.here (oV.slice (Rect.unit (s := S6144x768) off S64x768.size h) (fun _ => rfl))) (.dma sem) hp1 (View.wordExact_bits rfl) ⟨Or.inl rfl, trivial⟩))
          fun _ => wp frame (wpE (defs₀ (F := F)) 𝒱₀ (V d c j) none) Set.univ
            (Prog.lift (.waitDma2 sem r1V (oV.slice (Rect.unit (s := S6144x768) off S64x768.size h) (fun _ => rfl)) hp2 (View.wordExact_bits rfl))) Q) := by
  subst ho
  have hG : ∀ x, (oV.slice (Rect.unit (s := S6144x768) ![b, 0] S64x768.size h) (fun _ => rfl)).view.read (Elt F) Z x = r1V.view.read (Elt F) (chunkG Z b hb) x := by
    intro x
    refine (cast_eq _ _).trans (Eq.trans ?_ (cast_eq _ _).symm)
    refine congrArg Z (funext fun a => ?_)
    match a with
    | 0 => exact Fin.ext (by
        show b + 1 * (x 0).val = b + (x 0).val
        omega)
    | 1 => exact Fin.ext (by
        show 0 + 1 * (x 1).val = (x 1).val
        omega)
  have hs : (oV.slice (Rect.unit (s := S6144x768) ![b, 0] S64x768.size h) (fun _ => rfl)).view.set = (Rect.unit (s := S6144x768) ![b, 0] S64x768.size h).set := View.set_slice_whole _ _
  iintro ⟨Hr, Ho, Hv, HO⟩ Hk
  iapply (copyW (src := r1V) (dst := oV.slice (Rect.unit (s := S6144x768) ![b, 0] S64x768.size h) (fun _ => rfl)) (q := fullShare) (fs := chunkG Z b hb) (fd := fd) (by
      show 0 < sig.dmaCredit .scVector (Kind.table .scVector .hbm) oV.view.buf S64x768 .f32
      decide) hG) $$ [Hr Ho Hv HO]
  · isplitl [Hr]; · rw [show r1V.view.set = Finset.univ from View.set_whole _]; iexact Hr
    isplitl [Ho]; · rw [hs]; iexact Ho
    isplitl [Hv] <;> iassumption
  iintro ⟨Ho, Hr, Hv, HO⟩
  iapply Hk
  isplitl [Ho]; · rw [hs]; iexact Ho
  isplitl [Hr]; · rw [show r1V.view.set = Finset.univ from View.set_whole _]; iexact Hr
  isplitl [Hv] <;> iassumption

end Tile

end Cert.Proof.Moe

end
-- ==== Proof.Moe.Gather.lean ====
/-
  The gather call's tile: its whole run, at a symbolic SparseCore and tile.
-/
module

public import proofs.«01_k».proof.Proof.Moe.GatherCopies

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cG (L : grid2.Coords) : Fin τ.nSC := (L 0).castLE hcore2
abbrev jG (L : grid2.Coords) : Fin τ.nSub := (L 1).castLE hsub2

/-- Chunk `r` of the result that the tile at `L` writes: 64 rows. -/
abbrev ochunk (L : grid2.Coords) (r : Fin 3) : Finset S6144x768.Idx :=
  (Rect.unit (s := S6144x768) (k2_off3 L (BitVec.ofNat 32 (64 * r.val))) S64x768.size (k2_off3_inb L r)).set

theorem gbase (L : grid2.Coords) (r : ℕ) (hr : r < 3) : 384 * (L 1).val + 192 * (L 0).val + 64 * r + 64 ≤ 6144 := by
  have h0 : (L 0).val < 2 := (L 0).isLt
  have h1 : (L 1).val < 16 := (L 1).isLt
  omega

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The gather's eighteen semaphores: six for each row buffer, and six for the plain copies. -/
theorem gsem_groups (d : Dev nD) (c : Fin τ.nSC) (j : Fin τ.nSub) :
    (bigSep Finset.univ fun i => semVal (V d c j, SemLoc.dma (gsem i)) 0 : sProp 𝕄)
      = iprop((bigSep Finset.univ fun k : Fin 6 => semVal (V d c j, SemLoc.dma (gA 0 k)) 0)
          ∗ (bigSep Finset.univ fun k : Fin 6 => semVal (V d c j, SemLoc.dma (gA 1 k)) 0)
          ∗ semVal (V d c j, SemLoc.dma cc2_scoped0.sem) 0 ∗ semVal (V d c j, SemLoc.dma cc2_scoped1.sem) 0 ∗ semVal (V d c j, SemLoc.dma cc2_scoped2.sem) 0
          ∗ semVal (V d c j, SemLoc.dma cc2_scoped3.sem) 0 ∗ semVal (V d c j, SemLoc.dma cc2_scoped4.sem) 0 ∗ semVal (V d c j, SemLoc.dma cc2_scoped5.sem) 0) := by
  rw [bigSep_univ_sum, bigSep_univ_sum]
  exact congrArg (fun X => iprop(_ ∗ _ ∗ X)) (bigSep_fin6 _)

theorem owesW_intro {d : Dev nD} {c : Fin τ.nSC} {j : Fin τ.nSub} {O : CellTallies nD τ sig (HIx 2)} {W : Waits sig (HIx 2)} :
    (iprop(owes (V d c j) O W ∗ Transfers.MayWaits (V d c j) (default : HIx 2) O) : sProp 𝕄) ⊢ owesW d c j O W := by
  unfold owesW
  iintro ⟨HO, Hm⟩
  isplitl [HO]
  · iexists W
    isplitr
    · ipureintro; exact fun p hp => Or.inl hp
    · iexact HO
  · iexact Hm

theorem owesW_elim {d : Dev nD} {c : Fin τ.nSC} {j : Fin τ.nSub} {O : CellTallies nD τ sig (HIx 2)} {W : Waits sig (HIx 2)} :
    owesW d c j O W ⊢ (iprop(∃ W', ⌜∀ p ∈ W', p ∈ W ∨ p.2 = none⌝ ∗ owes (V d c j) O W') : sProp 𝕄) := by
  unfold owesW
  iintro ⟨HO, -⟩
  iexact HO

set_option maxHeartbeats 4000000 in
set_option maxRecDepth 65536 in
/-- The gather's tile: its three chunks of the result at the rows the list names. -/
theorem gath_body (d : Dev nD) (L : grid2.Coords) (Y : S9216x768.Idx → Elt F .f32) (PF : S6144.Idx → BitVec 32) (hPF : ∀ n, (PF n).toNat < 9216)
    (q0 q1 qp : PosShare TreeShare) (fo : S6144x768.Idx → Elt F .f32)
    (hF : (K (F := F)).Facts) (O : CellTallies nD τ sig (HIx 2)) (W : Waits sig (HIx 2)) (hO : ∀ g, O g none = 0) :
    (iprop(levAts (K (F := F)).L (K (F := F)).lev ∗ emp
        ∗ ((yV.view.loc (V d (cG L) (jG L)) ↦{q0} Y) ∗ (yV.view.loc (V d (cG L) (jG L)) ↦{q1} Y) ∗ (pV.view.loc (V d (cG L) (jG L)) ↦{qp} PF)
          ∗ bigSep Finset.univ fun r => (oV.view.loc (V d (cG L) (jG L)) ↦[ochunk L r]{fullShare} fo))
        ∗ scopedBufs (V d (cG L) (jG L)) ∗ scopedSems0 (V d (cG L) (jG L)) ∗ owes (V d (cG L) (jG L)) O W) : sProp 𝕄)
      ⊢ wp frame (wpE (defs₀ (F := F)) 𝒱₀ (V d (cG L) (jG L)) none) Set.univ
          (cc2__gath_kernel L yV (Memref.isWhole_whole _) pV (Memref.isWhole_whole _) oV (Memref.isWhole_whole _)
            r0V (Memref.isWhole_whole _) r1V (Memref.isWhole_whole _) x0V (Memref.isWhole_whole _) x1V (Memref.isWhole_whole _) cc2_scratch4
            cc2_scoped0 cc2_scoped1 cc2_scoped2 cc2_scoped3 cc2_scoped4 cc2_scoped5)
          fun _ => iprop((bigSep Finset.univ fun r => (oV.view.loc (V d (cG L) (jG L)) ↦[ochunk L r]{fullShare} gath Y PF hPF))
            ∗ scopedBufs (V d (cG L) (jG L)) ∗ scopedSems0 (V d (cG L) (jG L))
            ∗ ∃ W', ⌜∀ p ∈ W', p ∈ W ∨ p.2 = none⌝ ∗ owes (V d (cG L) (jG L)) O W') := by
  simp only [cc2__gath_kernel_eq_skeleton, cc2__gath_kernel_skel, k2_part1_eq_skeleton, k2_part1_skel, k2_part2_eq_skeleton, k2_part2_skel,
    k2_part3_eq_skeleton, k2_part3_skel, k2_part4_eq_skeleton, k2_part4_skel, k2_part5_eq_skeleton, k2_part5_skel,
    k2_part6_eq_skeleton, k2_part6_skel, k2_part7_eq_skeleton, k2_part7_skel, k2_part8_eq_skeleton, k2_part8_skel,
    k2_part9_eq_skeleton, k2_part9_skel, bind_assoc, pure_bind]
  simp only [wp_bind, wp_pure]
  rw [(K (F := F)).scopedBufs_V hF d (cG L) (jG L), SparseCore.Cfg.scopedSems0_V (Val := Elt F) d (cG L) (jG L),
    ownSems_split d (cG L) (jG L) gsem gsem_inj gsem_scoped, ownBufs_split d (cG L) (jG L) gbuf gbuf_inj (gbuf_owner (cG L) (jG L)), gsem_groups,
    bigSep_fin4, bigSep_fin3, bigSep_fin3]
  generalize hb0 : 384 * (L 1).val + 192 * (L 0).val = b0
  have hb : ∀ r, r < 3 → b0 + 64 * r + 64 ≤ 6144 := fun r hr => hb0 ▸ gbase L r hr
  have ho0 : k2_off1 L = ![b0 + 64 * 0] := hb0 ▸ k2_off1_eq L
  have ho1 : k2_off2 L 64#32 = ![b0 + 64 * 1] := hb0 ▸ (k2_off2_eq L 0)
  have ho2 : k2_off2 L 128#32 = ![b0 + 64 * 2] := hb0 ▸ (k2_off2_eq L 1)
  have hw : ∀ r : Fin 3, k2_off3 L (BitVec.ofNat 32 (64 * r.val)) = ![b0 + 64 * r.val, 0] := fun r => hb0 ▸ k2_off3_eq L r
  iintro ⟨#Hlv, -, ⟨Hy0, Hy1, Hp, Ho0, Ho1, Ho2⟩, ⟨⟨⟨%f0, Hr0⟩, ⟨%f1, Hr1⟩, ⟨%f2, Hx0⟩, ⟨%f3, Hx1⟩⟩, Hbufs⟩, ⟨⟨HsA, HsB, Hs0, Hs1, Hs2, Hs3, Hs4, Hs5⟩, Hsems⟩, HO⟩
  ihave Hmw := (show levAts (K (F := F)).L (K (F := F)).lev ⊢ Transfers.MayWaits (V d (cG L) (jG L)) (default : HIx 2) O from
    (K (F := F)).mayWaits_none (thr := V d (cG L) (jG L)) hO) $$ Hlv
  ihave HO := (owesW_intro (d := d) (c := cG L) (j := jG L) (O := O) (W := W)) $$ [HO]
  · isplitl [HO]; · iexact HO
    iexact Hmw
  -- the first two chunks' lists and gathers
  iapply (fetch0 d (cG L) (jG L) PF (b0 + 64 * 0) (hb 0 (by decide)) (k2_off1_inb L) (ho0) (sem := cc2_scoped0.sem) (fd := f2)) $$ [Hp Hx0 Hs0 HO]
  · isplitl [Hp]; · iexact Hp
    isplitl [Hx0]; · iexact Hx0
    isplitl [Hs0]; · iexact Hs0
    iexact HO
  iintro ⟨Hx0, Hp, Hs0, HO⟩
  iapply (issueAll0 d (cG L) (jG L) Y PF hPF q0 (b0 + 64 * 0) (hb 0 (by decide)) f0) $$ [Hr0 Hy0 Hx0 HsA]
  · isplitl [Hr0]; · iexact Hr0
    isplitl [Hy0]; · iexact Hy0
    isplitl [Hx0]; · iexact Hx0
    iexact HsA
  iintro HF0
  iapply (fetch1 d (cG L) (jG L) PF (b0 + 64 * 1) (hb 1 (by decide)) (k2_off2_inb L 0) (ho1) (sem := cc2_scoped1.sem) (fd := f3)) $$ [Hp Hx1 Hs1 HO]
  · isplitl [Hp]; · iexact Hp
    isplitl [Hx1]; · iexact Hx1
    isplitl [Hs1]; · iexact Hs1
    iexact HO
  iintro ⟨Hx1, Hp, Hs1, HO⟩
  iapply (issueAll1 d (cG L) (jG L) Y PF hPF q1 (b0 + 64 * 1) (hb 1 (by decide)) f1) $$ [Hr1 Hy1 Hx1 HsB]
  · isplitl [Hr1]; · iexact Hr1
    isplitl [Hy1]; · iexact Hy1
    isplitl [Hx1]; · iexact Hx1
    iexact HsB
  iintro HF1
  -- the first chunk in and written out, the third one's list and gathers
  iapply (waitAll0 d (cG L) (jG L) Y PF hPF q0 (b0 + 64 * 0) (hb 0 (by decide))) $$ [HF0 HO]
  · isplitl [HF0]; · iexact HF0
    iexact HO
  iintro ⟨⟨Hr0, Hy0, Hx0⟩, HsA, HO⟩
  iapply (put0 d (cG L) (jG L) (gath Y PF hPF) (b0 + 64 * 0) (hb 0 (by decide)) (k2_off3_inb L 0) (hw 0) (sem := cc2_scoped2.sem) (fd := fo)) $$ [Hr0 Ho0 Hs2 HO]
  · isplitl [Hr0]; · iexact Hr0
    isplitl [Ho0]; · iexact Ho0
    isplitl [Hs2]; · iexact Hs2
    iexact HO
  iintro ⟨Ho0, Hr0, Hs2, HO⟩
  iapply (fetch0 d (cG L) (jG L) PF (b0 + 64 * 2) (hb 2 (by decide)) (k2_off2_inb L 1) (ho2) (sem := cc2_scoped3.sem) ) $$ [Hp Hx0 Hs3 HO]
  · isplitl [Hp]; · iexact Hp
    isplitl [Hx0]; · iexact Hx0
    isplitl [Hs3]; · iexact Hs3
    iexact HO
  iintro ⟨Hx0, Hp, Hs3, HO⟩
  iapply (issueAll0 d (cG L) (jG L) Y PF hPF q0 (b0 + 64 * 2) (hb 2 (by decide)) _) $$ [Hr0 Hy0 Hx0 HsA]
  · isplitl [Hr0]; · iexact Hr0
    isplitl [Hy0]; · iexact Hy0
    isplitl [Hx0]; · iexact Hx0
    iexact HsA
  iintro HF0
  -- the second chunk, then the third
  iapply (waitAll1 d (cG L) (jG L) Y PF hPF q1 (b0 + 64 * 1) (hb 1 (by decide))) $$ [HF1 HO]
  · isplitl [HF1]; · iexact HF1
    iexact HO
  iintro ⟨⟨Hr1, Hy1, Hx1⟩, HsB, HO⟩
  iapply (put1 d (cG L) (jG L) (gath Y PF hPF) (b0 + 64 * 1) (hb 1 (by decide)) (k2_off3_inb L 1) (hw 1) (sem := cc2_scoped4.sem) (fd := fo)) $$ [Hr1 Ho1 Hs4 HO]
  · isplitl [Hr1]; · iexact Hr1
    isplitl [Ho1]; · iexact Ho1
    isplitl [Hs4]; · iexact Hs4
    iexact HO
  iintro ⟨Ho1, Hr1, Hs4, HO⟩
  iapply (waitAll0 d (cG L) (jG L) Y PF hPF q0 (b0 + 64 * 2) (hb 2 (by decide))) $$ [HF0 HO]
  · isplitl [HF0]; · iexact HF0
    iexact HO
  iintro ⟨⟨Hr0, Hy0, Hx0⟩, HsA, HO⟩
  iapply (put0 d (cG L) (jG L) (gath Y PF hPF) (b0 + 64 * 2) (hb 2 (by decide)) (k2_off3_inb L 2) (hw 2) (sem := cc2_scoped5.sem) (fd := fo)) $$ [Hr0 Ho2 Hs5 HO]
  · isplitl [Hr0]; · iexact Hr0
    isplitl [Ho2]; · iexact Ho2
    isplitl [Hs5]; · iexact Hs5
    iexact HO
  iintro ⟨Ho2, Hr0, Hs5, HO⟩
  imodintro
  isplitl [Ho0 Ho1 Ho2]
  · isplitl [Ho0]; · iexact Ho0
    isplitl [Ho1]; · iexact Ho1
    iexact Ho2
  isplitl [Hr0 Hr1 Hx0 Hx1 Hbufs]
  · isplitl [Hr0 Hr1 Hx0 Hx1]
    · isplitl [Hr0]; · iexists _; iexact Hr0
      isplitl [Hr1]; · iexists _; iexact Hr1
      isplitl [Hx0]; · iexists _; iexact Hx0
      iexists _; iexact Hx1
    · iexact Hbufs
  isplitl [HsA HsB Hs0 Hs1 Hs2 Hs3 Hs4 Hs5 Hsems]
  · isplitl [HsA HsB Hs0 Hs1 Hs2 Hs3 Hs4 Hs5]
    · isplitl [HsA]; · iexact HsA
      isplitl [HsB]; · iexact HsB
      isplitl [Hs0]; · iexact Hs0
      isplitl [Hs1]; · iexact Hs1
      isplitl [Hs2]; · iexact Hs2
      isplitl [Hs3]; · iexact Hs3
      isplitl [Hs4]; · iexact Hs4
      iexact Hs5
    · iexact Hsems
  iapply owesW_elim $$ HO

end Cert.Proof.Moe

end
-- ==== Proof.Moe.DispatchSteps.lean ====
/-
  The dispatch call's tile, its parts: what the scatter leaves, the rows a list names, and one column piece of a list's scatter.
-/
module

public import proofs.«01_k».proof.Proof.Moe.GatherWaves

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The memrefs of the dispatch -/

abbrev xV : Memref sig .scVector .hbm S2048x768 .f32 := Memref.whole main_arg0_scv
abbrev zV : Memref sig .scVector .hbm S9216x768 .f32 := Memref.whole main_v7_scv
abbrev wV : Memref sig .scVector .vmem S64x768 .f32 := Memref.whole cc0_scratch0

/-- Columns `o … o+127` of the target, all of its rows. -/
abbrev zS (o : ℕ) (h : ∀ a, (![0, o] : Fin 2 → ℕ) a + S9216x128.size a ≤ S9216x768.size a) : Memref sig .scVector .hbm S9216x128 .f32 :=
  (zV.slice (Rect.unit (s := S9216x768) ![0, o] S9216x128.size h) (fun _ => rfl)).slice
    (Rect.unit (s := S9216x128) ![0, 0] S9216x128.size inb_S9216x128_S9216x128_0_0) (fun _ => rfl)

abbrev zrow (o : ℕ) (h : ∀ a, (![0, o] : Fin 2 → ℕ) a + S9216x128.size a ≤ S9216x768.size a) (r : Fin 9216) : View sig .scVector .hbm (S9216x128.rowRect gathers_S9216x128_S64x128.axis r).shape .f32 :=
  (zS o h).view.slice (S9216x128.rowRect gathers_S9216x128_S64x128.axis r)

/-! ## What the dispatch leaves -/

/-- 64 words of a list of 2048 from `b` on. -/
def chunkP (P : S2048.Idx → BitVec 32) (b : ℕ) (hb : b + 64 ≤ 2048) : S64.Idx → BitVec 32 :=
  fun x => P (i1 ⟨b + (x 0).val, by have : (x 0).val < 64 := (x 0).isLt; omega⟩)

/-- 64 rows of the tokens from `b` on. -/
def chunkX (X : S2048x768.Idx → Elt F .f32) (b : ℕ) (hb : b + 64 ≤ 2048) : S64x768.Idx → Elt F .f32 :=
  fun x => X (i2 ⟨b + (x 0).val, by have : (x 0).val < 64 := (x 0).isLt; omega⟩ (x 1))

/-- The slots of the three lists are pairwise distinct. -/
def Apart (P : Fin 3 → S2048.Idx → BitVec 32) : Prop := ∀ k k' t t', (P k t).toNat = (P k' t').toNat → k = k' ∧ t = t'

open scoped Classical in
/-- The slots after the dispatch: slot `P k t` holds token `t`'s row, a slot that no word names what it held. -/
def XS (X : S2048x768.Idx → Elt F .f32) (P : Fin 3 → S2048.Idx → BitVec 32) (f : S9216x768.Idx → Elt F .f32) : S9216x768.Idx → Elt F .f32 :=
  fun i => if h : ∃ t : Fin 2048, ∃ k, (P k (i1 t)).toNat = (i 0).val then X (i2 (Classical.choose h) (i 1)) else f i

theorem XS_named {X : S2048x768.Idx → Elt F .f32} {P : Fin 3 → S2048.Idx → BitVec 32} {f : S9216x768.Idx → Elt F .f32} (hA : Apart P)
    {i : S9216x768.Idx} {t : Fin 2048} {k : Fin 3} (h : (P k (i1 t)).toNat = (i 0).val) : XS X P f i = X (i2 t (i 1)) := by
  have hex : ∃ t : Fin 2048, ∃ k, (P k (i1 t)).toNat = (i 0).val := ⟨t, k, h⟩
  unfold XS
  rw [dif_pos hex]
  obtain ⟨k', hk'⟩ := Classical.choose_spec hex
  have e := (hA k' k _ _ (hk'.trans h.symm)).2
  have e' : Classical.choose hex = t := congrFun e 0
  rw [e']

theorem XS_unnamed {X : S2048x768.Idx → Elt F .f32} {P : Fin 3 → S2048.Idx → BitVec 32} {f : S9216x768.Idx → Elt F .f32}
    {i : S9216x768.Idx} (h : ¬∃ t : Fin 2048, ∃ k, (P k (i1 t)).toNat = (i 0).val) : XS X P f i = f i := by
  unfold XS
  rw [dif_neg h]

open scoped Classical in
/-- The elements of the target that 64 words of a list from `b` on name, in column piece `j`. -/
def setD (P : S2048.Idx → BitVec 32) (b : ℕ) (j : Fin 6) : Finset S9216x768.Idx :=
  Finset.univ.filter fun i => (∃ t : Fin 2048, b ≤ t.val ∧ t.val < b + 64 ∧ (P (i1 t)).toNat = (i 0).val) ∧ (i 1).val / 128 = j.val

theorem zrow_emb (o : ℕ) (h2) (r : Fin 9216) (x : (S9216x128.rowRect gathers_S9216x128_S64x128.axis r).shape.Idx) :
    (zrow o h2 r).emb x = (i2 (n := 9216) (m := 768) r ⟨o + (x 1).val, by have := h2 1; have : (x 1).val < 128 := (x 1).isLt; simp at *; omega⟩ : S9216x768.Idx) := by
  have hx0 : (x 0).val = 0 := by have : (x 0).val < 1 := (x 0).isLt; omega
  funext a
  match a with
  | 0 => exact Fin.ext (by
      show 0 + 1 * (0 + 1 * (r.val + 1 * (x 0).val)) = r.val
      omega)
  | 1 => exact Fin.ext (by
      show o + 1 * (0 + 1 * (0 + 1 * (x 1).val)) = o + (x 1).val
      omega)

/-- The index of column `n` of a named row's piece. -/
def zIdx (r : Fin 9216) (n : Fin 128) : (S9216x128.rowRect gathers_S9216x128_S64x128.axis r).shape.Idx
  | ⟨0, _⟩ => (⟨0, by decide⟩ : Fin 1)
  | ⟨1, _⟩ => (n : Fin 128)
  | ⟨n + 2, h⟩ => absurd (show n + 2 < 2 from h) (by omega)

/-- A cast memref reads its elements at the index carried back. -/
theorem read_cast_apply {κ : Kind} {sp : Space} {s s' : Shape} {e : EltTy} (v : Memref sig κ sp s e) (hs : s = s') (f : v.view.ty.Contents (Elt F)) (x : s'.Idx) :
    (v.cast hs rfl).view.read (Elt F) f x = v.view.read (Elt F) f ((Shape.idxEquiv hs).symm x) := by
  cases hs; rfl

section Tile

variable (d : Dev nD) (c : Fin τ.nSC) (j : Fin τ.nSub)

/-- The rows buffer is its six columns pieces, each in three shares. -/
theorem w_cols (f : Buf (Elt F) (wV.view.loc (V d c j))) :
    (wV.view.loc (V d c j) ↦{fullShare} f : sProp 𝕄)
      = bigSep Finset.univ fun a : Fin 3 => bigSep Finset.univ fun k : Fin 6 => wV.view.loc (V d c j) ↦[(colR k).set]{pieceOf fullShare 3 (by decide) a} f := by
  refine (pointsTo_piecesOf Finset.univ f (by decide) fullShare).trans (bigSep_congr fun a _ => ?_)
  rw [← pointsTo_biUnion Finset.univ (ℓ := wV.view.loc (V d c j)) (fun k => (colR k).set) colR_disjoint, colR_cover]; try rfl

/-- The scatter of a list's rows, 128 columns at a time, issued: the named rows to come back at contents chosen beforehand. -/
theorem wp_scatter {src : Memref sig .scVector .vmem S64x128 .f32} {dst : Memref sig .scVector .hbm S9216x128 .f32} {ix : Memref sig .scVector .vmem S64 .i32}
    {sem : DmaSem sig} {Q : PUnit → sProp 𝕄} {q qo : PosShare TreeShare}
    {fs : Buf (Elt F) (src.view.loc (V d c j))} {fd G : Buf (Elt F) (dst.view.loc (V d c j))} {fo : Buf (Elt F) (ix.view.loc (V d c j))}
    {hn : S64.numel = S64x128.size gathers_S9216x128_S64x128.axis'} {hp he hsp hr}
    (hin : ∀ x, (ix.view.read (Elt F) fo x).toNat < S9216x128.size gathers_S9216x128_S64x128.axis)
    (hinj : Function.Injective fun x => (ix.view.read (Elt F) fo x).toNat)
    (hN : ∑ k, (dst.slice (S9216x128.rowRect gathers_S9216x128_S64x128.axis (SparseCore.rows (ix.view.read (Elt F) fo) hn hin k))
      (S9216x128.stride_rowRect gathers_S9216x128_S64x128.axis _)).view.dmaCredit = src.view.dmaCredit)
    (hG : ∀ k x, (dst.view.slice (S9216x128.rowRect gathers_S9216x128_S64x128.axis (SparseCore.rows (ix.view.read (Elt F) fo) hn hin k))).read (Elt F) G x
      = SparseCore.scatterRowPayload (V d c j) src gathers_S9216x128_S64x128 fs k x) :
    iprop((src.view.loc (V d c j) ↦[src.view.set]{q} fs)
        ∗ (dst.view.loc (V d c j) ↦[SparseCore.namedRows (V d c j) dst.view gathers_S9216x128_S64x128.axis (SparseCore.rows (ix.view.read (Elt F) fo) hn hin)]{fullShare} fd)
        ∗ (ix.view.loc (V d c j) ↦[ix.view.set]{qo} fo) ∗ semVal (V d c j, SemLoc.dma sem) 0)
      ⊢ iprop((Transfers.Flight countersEmb (V d c j) (.dma sem) (default : HIx 2) src.view.dmaCredit
                  iprop((dst.view.loc (V d c j) ↦[SparseCore.namedRows (V d c j) dst.view gathers_S9216x128_S64x128.axis (SparseCore.rows (ix.view.read (Elt F) fo) hn hin)]{fullShare} G)
                    ∗ (src.view.loc (V d c j) ↦[src.view.set]{q} fs) ∗ (ix.view.loc (V d c j) ↦[ix.view.set]{qo} fo)) -∗ Q ⟨⟩)
          -∗ wp frame (wpE (defs₀ (F := F)) 𝒱₀ (V d c j) none) Set.univ
            (SparseCore.enqueueIndirectScatter hp src dst gathers_S9216x128_S64x128 ix hn sem he hsp hr) Q) := by
  have hinj' := SparseCore.rows_injective (hn := hn) (h := hin) hinj
  iintro H Hk
  have e : ∀ p : Prog (TpuEff nD τ sig (Elt F) Λ₀ (V d c j : Thread nD τ).2) PUnit, p = (p >>= fun u => Prog.ret u) := fun p => (bind_pure p).symm
  rw [e (SparseCore.enqueueIndirectScatter hp src dst gathers_S9216x128_S64x128 ix hn sem he hsp hr)]
  iapply (SparseCore.wp_indirectScatterLocal countersEmb 𝒱₀ (V d c j) none (default : HIx 2) src.view.dmaCredit (by decide) hin hinj' hN) $$ H
  iintro Hfl
  rw [wp_ret]; imodintro
  iapply Hk
  iapply (Transfers.Flight_mono countersEmb (V d c j) ?_) $$ Hfl
  refine Entails.of_eq (congrArg₂ _ (pointsTo_congr fun i hi => ?_) rfl)
  obtain ⟨k, -, hk⟩ := Finset.mem_biUnion.mp hi
  rw [SparseCore.scatterBuf_of_mem (V d c j) dst.view _ _ hinj' _ _ hk]
  obtain ⟨x, -, rfl⟩ := Finset.mem_map.mp hk
  refine (View.write_emb_of_mem _ _ (Finset.mem_univ x)).trans ?_
  exact (congrArg _ (hG k x)).symm.trans (cast_cast_eq _ _)

/-! ## One column piece of a list's scatter -/

section Piece

variable (X : S2048x768.Idx → Elt F .f32) (P : Fin 3 → S2048.Idx → BitVec 32) (f : S9216x768.Idx → Elt F .f32)

theorem named_eq (p : S2048.Idx → BitVec 32) (b : ℕ) (hb : b + 64 ≤ 2048) (jj : Fin 6) (h2)
    (r : Fin (S64x128.size gathers_S9216x128_S64x128.axis') → Fin (S9216x128.size gathers_S9216x128_S64x128.axis))
    (hr : ∀ k : Fin 64, (r k).val = (p (i1 ⟨b + k.val, by omega⟩)).toNat) :
    SparseCore.namedRows (V d c j) (zS (128 * jj.val) h2).view gathers_S9216x128_S64x128.axis r = setD p b jj := by
  rw [SparseCore.namedRows_eq]
  refine Finset.ext fun (i : S9216x768.Idx) => ?_
  unfold setD
  rw [Finset.mem_filter]
  constructor
  · intro hi
    obtain ⟨k, -, hk⟩ := Finset.mem_biUnion.mp hi
    obtain ⟨x, -, hx⟩ := Finset.mem_map.mp hk
    have hx' : i = _ := hx.symm.trans (zrow_emb (128 * jj.val) h2 (r k) x)
    have hk64 : k.val < 64 := k.isLt
    have hx1 : (x 1).val < 128 := (x 1).isLt
    refine ⟨Finset.mem_univ _, ⟨⟨b + k.val, by omega⟩, by show b ≤ b + k.val; omega, by show b + k.val < b + 64; omega, ?_⟩, ?_⟩
    · exact (hr k).symm.trans (congrArg (fun i : S9216x768.Idx => (i 0).val) hx').symm
    · refine (congrArg (fun i : S9216x768.Idx => (i 1).val / 128) hx').trans ?_
      show (128 * jj.val + (x 1).val) / 128 = jj.val
      omega
  · rintro ⟨-, ⟨t, ht, ht', hpt⟩, hj⟩
    have hb0 : b + (t.val - b) < 2048 := by omega
    have et : (⟨b + (t.val - b), hb0⟩ : Fin 2048) = t := Fin.ext (Nat.add_sub_cancel' ht)
    have er : (r (⟨t.val - b, by omega⟩ : Fin 64)).val = (i 0).val := ((hr ⟨t.val - b, by omega⟩).trans (congrArg (fun n => (p (i1 n)).toNat) et)).trans hpt
    have hlt : t.val - b < 64 := by omega
    have hx := zrow_emb (128 * jj.val) h2 (r (⟨t.val - b, hlt⟩ : Fin 64)) (zIdx _ ⟨(i 1).val % 128, Nat.mod_lt _ (by decide)⟩)
    have hi : (zrow (128 * jj.val) h2 (r (⟨t.val - b, hlt⟩ : Fin 64))).emb (zIdx _ ⟨(i 1).val % 128, Nat.mod_lt _ (by decide)⟩) = i := hx.trans (funext fun a => by
      match a with
      | 0 => exact Fin.ext er
      | 1 => exact Fin.ext (by
          show 128 * jj.val + (i 1).val % 128 = (i 1).val
          omega))
    have hm : (i : (zrow (128 * jj.val) h2 (r (⟨t.val - b, hlt⟩ : Fin 64))).ty.Idx) ∈ (zrow (128 * jj.val) h2 (r (⟨t.val - b, hlt⟩ : Fin 64))).set := Finset.mem_map.mpr ⟨_, Finset.mem_univ _, hi⟩
    exact Finset.mem_biUnion.mpr ⟨_, Finset.mem_univ _, hm⟩

/-- The credit of a column piece of the rows buffer. -/
abbrev dN : ℕ := sig.dmaCredit .scVector (Kind.table .scVector .vmem) wV.view.buf S64x128 .f32

set_option maxRecDepth 65536 in
theorem sissue (hA : Apart P) (hP : ∀ k x, (P k x).toNat < 9216) (a : Fin 3) (b : ℕ) (hb : b + 64 ≤ 2048) {ix : Memref sig .scVector .vmem S64 .i32}
    {fo : Buf (Elt F) (ix.view.loc (V d c j))} (hfo : ∀ x, ix.view.read (Elt F) fo x = chunkP (P a) b hb x)
    (jj : Fin 6) {h1 h2 hrk} {hn} {sem : DmaSem sig} {hp he hsp hr} {Q : PUnit → sProp 𝕄} {q qo : PosShare TreeShare} :
    iprop((wV.view.loc (V d c j) ↦[(colR jj).set]{q} chunkX X b hb)
        ∗ (zV.view.loc (V d c j) ↦[setD (P a) b jj]{fullShare} f)
        ∗ (ix.view.loc (V d c j) ↦[ix.view.set]{qo} fo) ∗ semVal (V d c j, SemLoc.dma sem) 0)
      ⊢ iprop((Transfers.Flight countersEmb (V d c j) (.dma sem) (default : HIx 2) dN
                  iprop((zV.view.loc (V d c j) ↦[setD (P a) b jj]{fullShare} XS X P f)
                    ∗ (wV.view.loc (V d c j) ↦[(colR jj).set]{q} chunkX X b hb)
                    ∗ (ix.view.loc (V d c j) ↦[ix.view.set]{qo} fo)) -∗ Q ⟨⟩)
          -∗ wp frame (wpE (defs₀ (F := F)) 𝒱₀ (V d c j) none) Set.univ
            (SparseCore.enqueueIndirectScatter hp (wV.slice (Rect.unit (s := S64x768) ![0, 128 * jj.val] S64x128.size h1) hrk) (zS (128 * jj.val) h2)
              gathers_S9216x128_S64x128 ix hn sem he hsp hr) Q) := by
  have hin : ∀ x, (ix.view.read (Elt F) fo x).toNat < S9216x128.size gathers_S9216x128_S64x128.axis := fun x => by rw [hfo]; exact hP _ _
  have hinj : Function.Injective fun x => (ix.view.read (Elt F) fo x).toNat := fun x y h => by
    simp only [hfo] at h
    have e := congrFun (hA a a _ _ h).2 0
    have e' : b + (x 0).val = b + (y 0).val := congrArg Fin.val e
    funext a
    match a with
    | 0 => exact Fin.ext (by omega)
  have hrow : ∀ k : Fin 64, (SparseCore.rows (ix.view.read (Elt F) fo) hn hin k).val = (P a (i1 ⟨b + k.val, by omega⟩)).toNat := fun k => by
    show (ix.view.read (Elt F) fo (S64.rowMajor.symm (Fin.cast hn.symm k))).toNat = _
    rw [hfo]
    exact congrArg (fun n => (P a (i1 n)).toNat) (Fin.ext (by
      show b + (S64.rowMajor.symm (Fin.cast hn.symm k) 0).val = b + k.val
      rw [s64_symm]; rfl))
  have hset : (wV.slice (Rect.unit (s := S64x768) ![0, 128 * jj.val] S64x128.size h1) hrk).view.set = (colR jj).set := View.set_slice_whole _ _
  have hN : ∑ k, ((zS (128 * jj.val) h2).slice (S9216x128.rowRect gathers_S9216x128_S64x128.axis (SparseCore.rows (ix.view.read (Elt F) fo) hn hin k))
      (S9216x128.stride_rowRect gathers_S9216x128_S64x128.axis _)).view.dmaCredit = (wV.slice (Rect.unit (s := S64x768) ![0, 128 * jj.val] S64x128.size h1) hrk).view.dmaCredit := by
    change ∑ _k : Fin 64, sig.dmaCredit .scVector (Kind.table .scVector .hbm) zV.view.buf (S9216x128.rowShape gathers_S9216x128_S64x128.axis) .f32 = dN
    decide
  have hG : ∀ k x, ((zS (128 * jj.val) h2).view.slice (S9216x128.rowRect gathers_S9216x128_S64x128.axis (SparseCore.rows (ix.view.read (Elt F) fo) hn hin k))).read (Elt F) (XS X P f) x
      = SparseCore.scatterRowPayload (V d c j) (wV.slice (Rect.unit (s := S64x768) ![0, 128 * jj.val] S64x128.size h1) hrk) gathers_S9216x128_S64x128 (chunkX X b hb) k x := by
    intro k x
    have hk64 : k.val < 64 := k.isLt
    have hx0 : (x 0).val = 0 := by have : (x 0).val < 1 := (x 0).isLt; omega
    refine (cast_eq _ _).trans ?_
    refine (congrArg (XS X P f) (zrow_emb (128 * jj.val) h2 _ x)).trans ?_
    refine (XS_named hA (t := ⟨b + k.val, by omega⟩) (k := a) (hrow k).symm).trans ?_
    refine Eq.trans ?_ (read_cast_apply _ _ _ _).symm
    refine Eq.trans ?_ (cast_eq _ _).symm
    have y0 : ((Shape.idxEquiv gathers_S9216x128_S64x128.rowShape_eq).symm x (⟨0, by decide⟩ : Fin 2)).val = (x (⟨0, by decide⟩ : Fin 2)).val := Shape.idxEquiv_symm_apply_val gathers_S9216x128_S64x128.rowShape_eq x (⟨0, by decide⟩ : Fin 2)
    have y1 : ((Shape.idxEquiv gathers_S9216x128_S64x128.rowShape_eq).symm x (⟨1, by decide⟩ : Fin 2)).val = (x (⟨1, by decide⟩ : Fin 2)).val := Shape.idxEquiv_symm_apply_val gathers_S9216x128_S64x128.rowShape_eq x (⟨1, by decide⟩ : Fin 2)
    refine congrArg X (funext fun a => ?_)
    match a with
    | 0 => exact Fin.ext (by
        show b + k.val = b + (0 + 1 * (k.val + 1 * ((Shape.idxEquiv gathers_S9216x128_S64x128.rowShape_eq).symm x (⟨0, by decide⟩ : Fin 2)).val))
        rw [y0]; have : (x (⟨0, by decide⟩ : Fin 2)).val = 0 := hx0; omega)
    | 1 => exact Fin.ext (by
        show 128 * jj.val + (x 1).val = 128 * jj.val + 1 * (0 + 1 * ((Shape.idxEquiv gathers_S9216x128_S64x128.rowShape_eq).symm x (⟨1, by decide⟩ : Fin 2)).val)
        rw [y1]; show 128 * jj.val + (x 1).val = 128 * jj.val + 1 * (0 + 1 * (x 1).val); omega)
  have h := wp_scatter (d := d) (c := c) (j := j) (src := wV.slice (Rect.unit (s := S64x768) ![0, 128 * jj.val] S64x128.size h1) hrk) (dst := zS (128 * jj.val) h2) (ix := ix)
    (sem := sem) (Q := Q) (q := q) (qo := qo) (fs := chunkX X b hb) (fd := f) (G := XS X P f) (fo := fo) (hn := hn) (hp := hp) (he := he) (hsp := hsp) (hr := hr) hin hinj hN hG
  rw [named_eq d c j (P a) b hb jj h2 _ hrow, hset] at h
  exact h

end Piece

end Tile

end Cert.Proof.Moe

end
-- ==== Proof.Moe.DispatchWaves.lean ====
/-
  The dispatch call's tile, its waves: a list's six scatters issued, and waited for; the copies that fill its buffers.
-/
module

public import proofs.«01_k».proof.Proof.Moe.DispatchSteps

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Tile

variable (d : Dev nD) (c : Fin τ.nSC) (j : Fin τ.nSub)
variable (X : S2048x768.Idx → Elt F .f32) (P : Fin 3 → S2048.Idx → BitVec 32) (f : S9216x768.Idx → Elt F .f32)

abbrev dsemAt (a b : ℕ) (h : ∀ x, (![a, b] : Fin 2 → ℕ) x + S1x1.size x ≤ S3x6.size x) : DmaSem sig := ((cc0_scratch4.slice (Rect.unit (s := S3x6) ![a, b] S1x1.size h)).squeeze S_ squeezes_S1x1_S_).sem

theorem inbD (s : Fin 3) (k : Fin 6) : ∀ x, (![s.val, k.val] : Fin 2 → ℕ) x + S1x1.size x ≤ S3x6.size x := by
  revert s k; decide
/-- The semaphore of a column piece's scatter by list `s`. -/
def dA (s : Fin 3) (k : Fin 6) : DmaSem sig := dsemAt s.val k.val (inbD s k)

/-- One column piece's scatter issued. -/
abbrev dq (ix : Memref sig .scVector .vmem S64 .i32) (o : ℕ) (h1 : ∀ a, (![0, o] : Fin 2 → ℕ) a + S64x128.size a ≤ S64x768.size a) (h2 : ∀ a, (![0, o] : Fin 2 → ℕ) a + S9216x128.size a ≤ S9216x768.size a)
    (sem : DmaSem sig) : Prog (TpuEff nD τ sig (Elt F) Λ₀ (V d c j : Thread nD τ).2) PUnit :=
  SparseCore.enqueueIndirectScatter rfl (wV.slice (Rect.unit (s := S64x768) ![0, o] S64x128.size h1) (fun _ => rfl)) (zS o h2) gathers_S9216x128_S64x128 ix rfl sem rfl (Or.inl rfl)
/-- One column piece's scatter waited for. -/
abbrev dw (o : ℕ) (h1 : ∀ a, (![0, o] : Fin 2 → ℕ) a + S64x128.size a ≤ S64x768.size a) (h2 : ∀ a, (![0, o] : Fin 2 → ℕ) a + S9216x128.size a ≤ S9216x768.size a)
    (sem : DmaSem sig) : Prog (TpuEff nD τ sig (Elt F) Λ₀ (V d c j : Thread nD τ).2) PUnit :=
  SparseCore.waitIndirectScatter sem (wV.slice (Rect.unit (s := S64x768) ![0, o] S64x128.size h1) (fun _ => rfl)) (zS o h2) (View.wordExact_bits rfl) (View.wordExact_bits rfl)

/-- What a piece in flight brings back. -/
def laneD (a : Fin 3) (b : ℕ) (hb : b + 64 ≤ 2048) (ix : Memref sig .scVector .vmem S64 .i32) (fo : Buf (Elt F) (ix.view.loc (V d c j))) (k : Fin 6) : sProp 𝕄 :=
  iprop((zV.view.loc (V d c j) ↦[setD (P a) b k]{fullShare} XS X P f)
    ∗ (wV.view.loc (V d c j) ↦[(colR k).set]{pieceOf fullShare 3 (by decide) a} chunkX X b hb)
    ∗ (ix.view.loc (V d c j) ↦[ix.view.set]{pieceOf fullShare 6 (by decide) k} fo))
def preD (a : Fin 3) (b : ℕ) (hb : b + 64 ≤ 2048) (ix : Memref sig .scVector .vmem S64 .i32) (fo : Buf (Elt F) (ix.view.loc (V d c j))) (k : Fin 6) : sProp 𝕄 :=
  iprop((zV.view.loc (V d c j) ↦[setD (P a) b k]{fullShare} f)
    ∗ (wV.view.loc (V d c j) ↦[(colR k).set]{pieceOf fullShare 3 (by decide) a} chunkX X b hb)
    ∗ (ix.view.loc (V d c j) ↦[ix.view.set]{pieceOf fullShare 6 (by decide) k} fo) ∗ semVal (V d c j, SemLoc.dma (dA a k)) 0)
def flyD (a : Fin 3) (b : ℕ) (hb : b + 64 ≤ 2048) (ix : Memref sig .scVector .vmem S64 .i32) (fo : Buf (Elt F) (ix.view.loc (V d c j))) (k : Fin 6) : sProp 𝕄 :=
  Transfers.Flight countersEmb (V d c j) (.dma (dA a k)) (default : HIx 2) dN (laneD d c j X P f a b hb ix fo k)

theorem pieces6 {ℓ : Loc nD τ sig} (S : Finset ℓ.2.ty.Idx) (g : Buf (Elt F) ℓ) :
    (ℓ ↦[S]{fullShare} g : sProp 𝕄) = bigSep Finset.univ fun k : Fin 6 => ℓ ↦[S]{pieceOf fullShare 6 (by decide) k} g := pointsTo_piecesOf S g (by decide) fullShare

theorem ix_pieces {ix : Memref sig .scVector .vmem S64 .i32} (fo : Buf (Elt F) (ix.view.loc (V d c j))) :
    (ix.view.loc (V d c j) ↦[ix.view.set]{fullShare} fo : sProp 𝕄) = bigSep Finset.univ fun k : Fin 6 => ix.view.loc (V d c j) ↦[ix.view.set]{pieceOf fullShare 6 (by decide) k} fo :=
  pieces6 _ _

theorem laneD_join (a : Fin 3) (b : ℕ) (hb : b + 64 ≤ 2048) (ix : Memref sig .scVector .vmem S64 .i32) (fo : Buf (Elt F) (ix.view.loc (V d c j))) :
    (bigSep Finset.univ (laneD d c j X P f a b hb ix fo) : sProp 𝕄)
      = iprop((bigSep Finset.univ fun k => zV.view.loc (V d c j) ↦[setD (P a) b k]{fullShare} XS X P f)
        ∗ (bigSep Finset.univ fun k => wV.view.loc (V d c j) ↦[(colR k).set]{pieceOf fullShare 3 (by decide) a} chunkX X b hb)
        ∗ (ix.view.loc (V d c j) ↦[ix.view.set]{fullShare} fo)) := by
  unfold laneD
  rw [bigSep_sep', bigSep_sep', ← ix_pieces]

theorem preD_join (a : Fin 3) (b : ℕ) (hb : b + 64 ≤ 2048) (ix : Memref sig .scVector .vmem S64 .i32) (fo : Buf (Elt F) (ix.view.loc (V d c j))) :
    (bigSep Finset.univ (preD d c j X P f a b hb ix fo) : sProp 𝕄)
      = iprop((bigSep Finset.univ fun k => zV.view.loc (V d c j) ↦[setD (P a) b k]{fullShare} f)
        ∗ (bigSep Finset.univ fun k => wV.view.loc (V d c j) ↦[(colR k).set]{pieceOf fullShare 3 (by decide) a} chunkX X b hb)
        ∗ (ix.view.loc (V d c j) ↦[ix.view.set]{fullShare} fo) ∗ bigSep Finset.univ fun k => semVal (V d c j, SemLoc.dma (dA a k)) 0) := by
  unfold preD
  rw [bigSep_sep', bigSep_sep', bigSep_sep', ← ix_pieces]

theorem issueD (hA : Apart P) (hP : ∀ k x, (P k x).toNat < 9216) (a : Fin 3) (b : ℕ) (hb : b + 64 ≤ 2048) (ix : Memref sig .scVector .vmem S64 .i32)
    (fo : Buf (Elt F) (ix.view.loc (V d c j))) (hfo : ∀ x, ix.view.read (Elt F) fo x = chunkP (P a) b hb x) (k : Fin 6) :
    Step d c j (dq d c j ix (128 * k.val) (inbR k) (inbY k) (dA a k)) iprop(preD d c j X P f a b hb ix fo k ∗ emp) iprop(flyD d c j X P f a b hb ix fo k ∗ emp) := by
  intro Q
  unfold preD
  iintro ⟨⟨Hz, Hw, Hx, Hv⟩, -⟩ Hk
  iapply (sissue d c j X P f hA hP a b hb hfo k (q := pieceOf fullShare 3 (by decide) a) (qo := pieceOf fullShare 6 (by decide) k)) $$ [Hz Hw Hx Hv]
  · isplitl [Hw]; · iexact Hw
    isplitl [Hz]; · iexact Hz
    isplitl [Hx]; · iexact Hx
    iexact Hv
  iintro Hfl
  iapply Hk
  isplitl
  · unfold flyD laneD
    iexact Hfl
  · iempintro

/-- A list's six scatters issued. -/
theorem issueAllD (hA : Apart P) (hP : ∀ k x, (P k x).toNat < 9216) (a : Fin 3) (b : ℕ) (hb : b + 64 ≤ 2048) (ix : Memref sig .scVector .vmem S64 .i32)
    (fo : Buf (Elt F) (ix.view.loc (V d c j))) (hfo : ∀ x, ix.view.read (Elt F) fo x = chunkP (P a) b hb x) (Q : PUnit → sProp 𝕄) :
    iprop((bigSep Finset.univ fun k => zV.view.loc (V d c j) ↦[setD (P a) b k]{fullShare} f)
        ∗ (bigSep Finset.univ fun k => wV.view.loc (V d c j) ↦[(colR k).set]{pieceOf fullShare 3 (by decide) a} chunkX X b hb)
        ∗ (ix.view.loc (V d c j) ↦[ix.view.set]{fullShare} fo) ∗ bigSep Finset.univ fun k => semVal (V d c j, SemLoc.dma (dA a k)) 0)
      ⊢ iprop(((bigSep Finset.univ (flyD d c j X P f a b hb ix fo)) -∗ Q ⟨⟩)
        -∗ wp frame (wpE (defs₀ (F := F)) 𝒱₀ (V d c j) none) Set.univ (dq d c j ix 0 inb_S64x768_S64x128_0_0 inb_S9216x768_S9216x128_0_0 (dsemAt a.val 0 (inbD a 0)))
          fun _ => wp frame (wpE (defs₀ (F := F)) 𝒱₀ (V d c j) none) Set.univ (dq d c j ix 128 inb_S64x768_S64x128_0_128 inb_S9216x768_S9216x128_0_128 (dsemAt a.val 1 (inbD a 1)))
          fun _ => wp frame (wpE (defs₀ (F := F)) 𝒱₀ (V d c j) none) Set.univ (dq d c j ix 256 inb_S64x768_S64x128_0_256 inb_S9216x768_S9216x128_0_256 (dsemAt a.val 2 (inbD a 2)))
          fun _ => wp frame (wpE (defs₀ (F := F)) 𝒱₀ (V d c j) none) Set.univ (dq d c j ix 384 inb_S64x768_S64x128_0_384 inb_S9216x768_S9216x128_0_384 (dsemAt a.val 3 (inbD a 3)))
          fun _ => wp frame (wpE (defs₀ (F := F)) 𝒱₀ (V d c j) none) Set.univ (dq d c j ix 512 inb_S64x768_S64x128_0_512 inb_S9216x768_S9216x128_0_512 (dsemAt a.val 4 (inbD a 4)))
          fun _ => wp frame (wpE (defs₀ (F := F)) 𝒱₀ (V d c j) none) Set.univ (dq d c j ix 640 inb_S64x768_S64x128_0_640 inb_S9216x768_S9216x128_0_640 (dsemAt a.val 5 (inbD a 5))) Q) := by
  rw [← preD_join]
  have h := fun k => issueD d c j X P f hA hP a b hb ix fo hfo k
  have hs := steps6 (h 0) (h 1) (h 2) (h 3) (h 4) (h 5) Q
  iintro H Hk
  iapply hs $$ [H]
  · isplitl; · iexact H
    iempintro
  iintro ⟨H, -⟩
  iapply Hk $$ H

/-- A list's six scatters waited for. -/
theorem waitAllD (a : Fin 3) (b : ℕ) (hb : b + 64 ≤ 2048) (ix : Memref sig .scVector .vmem S64 .i32)
    (fo : Buf (Elt F) (ix.view.loc (V d c j))) {O : CellTallies nD τ sig (HIx 2)} {W : Waits sig (HIx 2)} (Q : PUnit → sProp 𝕄) :
    iprop((bigSep Finset.univ (flyD d c j X P f a b hb ix fo)) ∗ owesW d c j O W)
      ⊢ iprop((iprop(((bigSep Finset.univ fun k => zV.view.loc (V d c j) ↦[setD (P a) b k]{fullShare} XS X P f)
            ∗ (bigSep Finset.univ fun k => wV.view.loc (V d c j) ↦[(colR k).set]{pieceOf fullShare 3 (by decide) a} chunkX X b hb)
            ∗ (ix.view.loc (V d c j) ↦[ix.view.set]{fullShare} fo)) ∗ (bigSep Finset.univ fun k => semVal (V d c j, SemLoc.dma (dA a k)) 0) ∗ owesW d c j O W) -∗ Q ⟨⟩)
        -∗ wp frame (wpE (defs₀ (F := F)) 𝒱₀ (V d c j) none) Set.univ (dw d c j 0 inb_S64x768_S64x128_0_0 inb_S9216x768_S9216x128_0_0 (dsemAt a.val 0 (inbD a 0)))
          fun _ => wp frame (wpE (defs₀ (F := F)) 𝒱₀ (V d c j) none) Set.univ (dw d c j 128 inb_S64x768_S64x128_0_128 inb_S9216x768_S9216x128_0_128 (dsemAt a.val 1 (inbD a 1)))
          fun _ => wp frame (wpE (defs₀ (F := F)) 𝒱₀ (V d c j) none) Set.univ (dw d c j 256 inb_S64x768_S64x128_0_256 inb_S9216x768_S9216x128_0_256 (dsemAt a.val 2 (inbD a 2)))
          fun _ => wp frame (wpE (defs₀ (F := F)) 𝒱₀ (V d c j) none) Set.univ (dw d c j 384 inb_S64x768_S64x128_0_384 inb_S9216x768_S9216x128_0_384 (dsemAt a.val 3 (inbD a 3)))
          fun _ => wp frame (wpE (defs₀ (F := F)) 𝒱₀ (V d c j) none) Set.univ (dw d c j 512 inb_S64x768_S64x128_0_512 inb_S9216x768_S9216x128_0_512 (dsemAt a.val 4 (inbD a 4)))
          fun _ => wp frame (wpE (defs₀ (F := F)) 𝒱₀ (V d c j) none) Set.univ (dw d c j 640 inb_S64x768_S64x128_0_640 inb_S9216x768_S9216x128_0_640 (dsemAt a.val 5 (inbD a 5))) Q) := by
  rw [← laneD_join]
  have h : ∀ (k : Fin 6), Step d c j (dw d c j (128 * k.val) (inbR k) (inbY k) (dA a k)) iprop(flyD d c j X P f a b hb ix fo k ∗ owesW d c j O W)
      iprop((laneD d c j X P f a b hb ix fo k ∗ semVal (V d c j, SemLoc.dma (dA a k)) 0) ∗ owesW d c j O W) := fun k => step_wait rfl
  have hs := steps6 (B := fun k => iprop(laneD d c j X P f a b hb ix fo k ∗ semVal (V d c j, SemLoc.dma (dA a k)) 0)) (h 0) (h 1) (h 2) (h 3) (h 4) (h 5) Q
  rw [bigSep_sep'] at hs
  iintro H Hk
  iapply hs $$ H
  iintro ⟨H, HO⟩
  icases H with ⟨H, Hs⟩
  iapply Hk
  isplitl [H]; · iexact H
  isplitl [Hs] <;> iassumption

set_option maxRecDepth 65536 in
/-- 64 words of a list fetched into a list buffer. -/
theorem fetchL (pm : Memref sig .scVector .hbm S2048 .i32) (PF : Buf (Elt F) (pm.view.loc (V d c j))) (p : S2048.Idx → BitVec 32) (hpm : ∀ x, pm.view.read (Elt F) PF x = p x)
    (ix : Memref sig .scVector .vmem S64 .i32) (fo : Buf (Elt F) (ix.view.loc (V d c j)))
    (b : ℕ) (hb : b + 64 ≤ 2048) (hfo : ∀ x, ix.view.read (Elt F) fo x = chunkP p b hb x) (hN0 : 0 < ix.view.dmaCredit)
    {off : Fin 1 → ℕ} (h : ∀ a, off a + S64.size a ≤ S2048.size a) (ho : off = ![b]) {sem : DmaSem sig}
    {qp : PosShare TreeShare} {fd : Buf (Elt F) (ix.view.loc (V d c j))} {O : CellTallies nD τ sig (HIx 2)} {W : Waits sig (HIx 2)} {hp1 hp2} (Q : PUnit → sProp 𝕄) :
    iprop((pm.view.loc (V d c j) ↦{qp} PF) ∗ (ix.view.loc (V d c j) ↦[ix.view.set]{fullShare} fd) ∗ semVal (V d c j, SemLoc.dma sem) 0 ∗ owesW d c j O W)
      ⊢ iprop((iprop((ix.view.loc (V d c j) ↦[ix.view.set]{fullShare} fo) ∗ semVal (V d c j, SemLoc.dma sem) 0
            ∗ owesW d c j O W) -∗ Q ⟨⟩)
        -∗ wp frame (wpE (defs₀ (F := F)) 𝒱₀ (V d c j) none) Set.univ
            (Prog.lift (.enqueueDma (pm.slice (Rect.unit (s := S2048) off S64.size h) (fun _ => rfl)) (.here ix) (.dma sem) (View.wordExact_bits rfl) hp1 ⟨Or.inl rfl, trivial⟩))
          fun _ => wp frame (wpE (defs₀ (F := F)) 𝒱₀ (V d c j) none) Set.univ
            (Prog.lift (.waitDma2 sem (pm.slice (Rect.unit (s := S2048) off S64.size h) (fun _ => rfl)) ix (View.wordExact_bits rfl) hp2)) Q) := by
  subst ho
  have hG : ∀ x, ix.view.read (Elt F) fo x = (pm.slice (Rect.unit (s := S2048) ![b] S64.size h) (fun _ => rfl)).view.read (Elt F) PF x := by
    intro x
    refine (hfo x).trans (Eq.trans ?_ (hpm ((Rect.unit (s := S2048) ![b] S64.size h).emb x)).symm)
    refine congrArg p (funext fun a => ?_)
    match a with
    | 0 => exact Fin.ext (by
        show b + (x 0).val = b + 1 * (x 0).val
        omega)
  iintro ⟨HP, Hx, Hv, HO⟩ Hk
  ihave HP' := (pointsTo_split_subset (ℓ := pm.view.loc (V d c j)) (q := qp) (f := PF) (S := Finset.univ) (Finset.subset_univ (pm.slice (Rect.unit (s := S2048) ![b] S64.size h) (fun _ => rfl)).view.set)).1 $$ HP
  icases HP' with ⟨HP, -⟩
  iapply (copyW (src := pm.slice (Rect.unit (s := S2048) ![b] S64.size h) (fun _ => rfl)) (dst := ix) (q := qp) (fs := PF) (fd := fd) hN0 hG) $$ [HP Hx Hv HO]
  · isplitl [HP]; · iexact HP
    isplitl [Hx]; · iexact Hx
    isplitl [Hv] <;> iassumption
  iintro ⟨Hx, -, Hv, HO⟩
  iapply Hk
  isplitl [Hx]; · iexact Hx
  isplitl [Hv] <;> iassumption

set_option maxRecDepth 65536 in
/-- 64 rows of the tokens fetched into the rows buffer. -/
theorem fetchX (b : ℕ) (hb : b + 64 ≤ 2048) {off : Fin 2 → ℕ} (h : ∀ a, off a + S64x768.size a ≤ S2048x768.size a) (ho : off = ![b, 0]) {sem : DmaSem sig}
    {qp : PosShare TreeShare} {fd : Buf (Elt F) (wV.view.loc (V d c j))} {O : CellTallies nD τ sig (HIx 2)} {W : Waits sig (HIx 2)} {hp1 hp2} (Q : PUnit → sProp 𝕄) :
    iprop((xV.view.loc (V d c j) ↦{qp} X) ∗ (wV.view.loc (V d c j) ↦{fullShare} fd) ∗ semVal (V d c j, SemLoc.dma sem) 0 ∗ owesW d c j O W)
      ⊢ iprop((iprop((wV.view.loc (V d c j) ↦{fullShare} chunkX X b hb) ∗ (xV.view.loc (V d c j) ↦{qp} X) ∗ semVal (V d c j, SemLoc.dma sem) 0
            ∗ owesW d c j O W) -∗ Q ⟨⟩)
        -∗ wp frame (wpE (defs₀ (F := F)) 𝒱₀ (V d c j) none) Set.univ
            (Prog.lift (.enqueueDma (xV.slice (Rect.unit (s := S2048x768) off S64x768.size h) (fun _ => rfl)) (.here wV) (.dma sem) (View.wordExact_bits rfl) hp1 ⟨Or.inl rfl, trivial⟩))
          fun _ => wp frame (wpE (defs₀ (F := F)) 𝒱₀ (V d c j) none) Set.univ
            (Prog.lift (.waitDma2 sem (xV.slice (Rect.unit (s := S2048x768) off S64x768.size h) (fun _ => rfl)) wV (View.wordExact_bits rfl) hp2)) Q) := by
  subst ho
  have hset : wV.view.set = Finset.univ := View.set_whole _
  have hG : ∀ x, wV.view.read (Elt F) (chunkX X b hb) x = (xV.slice (Rect.unit (s := S2048x768) ![b, 0] S64x768.size h) (fun _ => rfl)).view.read (Elt F) X x := by
    intro x
    refine (cast_eq _ _).trans (Eq.trans ?_ (cast_eq _ _).symm)
    refine congrArg X (funext fun a => ?_)
    match a with
    | 0 => exact Fin.ext (by
        show b + (x 0).val = b + 1 * (x 0).val
        omega)
    | 1 => exact Fin.ext (by
        show (x 1).val = 0 + 1 * (x 1).val
        omega)
  iintro ⟨HP, Hx, Hv, HO⟩ Hk
  ihave HP' := (pointsTo_split_subset (ℓ := xV.view.loc (V d c j)) (q := qp) (f := X) (S := Finset.univ) (Finset.subset_univ (xV.slice (Rect.unit (s := S2048x768) ![b, 0] S64x768.size h) (fun _ => rfl)).view.set)).1 $$ HP
  icases HP' with ⟨HP, HPr⟩
  iapply (copyW (src := xV.slice (Rect.unit (s := S2048x768) ![b, 0] S64x768.size h) (fun _ => rfl)) (dst := wV) (q := qp) (fs := X) (fd := fd) (by
      show 0 < sig.dmaCredit .scVector (Kind.table .scVector .vmem) wV.view.buf S64x768 .f32
      decide) hG) $$ [HP Hx Hv HO]
  · isplitl [HP]; · iexact HP
    isplitl [Hx]; · rw [hset]; iexact Hx
    isplitl [Hv] <;> iassumption
  iintro ⟨Hx, HP, Hv, HO⟩
  ihave HP' := (pointsTo_split_subset (ℓ := xV.view.loc (V d c j)) (q := qp) (f := X) (S := Finset.univ) (Finset.subset_univ (xV.slice (Rect.unit (s := S2048x768) ![b, 0] S64x768.size h) (fun _ => rfl)).view.set)).2 $$ [HP HPr]
  · isplitl [HP] <;> iassumption
  iapply Hk
  isplitl [Hx]; · rw [hset]; iexact Hx
  isplitl [HP']; · iexact HP'
  isplitl [Hv] <;> iassumption

end Tile

end Cert.Proof.Moe

end
-- ==== Proof.Moe.Dispatch.lean ====
/-
  The dispatch call's tile: 64 token rows fetched and scattered to the slots of three lists.
-/
module

public import proofs.«01_k».proof.Proof.Moe.DispatchWaves
public import proofs.«01_k».proof.Proof.Moe.Gather

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cD (L : grid0.Coords) : Fin τ.nSC := (L 0).castLE hcore0
abbrev jD (L : grid0.Coords) : Fin τ.nSub := (L 1).castLE hsub0
/-- The first token of the tile at `L`. -/
abbrev bD (L : grid0.Coords) : ℕ := 128 * (L 1).val + 64 * (L 0).val

theorem dbase (L : grid0.Coords) : bD L + 64 ≤ 2048 := by
  have h0 : (L 0).val < 2 := (L 0).isLt
  have h1 : (L 1).val < 16 := (L 1).isLt
  show 128 * (L 1).val + 64 * (L 0).val + 64 ≤ 2048
  omega

abbrev l0V : Memref sig .scVector .hbm S2048 .i32 := Memref.whole main_v2_scv
abbrev l1V : Memref sig .scVector .hbm S2048 .i32 := Memref.whole main_v4_scv
abbrev l2V : Memref sig .scVector .hbm S2048 .i32 := Memref.whole main_v6_scv
abbrev b0V : Memref sig .scVector .vmem S64 .i32 := Memref.whole cc0_scratch1
abbrev b1V : Memref sig .scVector .vmem S64 .i32 := Memref.whole cc0_scratch2
abbrev b2V : Memref sig .scVector .vmem S64 .i32 := Memref.whole cc0_scratch3

/-- The semaphores of the plain copies. -/
def dC : Fin 4 → DmaSem sig := ![cc0_scoped0.sem, cc0_scoped1.sem, cc0_scoped2.sem, cc0_scoped3.sem]
def dsem : Fin 6 ⊕ (Fin 6 ⊕ (Fin 6 ⊕ Fin 4)) → DmaSem sig := Sum.elim (dA 0) (Sum.elim (dA 1) (Sum.elim (dA 2) dC))
theorem dsem_inj : Function.Injective dsem := by decide
theorem dsem_scoped : ∀ i, (SemLoc.dma (dsem i) : SemLoc sig).isScoped .scVector = true := by decide

def dbuf : Fin 4 → Ref sig .scVector := ![cc0_scratch0, cc0_scratch1, cc0_scratch2, cc0_scratch3]
theorem dbuf_inj : Function.Injective dbuf := by decide
theorem dbuf_owner (c : Fin τ.nSC) (j : Fin τ.nSub) (i : Fin 4) : ((Proc.scVector c j).devRef (dbuf i)).owner = .proc (Proc.scVector c j) := by
  match i with | 0 => rfl | 1 => rfl | 2 => rfl | 3 => rfl

/-- The dispatch's twenty-two semaphores: six for each list, and four for the plain copies. -/
theorem dsem_groups (d : Dev nD) (c : Fin τ.nSC) (j : Fin τ.nSub) :
    (bigSep Finset.univ fun i => semVal (V d c j, SemLoc.dma (dsem i)) 0 : sProp 𝕄)
      = iprop((bigSep Finset.univ fun k : Fin 6 => semVal (V d c j, SemLoc.dma (dA 0 k)) 0)
          ∗ (bigSep Finset.univ fun k : Fin 6 => semVal (V d c j, SemLoc.dma (dA 1 k)) 0)
          ∗ (bigSep Finset.univ fun k : Fin 6 => semVal (V d c j, SemLoc.dma (dA 2 k)) 0)
          ∗ semVal (V d c j, SemLoc.dma cc0_scoped0.sem) 0 ∗ semVal (V d c j, SemLoc.dma cc0_scoped1.sem) 0 ∗ semVal (V d c j, SemLoc.dma cc0_scoped2.sem) 0
          ∗ semVal (V d c j, SemLoc.dma cc0_scoped3.sem) 0) := by
  rw [bigSep_univ_sum, bigSep_univ_sum, bigSep_univ_sum]
  exact congrArg (fun X => iprop(_ ∗ _ ∗ _ ∗ X)) (bigSep_fin4 _)

theorem set_b0 : b0V.view.set = Finset.univ := View.set_whole _
theorem set_b1 : b1V.view.set = Finset.univ := View.set_whole _
theorem set_b2 : b2V.view.set = Finset.univ := View.set_whole _

set_option maxHeartbeats 4000000 in
set_option maxRecDepth 65536 in
/-- The dispatch's tile: the slots that its 64 words of each list name, at its tokens' rows. -/
theorem disp_body (d : Dev nD) (L : grid0.Coords) (X : S2048x768.Idx → Elt F .f32) (P : Fin 3 → S2048.Idx → BitVec 32) (f : S9216x768.Idx → Elt F .f32)
    (hA : Apart P) (hP : ∀ k x, (P k x).toNat < 9216) (qx ql : PosShare TreeShare)
    (hF : (K (F := F)).Facts) (O : CellTallies nD τ sig (HIx 2)) (W : Waits sig (HIx 2)) (hO : ∀ g, O g none = 0) :
    (iprop(levAts (K (F := F)).L (K (F := F)).lev ∗ emp
        ∗ ((xV.view.loc (V d (cD L) (jD L)) ↦{qx} X) ∗ (l0V.view.loc (V d (cD L) (jD L)) ↦{ql} P 0) ∗ (l1V.view.loc (V d (cD L) (jD L)) ↦{ql} P 1)
          ∗ (l2V.view.loc (V d (cD L) (jD L)) ↦{ql} P 2)
          ∗ bigSep Finset.univ fun k => bigSep Finset.univ fun jj => (zV.view.loc (V d (cD L) (jD L)) ↦[setD (P k) (bD L) jj]{fullShare} f))
        ∗ scopedBufs (V d (cD L) (jD L)) ∗ scopedSems0 (V d (cD L) (jD L)) ∗ owes (V d (cD L) (jD L)) O W) : sProp 𝕄)
      ⊢ wp frame (wpE (defs₀ (F := F)) 𝒱₀ (V d (cD L) (jD L)) none) Set.univ
          (cc0__disp_kernel L xV (Memref.isWhole_whole _) l0V (Memref.isWhole_whole _) l1V (Memref.isWhole_whole _) l2V (Memref.isWhole_whole _) zV (Memref.isWhole_whole _)
            wV (Memref.isWhole_whole _) b0V (Memref.isWhole_whole _) b1V (Memref.isWhole_whole _) b2V (Memref.isWhole_whole _) cc0_scratch4
            cc0_scoped0 cc0_scoped1 cc0_scoped2 cc0_scoped3)
          fun _ => iprop(((xV.view.loc (V d (cD L) (jD L)) ↦{qx} X)
              ∗ bigSep Finset.univ fun k => bigSep Finset.univ fun jj => (zV.view.loc (V d (cD L) (jD L)) ↦[setD (P k) (bD L) jj]{fullShare} XS X P f))
            ∗ scopedBufs (V d (cD L) (jD L)) ∗ scopedSems0 (V d (cD L) (jD L))
            ∗ ∃ W', ⌜∀ p ∈ W', p ∈ W ∨ p.2 = none⌝ ∗ owes (V d (cD L) (jD L)) O W') := by
  simp only [cc0__disp_kernel_eq_skeleton, cc0__disp_kernel_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, bind_assoc, pure_bind]
  simp only [wp_bind, wp_pure]
  rw [(K (F := F)).scopedBufs_V hF d (cD L) (jD L), SparseCore.Cfg.scopedSems0_V (Val := Elt F) d (cD L) (jD L),
    ownSems_split d (cD L) (jD L) dsem dsem_inj dsem_scoped, ownBufs_split d (cD L) (jD L) dbuf dbuf_inj (dbuf_owner (cD L) (jD L)), dsem_groups,
    bigSep_fin4, bigSep_fin3, bigSep_fin3]
  have hb : bD L + 64 ≤ 2048 := dbase L
  have hox : k0_off1 L = ![bD L, 0] := k0_off1_eq L
  have hol : k0_off2 L = ![bD L] := k0_off2_eq L
  have hcr : 0 < b0V.view.dmaCredit ∧ 0 < b1V.view.dmaCredit ∧ 0 < b2V.view.dmaCredit := by
    show 0 < sig.dmaCredit .scVector (Kind.table .scVector .vmem) b0V.view.buf S64 .i32 ∧ 0 < sig.dmaCredit .scVector (Kind.table .scVector .vmem) b1V.view.buf S64 .i32
      ∧ 0 < sig.dmaCredit .scVector (Kind.table .scVector .vmem) b2V.view.buf S64 .i32
    decide
  generalize bD L = b at hb hox hol ⊢
  have r0 : ∀ x, b0V.view.read (Elt F) (chunkP (P 0) b hb) x = chunkP (P 0) b hb x := fun x => cast_eq _ _
  have r1 : ∀ x, b1V.view.read (Elt F) (chunkP (P 1) b hb) x = chunkP (P 1) b hb x := fun x => cast_eq _ _
  have r2 : ∀ x, b2V.view.read (Elt F) (chunkP (P 2) b hb) x = chunkP (P 2) b hb x := fun x => cast_eq _ _
  have m0 : ∀ x, l0V.view.read (Elt F) (P 0) x = P 0 x := fun x => cast_eq _ _
  have m1 : ∀ x, l1V.view.read (Elt F) (P 1) x = P 1 x := fun x => cast_eq _ _
  have m2 : ∀ x, l2V.view.read (Elt F) (P 2) x = P 2 x := fun x => cast_eq _ _
  have hw := w_cols d (cD L) (jD L) (chunkX X b hb)
  rw [bigSep_fin3] at hw
  iintro ⟨#Hlv, -, ⟨Hx, Hl0, Hl1, Hl2, Hz0, Hz1, Hz2⟩, ⟨⟨⟨%f0, Hw⟩, ⟨%f1, Hb0⟩, ⟨%f2, Hb1⟩, ⟨%f3, Hb2⟩⟩, Hbufs⟩, ⟨⟨HsA, HsB, HsC, Hs0, Hs1, Hs2, Hs3⟩, Hsems⟩, HO⟩
  ihave Hmw := (show levAts (K (F := F)).L (K (F := F)).lev ⊢ Transfers.MayWaits (V d (cD L) (jD L)) (default : HIx 2) O from
    (K (F := F)).mayWaits_none (thr := V d (cD L) (jD L)) hO) $$ Hlv
  ihave HO := (owesW_intro (d := d) (c := cD L) (j := jD L) (O := O) (W := W)) $$ [HO]
  · isplitl [HO]; · iexact HO
    iexact Hmw
  -- the four copies in
  iapply (fetchX d (cD L) (jD L) X b hb (k0_off1_inb L) hox (sem := cc0_scoped0.sem) (fd := f0)) $$ [Hx Hw Hs0 HO]
  · isplitl [Hx]; · iexact Hx
    isplitl [Hw]; · iexact Hw
    isplitl [Hs0]; · iexact Hs0
    iexact HO
  iintro ⟨Hw, Hx, Hs0, HO⟩
  iapply (fetchL d (cD L) (jD L) l0V (P 0) (P 0) m0 b0V (chunkP (P 0) b hb) b hb r0 hcr.1 (k0_off2_inb L) hol (sem := cc0_scoped1.sem) (fd := f1)) $$ [Hl0 Hb0 Hs1 HO]
  · isplitl [Hl0]; · iexact Hl0
    isplitl [Hb0]; · rw [set_b0]; iexact Hb0
    isplitl [Hs1]; · iexact Hs1
    iexact HO
  iintro ⟨Hb0, Hs1, HO⟩
  iapply (fetchL d (cD L) (jD L) l1V (P 1) (P 1) m1 b1V (chunkP (P 1) b hb) b hb r1 hcr.2.1 (k0_off2_inb L) hol (sem := cc0_scoped2.sem) (fd := f2)) $$ [Hl1 Hb1 Hs2 HO]
  · isplitl [Hl1]; · iexact Hl1
    isplitl [Hb1]; · rw [set_b1]; iexact Hb1
    isplitl [Hs2]; · iexact Hs2
    iexact HO
  iintro ⟨Hb1, Hs2, HO⟩
  iapply (fetchL d (cD L) (jD L) l2V (P 2) (P 2) m2 b2V (chunkP (P 2) b hb) b hb r2 hcr.2.2 (k0_off2_inb L) hol (sem := cc0_scoped3.sem) (fd := f3)) $$ [Hl2 Hb2 Hs3 HO]
  · isplitl [Hl2]; · iexact Hl2
    isplitl [Hb2]; · rw [set_b2]; iexact Hb2
    isplitl [Hs3]; · iexact Hs3
    iexact HO
  iintro ⟨Hb2, Hs3, HO⟩
  -- the rows in three shares, a column piece at a time
  ihave Hw' := (Entails.of_eq hw) $$ Hw
  icases Hw' with ⟨Hw0, Hw1, Hw2⟩
  iapply (issueAllD d (cD L) (jD L) X P f hA hP 0 b hb b0V (chunkP (P 0) b hb) r0) $$ [Hz0 Hw0 Hb0 HsA]
  · isplitl [Hz0]; · iexact Hz0
    isplitl [Hw0]; · iexact Hw0
    isplitl [Hb0]; · iexact Hb0
    iexact HsA
  iintro HF0
  iapply (issueAllD d (cD L) (jD L) X P f hA hP 1 b hb b1V (chunkP (P 1) b hb) r1) $$ [Hz1 Hw1 Hb1 HsB]
  · isplitl [Hz1]; · iexact Hz1
    isplitl [Hw1]; · iexact Hw1
    isplitl [Hb1]; · iexact Hb1
    iexact HsB
  iintro HF1
  iapply (issueAllD d (cD L) (jD L) X P f hA hP 2 b hb b2V (chunkP (P 2) b hb) r2) $$ [Hz2 Hw2 Hb2 HsC]
  · isplitl [Hz2]; · iexact Hz2
    isplitl [Hw2]; · iexact Hw2
    isplitl [Hb2]; · iexact Hb2
    iexact HsC
  iintro HF2
  iapply (waitAllD d (cD L) (jD L) X P f 0 b hb b0V (chunkP (P 0) b hb)) $$ [HF0 HO]
  · isplitl [HF0]; · iexact HF0
    iexact HO
  iintro ⟨⟨Hz0, Hw0, Hb0⟩, HsA, HO⟩
  iapply (waitAllD d (cD L) (jD L) X P f 1 b hb b1V (chunkP (P 1) b hb)) $$ [HF1 HO]
  · isplitl [HF1]; · iexact HF1
    iexact HO
  iintro ⟨⟨Hz1, Hw1, Hb1⟩, HsB, HO⟩
  iapply (waitAllD d (cD L) (jD L) X P f 2 b hb b2V (chunkP (P 2) b hb)) $$ [HF2 HO]
  · isplitl [HF2]; · iexact HF2
    iexact HO
  iintro ⟨⟨Hz2, Hw2, Hb2⟩, HsC, HO⟩
  ihave Hw := (Entails.of_eq hw.symm) $$ [Hw0 Hw1 Hw2]
  · isplitl [Hw0]; · iexact Hw0
    isplitl [Hw1]; · iexact Hw1
    iexact Hw2
  imodintro
  isplitl [Hx Hz0 Hz1 Hz2]
  · isplitl [Hx]; · iexact Hx
    isplitl [Hz0]; · iexact Hz0
    isplitl [Hz1]; · iexact Hz1
    iexact Hz2
  isplitl [Hw Hb0 Hb1 Hb2 Hbufs]
  · isplitl [Hw Hb0 Hb1 Hb2]
    · isplitl [Hw]; · iexists _; iexact Hw
      isplitl [Hb0]; · rw [set_b0]; iexists _; iexact Hb0
      isplitl [Hb1]; · rw [set_b1]; iexists _; iexact Hb1
      rw [set_b2]; iexists _; iexact Hb2
    · iexact Hbufs
  isplitl [HsA HsB HsC Hs0 Hs1 Hs2 Hs3 Hsems]
  · isplitl [HsA HsB HsC Hs0 Hs1 Hs2 Hs3]
    · isplitl [HsA]; · iexact HsA
      isplitl [HsB]; · iexact HsB
      isplitl [HsC]; · iexact HsC
      isplitl [Hs0]; · iexact Hs0
      isplitl [Hs1]; · iexact Hs1
      isplitl [Hs2]; · iexact Hs2
      iexact Hs3
    · iexact Hsems
  iapply owesW_elim $$ HO

end Cert.Proof.Moe

end
-- ==== Proof.Moe.Payloads.lean ====
/-
  What the two SparseCore calls' tiles are handed and hand back, and each tile's task.
-/
module

public import proofs.«01_k».proof.Proof.Moe.Gather
public import proofs.«01_k».proof.Proof.Moe.Dispatch
public import Idealize.ShloMosaic.Lib.SparseCore.Quiescent

@[expose] public section

set_option maxRecDepth 16384

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Read shares -/

/-- The share of core `c`'s tile `i`. -/
def qt (c : Fin 2) (i : Fin 16) : PosShare TreeShare := pieceOf (pieceOf fullShare 2 (by decide) c) 16 (by decide) i

theorem shares {ℓ : Loc nD τ sig} (f : Buf (Elt F) ℓ) :
    (ℓ ↦{fullShare} f : sProp 𝕄) = bigSep Finset.univ fun c : Fin 2 => bigSep Finset.univ fun i : Fin 16 => ℓ ↦{qt c i} f := by
  rw [pointsTo_piecesOf (ℓ := ℓ) Finset.univ f (o := 2) (by decide) fullShare]
  exact bigSep_congr fun c _ => pointsTo_piecesOf Finset.univ f (by decide) _

theorem shares2 {ℓ : Loc nD τ sig} (f : Buf (Elt F) ℓ) (q : PosShare TreeShare) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

/-! ## What a tile is handed -/

/-- The tile on core `c`, subcore `s`, as grid 0 numbers it. -/
def at0 (c : Fin (grid0.bound 0)) (s : Fin (grid0.bound 1)) : grid0.Coords :=
  fun | 0 => c | 1 => s | ⟨_ + 2, h⟩ => absurd h (Nat.not_lt.2 (Nat.le_add_left _ _))

/-- The tile on core `c`, subcore `s`, as grid 2 numbers it. -/
def at2 (c : Fin (grid2.bound 0)) (s : Fin (grid2.bound 1)) : grid2.Coords :=
  fun | 0 => c | 1 => s | ⟨_ + 2, h⟩ => absurd h (Nat.not_lt.2 (Nat.le_add_left _ _))

/-- What the two calls read and write, at definite contents. -/
structure Cont (F : FTy → Type) where
  X : S2048x768.Idx → Elt F .f32
  Pl : Fin 3 → S2048.Idx → BitVec 32
  z : S9216x768.Idx → Elt F .f32
  Y : S9216x768.Idx → Elt F .f32
  PF : S6144.Idx → BitVec 32
  o : S6144x768.Idx → Elt F .f32
  apart : Apart Pl
  hPl : ∀ k x, (Pl k x).toNat < 9216
  hPF : ∀ n, (PF n).toNat < 9216

abbrev Cont.XS (A : Cont F) : S9216x768.Idx → Elt F .f32 := Moe.XS (F := F) A.X A.Pl A.z
abbrev Cont.G (A : Cont F) : S6144x768.Idx → Elt F .f32 := gath (F := F) A.Y A.PF A.hPF

abbrev xLoc (d : Dev nD) : Loc nD τ sig := (SparseCore.T d).loc main_arg0
abbrev l0Loc (d : Dev nD) : Loc nD τ sig := (SparseCore.T d).loc main_v2
abbrev l1Loc (d : Dev nD) : Loc nD τ sig := (SparseCore.T d).loc main_v4
abbrev l2Loc (d : Dev nD) : Loc nD τ sig := (SparseCore.T d).loc main_v6
abbrev zLoc (d : Dev nD) : Loc nD τ sig := (SparseCore.T d).loc main_v7
abbrev yLoc (d : Dev nD) : Loc nD τ sig := (SparseCore.T d).loc main_v10
abbrev pLoc (d : Dev nD) : Loc nD τ sig := (SparseCore.T d).loc main_v11
abbrev oLoc (d : Dev nD) : Loc nD τ sig := (SparseCore.T d).loc main_v12

/-- The slots the tile on core `c`, subcore `i` fills, at contents `g`. -/
abbrev slots (A : Cont F) (d : Dev nD) (c : Fin 2) (i : Fin 16) (g : S9216x768.Idx → Elt F .f32) : sProp 𝕄 :=
  bigSep Finset.univ fun k : Fin 3 => bigSep Finset.univ fun jj : Fin 6 => (zLoc d ↦[setD (A.Pl k) (bD (at0 c i)) jj]{fullShare} g)
/-- The rows of the gather's result the tile fills, at contents `g`. -/
abbrev rows (d : Dev nD) (c : Fin 2) (i : Fin 16) (g : S6144x768.Idx → Elt F .f32) : sProp 𝕄 :=
  bigSep Finset.univ fun r : Fin 3 => (oLoc d ↦[ochunk (at2 c i) r]{fullShare} g)

def goD (A : Cont F) (d : Dev nD) (c : Fin 2) (i : Fin 16) : sProp 𝕄 :=
  iprop((xLoc d ↦{qt c i} A.X) ∗ (l0Loc d ↦{qt c i} A.Pl 0) ∗ (l1Loc d ↦{qt c i} A.Pl 1) ∗ (l2Loc d ↦{qt c i} A.Pl 2) ∗ slots A d c i A.z)
def tdD (A : Cont F) (d : Dev nD) (c : Fin 2) (i : Fin 16) : sProp 𝕄 :=
  iprop((xLoc d ↦{qt c i} A.X) ∗ slots A d c i A.XS)
def goG (A : Cont F) (d : Dev nD) (c : Fin 2) (i : Fin 16) : sProp 𝕄 :=
  iprop((yLoc d ↦{(qt c i).left} A.Y) ∗ (yLoc d ↦{(qt c i).right} A.Y) ∗ (pLoc d ↦{qt c i} A.PF) ∗ rows d c i A.o)
def tdG (A : Cont F) (d : Dev nD) (c : Fin 2) (i : Fin 16) : sProp 𝕄 := rows d c i A.G

instance goD_storable (A : Cont F) (d : Dev nD) (c : Fin 2) (i : Fin 16) : BI.Storable (upEmb : UEmb _ 𝕄) (goD A d c i) := by unfold goD; infer_instance
instance tdD_storable (A : Cont F) (d : Dev nD) (c : Fin 2) (i : Fin 16) : BI.Storable (upEmb : UEmb _ 𝕄) (tdD A d c i) := by unfold tdD; infer_instance
instance goG_storable (A : Cont F) (d : Dev nD) (c : Fin 2) (i : Fin 16) : BI.Storable (upEmb : UEmb _ 𝕄) (goG A d c i) := by unfold goG; infer_instance
instance tdG_storable (A : Cont F) (d : Dev nD) (c : Fin 2) (i : Fin 16) : BI.Storable (upEmb : UEmb _ 𝕄) (tdG A d c i) := by unfold tdG; infer_instance

/-- A call's hand-over to a core is its tiles' hand-overs, and so its hand-back. -/
def P (A : Cont F) : (K (F := F)).Pay (nD := nD) (Val := Elt F) (Name := ℕ) (U := UU) where
  st := fun q d c => match q with
    | 0 => bigSep Finset.univ fun i : Fin 16 => goD A d c i
    | 1 => bigSep Finset.univ fun i : Fin 16 => goG A d c i
  dn := fun q d c => match q with
    | 0 => bigSep Finset.univ fun i : Fin 16 => tdD A d c i
    | 1 => bigSep Finset.univ fun i : Fin 16 => tdG A d c i
  go := fun q d c i => match q with
    | 0 => goD A d c i
    | 1 => goG A d c i
  td := fun q d c i => match q with
    | 0 => tdD A d c i
    | 1 => tdG A d c i
  x := fun _ _ => iprop(emp)

instance P_storable (A : Cont F) : (P A).IsStorable where
  st q d c := match q with
    | 0 => (inferInstance : BI.Storable (upEmb : UEmb _ 𝕄) (bigSep Finset.univ fun i : Fin 16 => goD A d c i))
    | 1 => (inferInstance : BI.Storable (upEmb : UEmb _ 𝕄) (bigSep Finset.univ fun i : Fin 16 => goG A d c i))
  dn q d c := match q with
    | 0 => (inferInstance : BI.Storable (upEmb : UEmb _ 𝕄) (bigSep Finset.univ fun i : Fin 16 => tdD A d c i))
    | 1 => (inferInstance : BI.Storable (upEmb : UEmb _ 𝕄) (bigSep Finset.univ fun i : Fin 16 => tdG A d c i))
  go q d c i := match q with
    | 0 => goD_storable A d c i
    | 1 => goG_storable A d c i
  td q d c i := match q with
    | 0 => tdD_storable A d c i
    | 1 => tdG_storable A d c i

theorem vecSplit0 (A : Cont F) : (K (F := F)).VecSplit' (P A) 0 := by
  intro d c
  show (bigSep Finset.univ fun i : Fin 16 => goD A d c i) ⊢ |={Set.univ}=> iprop((bigSep Finset.univ fun i : Fin 16 => goD A d c i)
    ∗ ((bigSep Finset.univ fun i : Fin 16 => tdD A d c i) -∗ bigSep Finset.univ fun i : Fin 16 => tdD A d c i))
  iintro H; imodintro
  isplitl [H]; · iexact H
  iintro H; iexact H

theorem vecSplit1 (A : Cont F) : (K (F := F)).VecSplit' (P A) 1 := by
  intro d c
  show (bigSep Finset.univ fun i : Fin 16 => goG A d c i) ⊢ |={Set.univ}=> iprop((bigSep Finset.univ fun i : Fin 16 => goG A d c i)
    ∗ ((bigSep Finset.univ fun i : Fin 16 => tdG A d c i) -∗ bigSep Finset.univ fun i : Fin 16 => tdG A d c i))
  iintro H; imodintro
  isplitl [H]; · iexact H
  iintro H; iexact H

/-! ## The tiles' obligations -/

theorem obl_post {thr : Thread nD τ} {A B C : sProp 𝕄} {O : CellTallies nD τ sig (HIx 2)} {W : Waits sig (HIx 2)} {q : HIx 2 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ q p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem row0 (c : Fin τ.nSC) (s : Fin τ.nSub) :
    defs₀ (F := F) (.scVector c s) 0 ()
      = SparseCore.onTile hcore0 hsub0 (fun c s => cc0__disp_kernel (at0 c s) xV (Memref.isWhole_whole _) l0V (Memref.isWhole_whole _) l1V (Memref.isWhole_whole _)
          l2V (Memref.isWhole_whole _) zV (Memref.isWhole_whole _)
          wV (Memref.isWhole_whole _) b0V (Memref.isWhole_whole _) b1V (Memref.isWhole_whole _) b2V (Memref.isWhole_whole _) cc0_scratch4
          cc0_scoped0 cc0_scoped1 cc0_scoped2 cc0_scoped3) ⟨⟩ c s := rfl

theorem row2 (c : Fin τ.nSC) (s : Fin τ.nSub) :
    defs₀ (F := F) (.scVector c s) 2 ()
      = SparseCore.onTile hcore2 hsub2 (fun c s => cc2__gath_kernel (at2 c s) yV (Memref.isWhole_whole _) pV (Memref.isWhole_whole _) oV (Memref.isWhole_whole _)
            r0V (Memref.isWhole_whole _) r1V (Memref.isWhole_whole _) x0V (Memref.isWhole_whole _) x1V (Memref.isWhole_whole _) cc2_scratch4
            cc2_scoped0 cc2_scoped1 cc2_scoped2 cc2_scoped3 cc2_scoped4 cc2_scoped5) ⟨⟩ c s := rfl

theorem tileObl0 (A : Cont F) (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [row0]; simp only [SparseCore.onTile, hci, and_self, ↓reduceDIte]
  exact (disp_body d (at0 ⟨_, hci.1⟩ ⟨_, hci.2⟩) A.X A.Pl A.z A.apart A.hPl (qt c i) (qt c i) hF O W hO).trans (wp_mono frame _ _ fun _ => obl_post)

theorem gath_tile (A : Cont F) (hF : (K (F := F)).Facts) (d : Dev nD) (c : Fin 2) (i : Fin 16) (O : CellTallies nD τ sig (HIx 2)) (W : Waits sig (HIx 2))
    (hO : ∀ g, O g none = 0) :
    (iprop(levAts (K (F := F)).L (K (F := F)).lev ∗ emp ∗ goG A d c i
        ∗ scopedBufs (V d (cG (at2 c i)) (jG (at2 c i))) ∗ scopedSems0 (V d (cG (at2 c i)) (jG (at2 c i))) ∗ owes (V d (cG (at2 c i)) (jG (at2 c i))) O W) : sProp 𝕄)
      ⊢ wp frame (wpE (defs₀ (F := F)) 𝒱₀ (V d (cG (at2 c i)) (jG (at2 c i))) none) Set.univ
          (cc2__gath_kernel (at2 c i) yV (Memref.isWhole_whole _) pV (Memref.isWhole_whole _) oV (Memref.isWhole_whole _)
            r0V (Memref.isWhole_whole _) r1V (Memref.isWhole_whole _) x0V (Memref.isWhole_whole _) x1V (Memref.isWhole_whole _) cc2_scratch4
            cc2_scoped0 cc2_scoped1 cc2_scoped2 cc2_scoped3 cc2_scoped4 cc2_scoped5)
          fun _ => iprop(tdG A d c i
            ∗ scopedBufs (V d (cG (at2 c i)) (jG (at2 c i))) ∗ scopedSems0 (V d (cG (at2 c i)) (jG (at2 c i)))
            ∗ ∃ W', ⌜∀ p ∈ W', p ∈ W ∨ p.2 = none⌝ ∗ owes (V d (cG (at2 c i)) (jG (at2 c i))) O W') := by
  unfold goG tdG
  exact gath_body d (at2 c i) A.Y A.PF A.hPF (qt c i).left (qt c i).right (qt c i) A.o hF O W hO

theorem tileObl1 (A : Cont F) (hF : (K (F := F)).Facts) : (K (F := F)).TileObl (D (F := F)) 𝒱 (P A) v₀ 1 := by
  intro d c i O W hO _ _
  simp only [show (P A).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [row2]; simp only [SparseCore.onTile, hci, and_self, ↓reduceDIte]
  exact (gath_tile A hF d c i O W hO).trans (wp_mono frame _ _ fun _ => obl_post)

end Cert.Proof.Moe

end
-- ==== Proof.Moe.Deal.lean ====
/-
  What the TensorCore deals the tiles before a SparseCore call, and what it has back.
-/
module

public import proofs.«01_k».proof.Proof.Moe.Payloads

@[expose] public section

set_option maxRecDepth 16384

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (A : Cont F) (d : Dev nD)

/-! ## The dispatch -/

/-- A tile, a list and a group of columns. -/
abbrev Part : Type := Fin 2 × Fin 16 × Fin 3 × Fin 6
abbrev part (x : Part) : Finset S9216x768.Idx := setD (A.Pl x.2.2.1) (bD (at0 x.1 x.2.1)) x.2.2.2

theorem bD_at (c : Fin 2) (i : Fin 16) : bD (at0 c i) = 128 * i.val + 64 * c.val := rfl

theorem part_disjoint : ∀ x ∈ (Finset.univ : Finset Part), ∀ y ∈ (Finset.univ : Finset Part), x ≠ y → Disjoint (part A x) (part A y) := by
  rintro ⟨c, i, k, jj⟩ - ⟨c', i', k', jj'⟩ - hne
  refine Finset.disjoint_left.mpr fun p hp hq => hne ?_
  obtain ⟨⟨t, ht, ht', e⟩, hj⟩ := (Finset.mem_filter.mp hp).2
  obtain ⟨⟨u, hu, hu', e'⟩, hj'⟩ := (Finset.mem_filter.mp hq).2
  simp only [bD_at] at ht ht' hu hu'
  dsimp only at hj hj'
  obtain ⟨rfl, htu⟩ := A.apart k k' _ _ (e.trans e'.symm)
  have htu' : t = u := congrFun htu 0
  subst htu'
  have := c.isLt; have := c'.isLt; have := i.isLt; have := i'.isLt
  obtain rfl : c = c' := Fin.ext (by omega)
  obtain rfl : i = i' := Fin.ext (by omega)
  obtain rfl : jj = jj' := Fin.ext (by omega)
  rfl

/-- The slots some word names. -/
def named : Finset S9216x768.Idx := Finset.univ.biUnion (part A)

theorem XS_rest : ∀ p ∈ (Finset.univ \ named A : Finset S9216x768.Idx), A.z p = A.XS p := by
  intro p hp
  refine (XS_unnamed (fun ⟨t, k, e⟩ => (Finset.mem_sdiff.mp hp).2 ?_)).symm
  have ht := t.isLt
  have h1 : (p 1).val < 768 := (p 1).isLt
  refine Finset.mem_biUnion.mpr ⟨(⟨t.val / 64 % 2, by omega⟩, ⟨t.val / 128, by omega⟩, k, ⟨(p 1).val / 128, by omega⟩), Finset.mem_univ _, ?_⟩
  simp only [part, setD, bD_at]
  refine Finset.mem_filter.mpr ⟨Finset.mem_univ _, ?_⟩
  exact ⟨⟨t, by omega, by omega, e⟩, rfl⟩

theorem slots_eq (g : S9216x768.Idx → Elt F .f32) :
    (zLoc d ↦[named A]{fullShare} g : sProp 𝕄) = bigSep Finset.univ fun c : Fin 2 => bigSep Finset.univ fun i : Fin 16 => slots A d c i g := by
  unfold named
  rw [pointsTo_biUnion Finset.univ (ℓ := zLoc d) (part A) (part_disjoint A), bigSep_univ_prod]
  refine bigSep_congr fun c _ => ?_
  rw [bigSep_univ_prod]
  refine bigSep_congr fun i _ => ?_
  rw [bigSep_univ_prod]

theorem deal0 :
    (iprop((xLoc d ↦{fullShare} A.X) ∗ (l0Loc d ↦{fullShare} A.Pl 0) ∗ (l1Loc d ↦{fullShare} A.Pl 1) ∗ (l2Loc d ↦{fullShare} A.Pl 2)
        ∗ (zLoc d ↦{fullShare} A.z)) : sProp 𝕄)
      ⊢ iprop((bigSep Finset.univ fun c : Fin ((K (F := F)).nCore 0) => (P A).st 0 d c) ∗ zLoc d ↦[Finset.univ \ named A]{fullShare} A.z) := by
  show _ ⊢ iprop((bigSep Finset.univ fun c : Fin 2 => bigSep Finset.univ fun i : Fin 16 => goD A d c i) ∗ _)
  unfold goD
  simp only [bigSep_sep']
  rw [← shares, ← shares, ← shares, ← shares, ← slots_eq]
  iintro ⟨Hx, H0, H1, H2, Hz⟩
  ihave Hz := (pointsTo_split_subset (ℓ := zLoc d) (q := fullShare) (f := A.z) (S := Finset.univ) (Finset.subset_univ (named A))).1 $$ Hz
  icases Hz with ⟨Hz, Hr⟩
  isplitr [Hr]
  · isplitl [Hx]; · iexact Hx
    isplitl [H0]; · iexact H0
    isplitl [H1]; · iexact H1
    isplitl [H2]; · iexact H2
    iexact Hz
  iexact Hr

theorem back0 :
    (iprop((bigSep Finset.univ fun c : Fin ((K (F := F)).nCore 0) => (P A).dn 0 d c) ∗ zLoc d ↦[Finset.univ \ named A]{fullShare} A.z) : sProp 𝕄)
      ⊢ iprop((xLoc d ↦{fullShare} A.X) ∗ (zLoc d ↦{fullShare} A.XS)) := by
  show iprop((bigSep Finset.univ fun c : Fin 2 => bigSep Finset.univ fun i : Fin 16 => tdD A d c i) ∗ _) ⊢ _
  unfold tdD
  simp only [bigSep_sep']
  rw [← shares, ← slots_eq, pointsTo_congr (ℓ := zLoc d) (XS_rest A)]
  iintro ⟨⟨Hx, Hz⟩, Hr⟩
  isplitl [Hx]; · iexact Hx
  iapply (pointsTo_split_subset (ℓ := zLoc d) (q := fullShare) (f := A.XS) (S := Finset.univ) (Finset.subset_univ (named A))).2
  isplitl [Hz]; · iexact Hz
  iexact Hr

/-! ## The gather -/

abbrev Run : Type := Fin 2 × Fin 16 × Fin 3
abbrev run (x : Run) : Finset S6144x768.Idx := ochunk (at2 x.1 x.2.1) x.2.2

theorem mem_run (x : Run) (p : S6144x768.Idx) :
    p ∈ run x ↔ 384 * x.2.1.val + 192 * x.1.val + 64 * x.2.2.val ≤ (p 0).val ∧ (p 0).val < 384 * x.2.1.val + 192 * x.1.val + 64 * x.2.2.val + 64 := by
  obtain ⟨c, i, r⟩ := x
  have hp1 : (p 1).val < 768 := (p 1).isLt
  simp only [run, ochunk, Rect.mem_set_unit, k2_off3_eq]
  constructor
  · intro h; exact h 0
  · intro h (a : Fin 2)
    match a with
    | 0 => exact h
    | 1 => exact ⟨Nat.zero_le _, lt_of_lt_of_eq hp1 (Nat.zero_add 768).symm⟩

theorem run_disjoint : ∀ x ∈ (Finset.univ : Finset Run), ∀ y ∈ (Finset.univ : Finset Run), x ≠ y → Disjoint (run x) (run y) := by
  rintro ⟨c, i, r⟩ - ⟨c', i', r'⟩ - hne
  refine Finset.disjoint_left.mpr fun p hp hq => hne ?_
  rw [mem_run] at hp hq
  dsimp only at hp hq
  have := c.isLt; have := c'.isLt; have := i.isLt; have := i'.isLt; have := r.isLt; have := r'.isLt
  obtain rfl : c = c' := Fin.ext (by omega)
  obtain rfl : i = i' := Fin.ext (by omega)
  obtain rfl : r = r' := Fin.ext (by omega)
  rfl

theorem run_cover : (Finset.univ : Finset Run).biUnion run = Finset.univ := by
  refine Finset.eq_univ_iff_forall.mpr fun p => ?_
  have hp : (p 0).val < 6144 := (p 0).isLt
  refine Finset.mem_biUnion.mpr ⟨(⟨(p 0).val / 192 % 2, by omega⟩, ⟨(p 0).val / 384, by omega⟩, ⟨(p 0).val / 64 % 3, by omega⟩), Finset.mem_univ _, ?_⟩
  rw [mem_run]
  dsimp only
  omega

theorem rows_eq (g : S6144x768.Idx → Elt F .f32) :
    (oLoc d ↦{fullShare} g : sProp 𝕄) = bigSep Finset.univ fun c : Fin 2 => bigSep Finset.univ fun i : Fin 16 => rows d c i g := by
  rw [show (oLoc d ↦{fullShare} g : sProp 𝕄) = (oLoc d ↦[(Finset.univ : Finset Run).biUnion run]{fullShare} g) by rw [run_cover],
    pointsTo_biUnion Finset.univ (ℓ := oLoc d) run run_disjoint, bigSep_univ_prod]
  refine bigSep_congr fun c _ => ?_
  rw [bigSep_univ_prod]

theorem deal1 :
    (iprop((yLoc d ↦{fullShare} A.Y) ∗ (pLoc d ↦{fullShare} A.PF) ∗ (oLoc d ↦{fullShare} A.o)) : sProp 𝕄)
      ⊢ bigSep Finset.univ fun c : Fin ((K (F := F)).nCore 1) => (P A).st 1 d c := by
  show _ ⊢ (bigSep Finset.univ fun c : Fin 2 => bigSep Finset.univ fun i : Fin 16 => goG A d c i)
  have hy : (yLoc d ↦{fullShare} A.Y : sProp 𝕄) = iprop((bigSep Finset.univ fun c : Fin 2 => bigSep Finset.univ fun i : Fin 16 => yLoc d ↦{(qt c i).left} A.Y)
      ∗ (bigSep Finset.univ fun c : Fin 2 => bigSep Finset.univ fun i : Fin 16 => yLoc d ↦{(qt c i).right} A.Y)) := by
    rw [shares]
    simp only [← bigSep_sep']
    exact bigSep_congr fun c _ => bigSep_congr fun i _ => shares2 _ _
  unfold goG
  simp only [bigSep_sep']
  rw [← shares, ← rows_eq, hy]
  iintro ⟨⟨Hy, Hy'⟩, Hp, Ho⟩
  isplitl [Hy]; · iexact Hy
  isplitl [Hy']; · iexact Hy'
  isplitl [Hp]; · iexact Hp
  iexact Ho

theorem back1 :
    (bigSep Finset.univ fun c : Fin ((K (F := F)).nCore 1) => (P A).dn 1 d c) ⊢ (oLoc d ↦{fullShare} A.G : sProp 𝕄) := by
  show (bigSep Finset.univ fun c : Fin 2 => bigSep Finset.univ fun i : Fin 16 => tdG A d c i) ⊢ _
  unfold tdG
  rw [← rows_eq]

end Cert.Proof.Moe

end
-- ==== Proof.Moe.Vals.lean ====
/-
  The contents of the TensorCore's buffers between the steps of @main, as functions of what they held at the launch, and the
  contents the two SparseCore calls work at.
-/
module

public import proofs.«01_k».proof.Proof.Moe.Arrays
public import proofs.«01_k».proof.Proof.Moe.Deal

@[expose] public section

set_option maxRecDepth 16384

noncomputable section

namespace Cert.Proof.Moe

open Cert.KernelIdeal Cert.KernelIdeal.Gen

open Idealize.ShloMosaic Idealize.ShloMosaic.TcCoe Idealize.ShloMosaic.Pipeline
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The operations and the buffers of @main -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)
abbrev arg4' : DevRef τ sig := Proc.devRef .tc (main_arg4 : Ref sig .tc)
abbrev arg5' : DevRef τ sig := Proc.devRef .tc (main_arg5 : Ref sig .tc)
abbrev arg6' : DevRef τ sig := Proc.devRef .tc (main_arg6 : Ref sig .tc)
abbrev arg7' : DevRef τ sig := Proc.devRef .tc (main_arg7 : Ref sig .tc)
abbrev arg8' : DevRef τ sig := Proc.devRef .tc (main_arg8 : Ref sig .tc)
abbrev arg9' : DevRef τ sig := Proc.devRef .tc (main_arg9 : Ref sig .tc)
abbrev arg10' : DevRef τ sig := Proc.devRef .tc (main_arg10 : Ref sig .tc)
abbrev arg11' : DevRef τ sig := Proc.devRef .tc (main_arg11 : Ref sig .tc)
abbrev arg12' : DevRef τ sig := Proc.devRef .tc (main_arg12 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)
abbrev v12' : DevRef τ sig := Proc.devRef .tc (main_v12 : Ref sig .tc)
abbrev v13' : DevRef τ sig := Proc.devRef .tc (main_v13 : Ref sig .tc)
abbrev v14' : DevRef τ sig := Proc.devRef .tc (main_v14 : Ref sig .tc)
abbrev v15' : DevRef τ sig := Proc.devRef .tc (main_v15 : Ref sig .tc)
abbrev v16' : DevRef τ sig := Proc.devRef .tc (main_v16 : Ref sig .tc)

abbrev op0 : HloOp τ sig (Elt F) := StableHlo.reshape main_arg2 main_v0 rfl shapeCasts_S1x72_S72
abbrev op1 : HloOp τ sig (Elt F) := StableHlo.unary main_arg1 main_v1 ((extractStridedSlice S2048x1 ![0, 0] · slices_S2048x3_S2048x1_0_0) : (⟨S2048x3, .i32⟩ : BufTy).Contents (Elt F) → (⟨S2048x1, .i32⟩ : BufTy).Contents (Elt F))
abbrev op2 : HloOp τ sig (Elt F) := StableHlo.reshape main_v1 main_v2 rfl shapeCasts_S2048x1_S2048
abbrev op3 : HloOp τ sig (Elt F) := StableHlo.unary main_arg1 main_v3 ((extractStridedSlice S2048x1 ![0, 1] · slices_S2048x3_S2048x1_0_1) : (⟨S2048x3, .i32⟩ : BufTy).Contents (Elt F) → (⟨S2048x1, .i32⟩ : BufTy).Contents (Elt F))
abbrev op4 : HloOp τ sig (Elt F) := StableHlo.reshape main_v3 main_v4 rfl shapeCasts_S2048x1_S2048
abbrev op5 : HloOp τ sig (Elt F) := StableHlo.unary main_arg1 main_v5 ((extractStridedSlice S2048x1 ![0, 2] · slices_S2048x3_S2048x1_0_2) : (⟨S2048x3, .i32⟩ : BufTy).Contents (Elt F) → (⟨S2048x1, .i32⟩ : BufTy).Contents (Elt F))
abbrev op6 : HloOp τ sig (Elt F) := StableHlo.reshape main_v5 main_v6 rfl shapeCasts_S2048x1_S2048
abbrev op7 : HloOp τ sig (Elt F) := StableHlo.reshape main_arg5 main_v8 rfl shapeCasts_S23x384_S23x1x384
abbrev op8 : HloOp τ sig (Elt F) := StableHlo.reshape main_arg7 main_v9 rfl shapeCasts_S23x768_S23x1x768
abbrev op9 : HloOp τ sig (Elt F) := StableHlo.reshape main_arg1 main_v11 rfl shapeCasts_S2048x3_S6144
abbrev op10 : HloOp τ sig (Elt F) := StableHlo.reshape main_v12 main_v13 rfl shapeCasts_S6144x768_S2048x2304
abbrev op11 : HloOp τ sig (Elt F) := StableHlo.reshape main_arg9 main_v14 rfl shapeCasts_S384_S1x384
abbrev op12 : HloOp τ sig (Elt F) := StableHlo.reshape main_arg11 main_v15 rfl shapeCasts_S768_S1x768

section Stay

omit [FloatOps F]

/-- An operation leaves every buffer but its result. -/
theorem rs_stay {x y r : Ref sig .tc} (he hn hx hy) (V : Valuation τ sig (Elt F)) (h : r ≠ y) :
    (StableHlo.reshape (τ := τ) (Val := Elt F) x y he hn hx hy).result V (Proc.devRef .tc r) = V (Proc.devRef .tc r) :=
  StableHlo.reshape_result_ne x y he hn hx hy V h
theorem up_stay {y r : Ref sig .tc} (V : Valuation τ sig (Elt F)) (f) (h : r ≠ y) :
    Function.update V (Proc.devRef .tc y) f (Proc.devRef .tc r) = V (Proc.devRef .tc r) :=
  Function.update_of_ne (StableHlo.devRef_ne_of_ne h) _ _

end Stay

variable (m : (ℓ : Loc nD τ sig) → Buf (Elt F) ℓ)

/-! ## Up to the dispatch -/

def V0 : Valuation τ sig (Elt F) := fun b => m (0, b)
def U0 : Valuation τ sig (Elt F) := (op0 (F := F)).result (V0 m)
def U1 : Valuation τ sig (Elt F) := (op1 (F := F)).result (U0 m)
def U2 : Valuation τ sig (Elt F) := (op2 (F := F)).result (U1 m)
def U3 : Valuation τ sig (Elt F) := (op3 (F := F)).result (U2 m)
def U4 : Valuation τ sig (Elt F) := (op4 (F := F)).result (U3 m)
def U5 : Valuation τ sig (Elt F) := (op5 (F := F)).result (U4 m)
def U6 : Valuation τ sig (Elt F) := (op6 (F := F)).result (U5 m)

/-- The three lists of slots. -/
def Pl : Fin 3 → S2048.Idx → BitVec 32
  | 0 => U6 m v2'
  | 1 => U6 m v4'
  | 2 => U6 m v6'

/-- The table of experts. -/
def tb : Cert.KernelIdeal.pre1.Contents (Elt F) := fun k => U6 m (Proc.devRef .tc (Cert.KernelIdeal.pre1.ref k))

/-- What the proof asks of the arguments. -/
structure Ok : Prop where
  rng : ∀ i : S2048x3.Idx, BitVec.toNat (m (0, arg1') i) < 9216
  apart : Apart (Pl m)
  tbl : ok1 (F := F) (tb m)

/-! ## From the dispatch to the FFN, to the gather, to the end -/

variable (h : Ok m)

def Vx : Valuation τ sig (Elt F) := Function.update (U6 m) v7' (XS (F := F) (U6 m arg0') (Pl m) (U6 m v7'))
def U7 : Valuation τ sig (Elt F) := (op7 (F := F)).result (Vx m)
def V2 : Valuation τ sig (Elt F) := (op8 (F := F)).result (U7 m)
def Vy : Valuation τ sig (Elt F) := Function.update (V2 m) v10' (ffnVal (tb m) h.tbl (V2 m) 0)
def V3 : Valuation τ sig (Elt F) := (op9 (F := F)).result (Vy m h)

theorem Vx_eq {r : Ref sig .tc} (hr : r ≠ main_v7) : Vx m (Proc.devRef .tc r) = U6 m (Proc.devRef .tc r) := up_stay _ _ hr

/-- Up to the dispatch, the operations leave every buffer but their seven results. -/
theorem U6_eq {r : Ref sig .tc} (hr : r ≠ main_v0 ∧ r ≠ main_v1 ∧ r ≠ main_v2 ∧ r ≠ main_v3 ∧ r ≠ main_v4 ∧ r ≠ main_v5 ∧ r ≠ main_v6) :
    U6 m (Proc.devRef .tc r) = m (0, Proc.devRef .tc r) := by
  obtain ⟨h0, h1, h2, h3, h4, h5, h6⟩ := hr
  unfold U6 U5 U4 U3 U2 U1 U0
  rw [rs_stay _ _ _ _ _ h6, StableHlo.unary_result_ne _ _ _ _ _ _ h5, rs_stay _ _ _ _ _ h4, StableHlo.unary_result_ne _ _ _ _ _ _ h3,
    rs_stay _ _ _ _ _ h2, StableHlo.unary_result_ne _ _ _ _ _ _ h1, rs_stay _ _ _ _ _ h0]
  rfl

theorem V2_eq {r : Ref sig .tc} (hr : r ≠ main_v8 ∧ r ≠ main_v9) : V2 m (Proc.devRef .tc r) = Vx m (Proc.devRef .tc r) := by
  unfold V2 U7
  rw [rs_stay _ _ _ _ _ hr.2, rs_stay _ _ _ _ _ hr.1]

theorem V3_eq {r : Ref sig .tc} (hr : r ≠ main_v11 ∧ r ≠ main_v10) : V3 m h (Proc.devRef .tc r) = V2 m (Proc.devRef .tc r) := by
  unfold V3 Vy
  rw [rs_stay _ _ _ _ _ hr.1, up_stay _ _ hr.2]

/-- A reshaped array at the entry of the same place in row-major order. -/
theorem cast_at {s t : Shape} {α : Type} (x : s.Idx → α) (h : s.ShapeCasts t) {i : t.Idx} {j : s.Idx} (e : (s.rowMajor j : ℕ) = t.rowMajor i) :
    shapeCast t x h i = x j :=
  congrArg x (Shape.reshapeEquiv_eq_of_rowMajor _ e)

omit [FloatOps F] in
/-- A column of the table of slots as a list. -/
theorem column (x : S2048x3.Idx → BitVec 32) (k : Fin 3) (hs : S2048x3.Slices ![0, k.val] S2048x1) (t : Fin 2048) :
    shapeCast S2048 (extractStridedSlice S2048x1 ![0, k.val] x hs) shapeCasts_S2048x1_S2048 (i1 t) = x (i2 t k) := by
  rw [cast_at (j := i2 t (0 : Fin 1)) _ _ (by rw [Shape.rowMajor_val_two, Shape.rowMajor_val_one]; show t.val * 1 + 0 = t.val; omega)]
  unfold extractStridedSlice
  exact congrArg x (funext fun a => by
    match a with
    | 0 => exact Fin.ext (show 0 + t.val = t.val by omega)
    | 1 => exact Fin.ext (show k.val + 0 = k.val by omega))

/-- List `k` is column `k` of the table of slots. -/
theorem Pl_eq (k : Fin 3) (t : Fin 2048) : Pl m k (i1 t) = m (0, arg1') (i2 t k) := by
  match k with
  | 0 =>
    show U6 m v2' (i1 t) = _
    unfold U6 U5 U4 U3 U2 U1 U0
    rw [rs_stay _ _ _ _ _ (by decide), StableHlo.unary_result_ne _ _ _ _ _ _ (by decide), rs_stay _ _ _ _ _ (by decide), StableHlo.unary_result_ne _ _ _ _ _ _ (by decide),
      StableHlo.reshape_result, StableHlo.unary_result, rs_stay _ _ _ _ _ (by decide)]
    exact column _ 0 _ t
  | 1 =>
    show U6 m v4' (i1 t) = _
    unfold U6 U5 U4 U3 U2 U1 U0
    rw [rs_stay _ _ _ _ _ (by decide), StableHlo.unary_result_ne _ _ _ _ _ _ (by decide),
      StableHlo.reshape_result, StableHlo.unary_result, rs_stay _ _ _ _ _ (by decide), StableHlo.unary_result_ne _ _ _ _ _ _ (by decide), rs_stay _ _ _ _ _ (by decide)]
    exact column _ 1 _ t
  | 2 =>
    show U6 m v6' (i1 t) = _
    unfold U6 U5 U4 U3 U2 U1 U0
    rw [StableHlo.reshape_result, StableHlo.unary_result, rs_stay _ _ _ _ _ (by decide), StableHlo.unary_result_ne _ _ _ _ _ _ (by decide),
      rs_stay _ _ _ _ _ (by decide), StableHlo.unary_result_ne _ _ _ _ _ _ (by decide), rs_stay _ _ _ _ _ (by decide)]
    exact column _ 2 _ t

include h in
theorem Pl_lt (k : Fin 3) (x : S2048.Idx) : BitVec.toNat (Pl m k x) < 9216 := by
  have e : x = i1 (n := 2048) (x 0) := funext fun a => by obtain rfl : a = 0 := Subsingleton.elim _ _; rfl
  exact (congrArg BitVec.toNat ((congrArg (Pl m k) e).trans (Pl_eq m k (x 0)))).trans_lt (h.rng _)

theorem PF_eq (t : Fin 2048) (k : Fin 3) (x : S6144.Idx) (hx : (x 0).val = 3 * t.val + k.val) : V3 m h v11' x = m (0, arg1') (i2 t k) := by
  unfold V3
  rw [StableHlo.reshape_result]
  refine (cast_at (j := i2 t k) _ _ ?_).trans ?_
  · refine (Shape.rowMajor_val_two _).trans (Eq.trans ?_ (Shape.rowMajor_val_one (d := ![6144]) x).symm); show t.val * 3 + k.val = (x 0).val; omega
  · unfold Vy
    rw [up_stay _ _ (by decide), V2_eq m (by decide), Vx_eq m (by decide), U6_eq m (by decide)]

theorem PF_lt (x : S6144.Idx) : BitVec.toNat (V3 m h v11' x) < 9216 := by
  rw [PF_eq m h ⟨(x 0).val / 3, by have h : (x 0).val < 6144 := (x 0).isLt; omega⟩ ⟨(x 0).val % 3, Nat.mod_lt _ (by decide)⟩ x (Nat.div_add_mod _ _).symm]
  exact h.rng _

/-- The contents the SparseCore calls work at. -/
def cont : Cont F where
  X := U6 m arg0'
  Pl := Pl m
  z := U6 m v7'
  Y := V3 m h v10'
  PF := V3 m h v11'
  o := V3 m h v12'
  apart := h.apart
  hPl := Pl_lt m h
  hPF := PF_lt m h

def Vg : Valuation τ sig (Elt F) := Function.update (V3 m h) v12' (cont m h).G
def U10 : Valuation τ sig (Elt F) := (op10 (F := F)).result (Vg m h)
def U11 : Valuation τ sig (Elt F) := (op11 (F := F)).result (U10 m h)
def V4 : Valuation τ sig (Elt F) := (op12 (F := F)).result (U11 m h)
def Vo : Valuation τ sig (Elt F) := Function.update (V4 m h) v16' (combVal (V4 m h) 0)

theorem V4_eq {r : Ref sig .tc} (hr : r ≠ main_v15 ∧ r ≠ main_v14 ∧ r ≠ main_v13 ∧ r ≠ main_v12) : V4 m h (Proc.devRef .tc r) = V3 m h (Proc.devRef .tc r) := by
  unfold V4 U11 U10 Vg
  rw [rs_stay _ _ _ _ _ hr.1, rs_stay _ _ _ _ _ hr.2.1, rs_stay _ _ _ _ _ hr.2.2.1, up_stay _ _ hr.2.2.2]

theorem Vo_eq {r : Ref sig .tc} (hr : r ≠ main_v16) : Vo m h (Proc.devRef .tc r) = V4 m h (Proc.devRef .tc r) := up_stay _ _ hr

/-- A buffer no step of @main writes holds at the end what it held at the launch. -/
theorem kept {r : Ref sig .tc} (hr : ∀ y ∈ [main_v0, main_v1, main_v2, main_v3, main_v4, main_v5, main_v6, main_v7, main_v8, main_v9, main_v10, main_v11,
    main_v12, main_v13, main_v14, main_v15, main_v16], r ≠ y) : Vo m h (Proc.devRef .tc r) = m (0, Proc.devRef .tc r) := by
  simp only [List.forall_mem_cons] at hr
  obtain ⟨h0, h1, h2, h3, h4, h5, h6, h7, h8, h9, h10, h11, h12, h13, h14, h15, h16, -⟩ := hr
  rw [Vo_eq m h h16, V4_eq m h ⟨h15, h14, h13, h12⟩, V3_eq m h ⟨h11, h10⟩, V2_eq m ⟨h8, h9⟩, Vx_eq m h7, U6_eq m ⟨h0, h1, h2, h3, h4, h5, h6⟩]

end Cert.Proof.Moe

end
-- ==== Proof.Moe.Pre.lean ====
/-
  What the precondition says of the routing tables, in plain facts, and that they are what the launch asks of them.
-/
module

public import proofs.«01_k».proof.Proof.Moe.Vals
public import proofs.«01_k».proof.Proof.Gen.Pre_routed
public import Idealize.ShloMosaic.Lib.WordCmp

@[expose] public section

set_option maxRecDepth 16384

noncomputable section

namespace Cert.Proof.Moe

open Cert.KernelIdeal Cert.KernelIdeal.Gen

open Idealize.ShloMosaic Idealize.ShloMosaic.TcCoe Idealize.ShloMosaic.Pipeline Idealize.ShloMosaic.WordCmp
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The facts -/

/-- The rows are in range and pairwise distinct, the experts of the tiles are in range, a copy's row lies in a tile of its expert, and a token's experts are distinct. -/
structure Routed (pos : S2048x3.Idx → BitVec 32) (te : S1x72.Idx → BitVec 32) (ti : S2048x3.Idx → BitVec 32) : Prop where
  pos_lt : ∀ i, (pos i).toNat < 9216
  te_lt : ∀ i, (te i).toNat < 23
  apart : ∀ t k t' k', pos (i2 t k) = pos (i2 t' k') → t = t' ∧ k = k'
  agree : ∀ t k (j : Fin 72), 128 * j.val ≤ (pos (i2 t k)).toNat → (pos (i2 t k)).toNat < 128 * j.val + 128 → te (i2 0 j) = ti (i2 t k)
  apart0 : ∀ t, ti (i2 t 0) ≠ ti (i2 t 1) ∧ ti (i2 t 0) ≠ ti (i2 t 2) ∧ ti (i2 t 1) ≠ ti (i2 t 2)

omit [FloatOps F] in
theorem in_range {x : BitVec 32} {n : ℕ} (hn : n < 2 ^ 31) (e : IntOp.andi (IntOp.cmpi .sge x 0#32) (IntOp.cmpi .slt x (BitVec.ofNat 32 n)) = 1#1) : x.toNat < n := by
  simp only [IntOp.cmpi, andi_ofBool, ofBool_eq_one_iff, Bool.and_eq_true, BitVec.sle_eq_decide, BitVec.slt_eq_decide, decide_eq_true_eq, BitVec.toInt_eq_toNat_cond, BitVec.toNat_ofNat] at e
  have := x.isLt
  omega

omit [FloatOps F] in
theorem apart_word {p q : BitVec 32} {a b : ℕ} (ha : a < 2 ^ 31) (hb : b < 2 ^ 31)
    (e : IntOp.ori (IntOp.cmpi .ne p q) (IntOp.cmpi .eq (BitVec.ofNat 32 a) (BitVec.ofNat 32 b)) = 1#1) (h : p = q) : a = b := by
  subst h
  simp only [cmpi_ne_eq, cmpi_eq_eq, ori_ofBool, ofBool_eq_one_iff, Bool.or_eq_true, decide_eq_true_eq, ne_eq, not_true_eq_false, _root_.false_or] at e
  have := congrArg BitVec.toNat e
  simp only [BitVec.toNat_ofNat] at this
  omega

omit [FloatOps F] in
theorem agree_word {p x y : BitVec 32} {j : ℕ} (hj : j < 72) (hp : p.toNat < 9216)
    (e : IntOp.ori (IntOp.cmpi .eq x y) (~~~(IntOp.andi (IntOp.cmpi .sge p (IntOp.muli (BitVec.ofNat 32 j) 128#32))
      (IntOp.cmpi .slt p (IntOp.addi (IntOp.muli (BitVec.ofNat 32 j) 128#32) 128#32)))) = 1#1)
    (h1 : 128 * j ≤ p.toNat) (h2 : p.toNat < 128 * j + 128) : x = y := by
  have eA : IntOp.cmpi .sge p (IntOp.muli (BitVec.ofNat 32 j) 128#32) = 1#1 := by
    simp only [IntOp.cmpi, IntOp.muli, ofBool_eq_one_iff, BitVec.sle_eq_decide, decide_eq_true_eq, BitVec.toInt_eq_toNat_cond, BitVec.toNat_ofNat, BitVec.toNat_mul]
    omega
  have eB : IntOp.cmpi .slt p (IntOp.addi (IntOp.muli (BitVec.ofNat 32 j) 128#32) 128#32) = 1#1 := by
    simp only [IntOp.cmpi, IntOp.muli, IntOp.addi, ofBool_eq_one_iff, BitVec.slt_eq_decide, decide_eq_true_eq, BitVec.toInt_eq_toNat_cond, BitVec.toNat_ofNat, BitVec.toNat_mul, BitVec.toNat_add]
    omega
  rw [eA, eB, cmpi_eq_eq] at e
  by_contra hn
  rw [decide_eq_false hn] at e
  revert e
  decide

/-- A table of words by token and copy, as one list. -/
theorem flat_at (x : S2048x3.Idx → BitVec 32) (h : S2048x3.ShapeCasts S6144) (t : Fin 2048) (k : Fin 3) (i : S6144.Idx) (hi : (i 0).val = 3 * t.val + k.val) :
    shapeCast S6144 x h i = x (i2 t k) :=
  cast_at _ _ (by rw [Shape.rowMajor_val_two, Shape.rowMajor_val_one, hi]; show t.val * 3 + k.val = _; omega)

/-- The index of a three-axis shape. -/
def i3 {n m l : ℕ} (a : Fin n) (b : Fin m) (c : Fin l) : (⟨3, ![n, m, l]⟩ : Shape).Idx := fun x => match x with | 0 => a | 1 => b | 2 => c

omit [FloatOps F] in
/-- A table by token and copy, laid along a third axis. -/
theorem spread {n m l : ℕ} {α : Type} (hn : n ≠ 1) (hm : m ≠ 1) (x : (⟨2, ![n, m]⟩ : Shape).Idx → α) (h : (⟨2, ![n, m]⟩ : Shape).BroadcastsInDim ⟨3, ![n, m, 1]⟩ ![0, 1])
    (h' : (⟨3, ![n, m, 1]⟩ : Shape).BroadcastsInDim ⟨3, ![n, m, l]⟩ ![0, 1, 2]) (a : Fin n) (b : Fin m) (c : Fin l) :
    broadcastInDim ⟨3, ![n, m, l]⟩ ![0, 1, 2] h' (broadcastInDim ⟨3, ![n, m, 1]⟩ ![0, 1] h x) (i3 a b c) = x (i2 a b) := by
  refine (broadcastInDim_apply _ _ _ _ (i3 a b (0 : Fin 1)) ?_).trans (broadcastInDim_apply _ _ _ _ (i2 a b) ?_)
  · intro y
    match y with
    | 0 => exact (if_neg hn).symm
    | 1 => exact (if_neg hm).symm
    | 2 => rfl
  · intro y
    match y with
    | 0 => exact (if_neg hn).symm
    | 1 => exact (if_neg hm).symm

section Extract

variable {a0 : FVec F Cert.Pre_routed.S2048x768 .f32} {a1 : IVec Cert.Pre_routed.S2048x3 32} {a2 : IVec Cert.Pre_routed.S1x72 32} {a3 : FVec F Cert.Pre_routed.S2048x3 .f32}
  {a4 : FVec F Cert.Pre_routed.S23x384x768 .f32} {a5 : FVec F Cert.Pre_routed.S23x384 .f32} {a6 : FVec F Cert.Pre_routed.S23x768x384 .f32} {a7 : FVec F Cert.Pre_routed.S23x768 .f32}
  {a8 : FVec F Cert.Pre_routed.S384x768 .f32} {a9 : FVec F Cert.Pre_routed.S384 .f32} {a10 : FVec F Cert.Pre_routed.S768x384 .f32} {a11 : FVec F Cert.Pre_routed.S768 .f32}
  {a12 : IVec Cert.Pre_routed.S2048x3 32}

open Cert.Pre_routed (fn fn_part1 fn_part2)

theorem routed_of (h1 : (fn (F := F) a0 a1 a2 a3 a4 a5 a6 a7 a8 a9 a10 a11 a12).1 = fun _ => 1#1) (h2 : (fn (F := F) a0 a1 a2 a3 a4 a5 a6 a7 a8 a9 a10 a11 a12).2.1 = fun _ => 1#1) (h3 : (fn (F := F) a0 a1 a2 a3 a4 a5 a6 a7 a8 a9 a10 a11 a12).2.2.1 = fun _ => 1#1)
    (h4 : (fn (F := F) a0 a1 a2 a3 a4 a5 a6 a7 a8 a9 a10 a11 a12).2.2.2.1 = fun _ => 1#1) (h5 : (fn (F := F) a0 a1 a2 a3 a4 a5 a6 a7 a8 a9 a10 a11 a12).2.2.2.2.1 = fun _ => 1#1) (h6 : (fn (F := F) a0 a1 a2 a3 a4 a5 a6 a7 a8 a9 a10 a11 a12).2.2.2.2.2.1 = fun _ => 1#1)
    (h7 : (fn (F := F) a0 a1 a2 a3 a4 a5 a6 a7 a8 a9 a10 a11 a12).2.2.2.2.2.2 = fun _ => 1#1) : Routed a1 a2 a12 := by
  have hp : ∀ i, (a1 i).toNat < 9216 := fun i => in_range (by decide) (congrFun h1 i)
  refine ⟨hp, fun i => in_range (by decide) (congrFun h2 i), fun t k t' k' he => ?_, fun t k j l1 l2 => ?_, fun t => ⟨?_, ?_, ?_⟩⟩
  · have ha : 3 * t.val + k.val < 6144 := by omega
    have hb : 3 * t'.val + k'.val < 6144 := by omega
    have e := congrFun h3 (i2 ⟨_, ha⟩ ⟨_, hb⟩)
    have := apart_word (p := shapeCast S6144 a1 (by decide) (i1 ⟨_, ha⟩)) (q := shapeCast S6144 a1 (by decide) (i1 ⟨_, hb⟩)) (show 3 * t.val + k.val < 2 ^ 31 by omega) (show 3 * t'.val + k'.val < 2 ^ 31 by omega) e
      (((flat_at a1 _ t k _ rfl).trans he).trans (flat_at a1 _ t' k' _ rfl).symm)
    exact ⟨Fin.ext (by omega), Fin.ext (by omega)⟩
  · have sp (x : S2048x3.Idx → BitVec 32) := spread (l := 72) (by decide) (by decide) x (by decide) (by decide) t k j
    have e : IntOp.ori (IntOp.cmpi .eq (shapeCast S72 a2 (by decide) (i1 j)) (broadcastInDim _ _ _ (broadcastInDim _ _ _ a12) (i3 t k j)))
      (~~~(IntOp.andi (IntOp.cmpi .sge (broadcastInDim _ _ _ (broadcastInDim _ _ _ a1) (i3 t k j)) _) (IntOp.cmpi .slt (broadcastInDim _ _ _ (broadcastInDim _ _ _ a1) (i3 t k j)) _))) = 1#1 := congrFun h4 (i3 t k j)
    rw [sp, sp] at e
    have e' := agree_word (p := a1 (i2 t k)) (x := shapeCast S72 a2 (by decide) (i1 j)) (y := a12 (i2 t k)) j.isLt (hp _) e l1 l2
    exact (cast_at (j := i2 0 j) a2 _ (by rw [Shape.rowMajor_val_two, Shape.rowMajor_val_one]; show 0 * 72 + j.val = j.val; omega)).symm.trans e'
  · have e := congrFun h5 (i1 t)
    have e' : IntOp.cmpi .ne (shapeCast S2048 (extractStridedSlice S2048x1 ![0, (0 : Fin 3).val] a12 (by decide)) shapeCasts_S2048x1_S2048 (i1 t))
      (shapeCast S2048 (extractStridedSlice S2048x1 ![0, (1 : Fin 3).val] a12 (by decide)) shapeCasts_S2048x1_S2048 (i1 t)) = 1#1 := e
    rw [column a12 0, column a12 1, cmpi_ne_eq, ofBool_eq_one_iff, decide_eq_true_eq] at e'
    exact e'
  · have e := congrFun h6 (i1 t)
    have e' : IntOp.cmpi .ne (shapeCast S2048 (extractStridedSlice S2048x1 ![0, (0 : Fin 3).val] a12 (by decide)) shapeCasts_S2048x1_S2048 (i1 t))
      (shapeCast S2048 (extractStridedSlice S2048x1 ![0, (2 : Fin 3).val] a12 (by decide)) shapeCasts_S2048x1_S2048 (i1 t)) = 1#1 := e
    rw [column a12 0, column a12 2, cmpi_ne_eq, ofBool_eq_one_iff, decide_eq_true_eq] at e'
    exact e'
  · have e := congrFun h7 (i1 t)
    have e' : IntOp.cmpi .ne (shapeCast S2048 (extractStridedSlice S2048x1 ![0, (1 : Fin 3).val] a12 (by decide)) shapeCasts_S2048x1_S2048 (i1 t))
      (shapeCast S2048 (extractStridedSlice S2048x1 ![0, (2 : Fin 3).val] a12 (by decide)) shapeCasts_S2048x1_S2048 (i1 t)) = 1#1 := e
    rw [column a12 1, column a12 2, cmpi_ne_eq, ofBool_eq_one_iff, decide_eq_true_eq] at e'
    exact e'

end Extract

/-! ## What the launch asks -/

variable (m : (ℓ : Loc nD τ sig) → Buf (Elt F) ℓ)

/-- The table of the tiles' experts, as the second call finds it. -/
theorem tb_at (j : Fin 72) : tb m 0 (i1 j : S72.Idx) = m (0, arg2') (i2 (0 : Fin 1) j) := by
  show U6 m v0' (i1 j) = _
  unfold U6 U5 U4 U3 U2 U1 U0
  rw [rs_stay _ _ _ _ _ (by decide), StableHlo.unary_result_ne _ _ _ _ _ _ (by decide), rs_stay _ _ _ _ _ (by decide), StableHlo.unary_result_ne _ _ _ _ _ _ (by decide),
    rs_stay _ _ _ _ _ (by decide), StableHlo.unary_result_ne _ _ _ _ _ _ (by decide), StableHlo.reshape_result]
  exact cast_at (j := i2 (0 : Fin 1) j) _ _ (by
    refine (Shape.rowMajor_val_two _).trans (Eq.trans ?_ (Shape.rowMajor_val_one (d := ![72]) (i1 j)).symm)
    show 0 * 72 + j.val = j.val
    omega)

/-- The expert an index map reads at grid point `i`. -/
def teOf (i : grid1.Coords) : BitVec 32 := m (0, arg2') (i2 (0 : Fin 1) (i 0))

theorem tb_read (i : grid1.Coords) :
    Prefetch.Contents.at (tb m) 0 (Rect.unit (s := S72) ![(Scalar.indexCast (BitVec.ofNat 32 (i 0).val)).toNat] S1.size (k1_off1_inb i)) numel1_S1 = teOf m i := by
  have e : (Rect.unit (s := S72) ![(Scalar.indexCast (BitVec.ofNat 32 (i 0).val)).toNat] S1.size (k1_off1_inb i)).emb (Shape.Idx.first (numel1_S1.symm ▸ Nat.one_pos)) = (i1 (i 0) : S72.Idx) := by
    funext (a : Fin 1)
    match a with
    | 0 =>
      refine Fin.ext ?_
      show (Scalar.indexCast (BitVec.ofNat 32 (i 0).val)).toNat + 0 * 1 = (i 0).val
      have h : (i 0).val < 72 := (i 0).isLt
      unfold Scalar.indexCast
      rw [BitVec.toNat_ofNat]
      omega
  exact (congrArg (tb m 0) e).trans (tb_at m (i 0))

theorem ok_tbl (hte : ∀ i : S1x72.Idx, BitVec.toNat (m (0, arg2') i) < 23) : ok1 (F := F) (tb m) := by
  have h (i : grid1.Coords) : (Prefetch.Contents.at (tb m) 0 (Rect.unit (s := S72) ![(Scalar.indexCast (BitVec.ofNat 32 (i 0).val)).toNat] S1.size (k1_off1_inb i)) numel1_S1).toNat < 23 := by
    rw [tb_read]; exact hte _
  have d1 : (0#32).toNat + 1 = 1 := rfl
  refine ⟨fun i => ⟨fun a => ?_, Or.inl rfl⟩, fun i => ⟨fun a => ?_, Or.inl rfl⟩, fun i => ⟨fun a => ?_, Or.inl rfl⟩, fun i => ⟨fun a => ?_, Or.inl rfl⟩⟩ <;>
  · match a with
    | 0 => exact (Nat.mul_one _).le.trans (h i)
    | 1 => exact le_of_eq (Nat.one_mul _)
    | 2 => exact le_of_eq (Nat.one_mul _)

/-- The launch's needs, from the facts. -/
theorem ok_of (h : Routed (m (0, arg1')) (m (0, arg2')) (m (0, arg12'))) : Ok m where
  rng := h.pos_lt
  apart := fun k k' t t' e => by
    have p (k : Fin 3) (t : S2048.Idx) : Pl m k t = m (0, arg1') (i2 (t 0) k) := (congrArg (Pl m k) (i1_eta t).symm).trans (Pl_eq m k (t 0))
    rw [p, p] at e
    obtain ⟨e1, e2⟩ := h.apart _ _ _ _ (BitVec.eq_of_toNat_eq e)
    exact ⟨e2, (i1_eta t).symm.trans ((congrArg i1 e1).trans (i1_eta t'))⟩
  tbl := ok_tbl m h.te_lt

end Cert.Proof.Moe

end
-- ==== Proof.Moe.Scalars.lean ====
/-
  The layers' results at one entry, at the reals with infinities: the experts' block, the combine's block, the reference's result.
-/
module

public import proofs.«01_k».proof.Proof.Moe.Calls
public import proofs.«01_k».proof.Proof.Gen.ReferenceIdeal.Run
public import Idealize.ShloMosaic.Lib.WordCmp
public import Idealize.ShloMosaic.Lib.Pointwise

@[expose] public section

set_option maxRecDepth 16384

noncomputable section

namespace Cert.Proof.Moe

open Idealize.ShloMosaic Idealize.ShloMosaic.TcCoe Idealize.ShloMosaic.Pipeline
open scoped BigOperators
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The erf form of the gelu. -/
def geluE (v : EReal) : EReal :=
  Ideal.ofBits .f32 0x3F000000#32 * v * (1 + Ideal.erf (v * Ideal.ofBits .f32 0x3F3504F3#32))

/-- One entry of a two-layer net of a row. -/
def mlp (x : Fin 768 → EReal) (w1 : Fin 384 → Fin 768 → EReal) (b1 : Fin 384 → EReal) (w2 : Fin 768 → Fin 384 → EReal) (b2 : Fin 768 → EReal)
    (d : Fin 768) : EReal :=
  (∑ k : Fin 384, geluE ((∑ j : Fin 768, x j * w1 k j) + b1 k) * w2 d k) + b2 d

section Ker

open Cert.KernelIdeal Cert.KernelIdeal.Gen

/-- One entry of the experts' block. -/
theorem ffn_entry (x : Vec Ideal S128x768 .f32) (u1 : Vec Ideal S1x384x768 .f32) (c1 : Vec Ideal S1x1x384 .f32) (u2 : Vec Ideal S1x768x384 .f32)
    (c2 : Vec Ideal S1x1x768 .f32) (r : Fin 128) (d : Fin 768) :
    k1_pay1 (F := Ideal) x u1 c1 u2 c2 (ix2 r d)
      = mlp (fun j => x (ix2 r j)) (fun k j => u1 (ix3 0 k j)) (fun k => c1 (ix3 0 0 k)) (fun d k => u2 (ix3 0 d k)) (fun d => c2 (ix3 0 0 d)) d := by
  unfold mlp geluE
  pointwise [k1_pay1]
  rfl

/-- One entry of the combine's block. -/
theorem comb_entry (x : Vec Ideal S512x768 .f32) (y : Vec Ideal S512x2304 .f32) (w : Vec Ideal S512x3 .f32) (u1 : Vec Ideal S384x768 .f32) (c1 : Vec Ideal S1x384 .f32)
    (u2 : Vec Ideal S768x384 .f32) (c2 : Vec Ideal S1x768 .f32) (r : Fin 512) (d : Fin 768) :
    combOut (F := Ideal) x y w u1 c1 u2 c2 (ix2 r d)
      = mlp (fun j => x (ix2 r j)) (fun k j => u1 (ix2 k j)) (fun k => c1 (ix2 0 k)) (fun d k => u2 (ix2 d k)) (fun d => c2 (ix2 0 d)) d
        + w (ix2 r 0) * y (ix2 r ⟨d.val, by omega⟩) + w (ix2 r 1) * y (ix2 r ⟨768 + d.val, by omega⟩) + w (ix2 r 2) * y (ix2 r ⟨1536 + d.val, by omega⟩) := by
  unfold mlp geluE
  pointwise [combOut, k3_pay1, k3_pay2, k3_pay3, k3_pay4, k3_pay5]
  rfl

end Ker

section Ref

open Cert.ReferenceIdeal Cert.ReferenceIdeal.Gen

variable (x : FVec Ideal S2048x768 .f32) (w : FVec Ideal S2048x3 .f32) (ti : IVec S2048x3 32) (W1 : FVec Ideal S23x384x768 .f32) (b1 : FVec Ideal S23x384 .f32)
  (W2 : FVec Ideal S23x768x384 .f32) (b2 : FVec Ideal S23x768 .f32) (U1 : FVec Ideal S384x768 .f32) (c1 : FVec Ideal S384 .f32) (U2 : FVec Ideal S768x384 .f32)
  (c2 : FVec Ideal S768 .f32)

/-- The reference's result as a function of its arguments. -/
def refOut : FVec Ideal S2048x768 .f32 :=
  addf (addf (Host.dotGeneral dot_S2048x384_S384x768_S2048x768_1_0_0_1_n_n none (mulf (mulf (broadcastInDim S2048x384 ![] bcast_S_S2048x384 (constant S_ .f32 0x3F000000#32)) (addf (Host.dotGeneral dot_S2048x768_S768x384_S2048x384_1_0_0_1_n_n none x (transpose S768x384 [1, 0] U1 transposes_S384x768_S768x384_1_0)) (broadcastInDim S2048x384 ![0, 1] bcast_S1x384_S2048x384_0_1 (broadcastInDim S1x384 ![1] bcast_S384_S1x384_1 c1)))) (addf (broadcastInDim S2048x384 ![] bcast_S_S2048x384 (constant S_ .f32 0x3F800000#32)) (Host.erf (mulf (addf (Host.dotGeneral dot_S2048x768_S768x384_S2048x384_1_0_0_1_n_n none x (transpose S768x384 [1, 0] U1 transposes_S384x768_S768x384_1_0)) (broadcastInDim S2048x384 ![0, 1] bcast_S1x384_S2048x384_0_1 (broadcastInDim S1x384 ![1] bcast_S384_S1x384_1 c1))) (broadcastInDim S2048x384 ![] bcast_S_S2048x384 (constant S_ .f32 0x3F3504F3#32)))))) (transpose S384x768 [1, 0] U2 transposes_S768x384_S384x768_1_0)) (broadcastInDim S2048x768 ![0, 1] bcast_S1x768_S2048x768_0_1 (broadcastInDim S1x768 ![1] bcast_S768_S1x768_1 c2))) (Host.reduceAdd (mulf (broadcastInDim S2048x23x768 ![0, 1, 2] bcast_S2048x23x1_S2048x23x768_0_1_2 (broadcastInDim S2048x23x1 ![0, 1] bcast_S2048x23_S2048x23x1_0_1 (Host.reduceAdd (mulf (broadcastInDim S2048x3x23 ![0, 1, 2] bcast_S2048x3x1_S2048x3x23_0_1_2 (broadcastInDim S2048x3x1 ![0, 1] bcast_S2048x3_S2048x3x1_0_1 w)) (uitofp .f32 (cmpi .eq (broadcastInDim S2048x3x23 ![0, 1, 2] bcast_S2048x3x1_S2048x3x23_0_1_2 (broadcastInDim S2048x3x1 ![0, 1] bcast_S2048x3_S2048x3x1_0_1 ti)) (broadcastInDim S2048x3x23 ![0, 1, 2] bcast_S1x1x23_S2048x3x23_0_1_2 (iotaInDim S1x1x23 32 2))))) (constant S_ .f32 0x00000000#32) reducesTo_S2048x3x23_S2048x23_d1 h_S_))) (addf (transpose S2048x23x768 [2, 0, 1] (Host.dotGeneral dot_S23x768x384_S2048x23x384_S23x768x2048_2_2_1_0_0_1 none W2 (mulf (mulf (broadcastInDim S2048x23x384 ![] bcast_S_S2048x23x384 (constant S_ .f32 0x3F000000#32)) (addf (Host.dotGeneral dot_S2048x768_S23x384x768_S2048x23x384_1_2_0_01_n_n none x W1) (broadcastInDim S2048x23x384 ![0, 1, 2] bcast_S1x23x384_S2048x23x384_0_1_2 (broadcastInDim S1x23x384 ![1, 2] bcast_S23x384_S1x23x384_1_2 b1)))) (addf (broadcastInDim S2048x23x384 ![] bcast_S_S2048x23x384 (constant S_ .f32 0x3F800000#32)) (Host.erf (mulf (addf (Host.dotGeneral dot_S2048x768_S23x384x768_S2048x23x384_1_2_0_01_n_n none x W1) (broadcastInDim S2048x23x384 ![0, 1, 2] bcast_S1x23x384_S2048x23x384_0_1_2 (broadcastInDim S1x23x384 ![1, 2] bcast_S23x384_S1x23x384_1_2 b1))) (broadcastInDim S2048x23x384 ![] bcast_S_S2048x23x384 (constant S_ .f32 0x3F3504F3#32))))))) transposes_S23x768x2048_S2048x23x768_2_0_1) (broadcastInDim S2048x23x768 ![0, 1, 2] bcast_S1x23x768_S2048x23x768_0_1_2 (broadcastInDim S1x23x768 ![1, 2] bcast_S23x768_S1x23x768_1_2 b2)))) (constant S_ .f32 0x00000000#32) reducesTo_S2048x23x768_S2048x768_d1 h_S_)

/-- The weight of expert `e` in a token's sum. -/
def weightOf (w : Fin 3 → EReal) (ti : Fin 3 → BitVec 32) (e : Fin 23) : EReal :=
  ∑ k : Fin 3, w k * (((IntOp.cmpi .eq (ti k) (BitVec.ofNat 32 e.val)).toNat : ℝ) : EReal)

theorem ref_entry (t : Fin 2048) (d : Fin 768) :
    refOut x w ti W1 b1 W2 b2 U1 c1 U2 c2 (ix2 t d)
      = mlp (fun j => x (ix2 t j)) (fun k j => U1 (ix2 k j)) (fun k => c1 (ix1 k)) (fun d k => U2 (ix2 d k)) (fun d => c2 (ix1 d)) d
        + ∑ e : Fin 23, weightOf (fun k => w (ix2 t k)) (fun k => ti (ix2 t k)) e
            * mlp (fun j => x (ix2 t j)) (fun k j => W1 (ix3 e k j)) (fun k => b1 (ix2 e k)) (fun d k => W2 (ix3 e d k)) (fun d => b2 (ix2 e d)) d := by
  unfold mlp geluE weightOf
  pointwise [refOut]
  exact congrArg _ (Finset.sum_congr rfl fun e _ => congrArg₂ (· * ·) rfl (congrArg (· + _) (Finset.sum_congr rfl fun k _ => mul_comm _ _)))

end Ref

/-- A 0/1 word of an equality as a number. -/
theorem ind_eq (a b : BitVec 32) : (((IntOp.cmpi .eq a b).toNat : ℝ) : EReal) = if a = b then 1 else 0 := by
  rw [WordCmp.cmpi_eq_eq]
  by_cases hab : a = b
  · rw [if_pos hab]; simp [hab]
  · rw [if_neg hab]; simp [hab]

/-- The sum over the experts has three terms, one for each of the token's own. -/
theorem sum_experts (w : Fin 3 → EReal) (ti : Fin 3 → BitVec 32) (y : Fin 23 → EReal) (hlt : ∀ k, (ti k).toNat < 23)
    (h01 : ti 0 ≠ ti 1) (h02 : ti 0 ≠ ti 2) (h12 : ti 1 ≠ ti 2) :
    ∑ e : Fin 23, weightOf w ti e * y e
      = w 0 * y ⟨(ti 0).toNat, hlt 0⟩ + w 1 * y ⟨(ti 1).toNat, hlt 1⟩ + w 2 * y ⟨(ti 2).toNat, hlt 2⟩ := by
  have heq : ∀ (k : Fin 3) (e : Fin 23), (ti k = BitVec.ofNat 32 e.val) ↔ (⟨(ti k).toNat, hlt k⟩ : Fin 23) = e := fun k e => by
    constructor
    · intro h
      refine Fin.ext ?_
      show (ti k).toNat = e.val
      rw [h, BitVec.toNat_ofNat]
      omega
    · rintro rfl
      exact BitVec.eq_of_toNat_eq (by rw [BitVec.toNat_ofNat]; exact (Nat.mod_eq_of_lt (ti k).isLt).symm)
  have hne : ∀ {k l : Fin 3}, ti k ≠ ti l → (⟨(ti k).toNat, hlt k⟩ : Fin 23) ≠ ⟨(ti l).toNat, hlt l⟩ := fun h e =>
    h (BitVec.eq_of_toNat_eq (Fin.mk.inj e))
  have n01 := hne h01
  have n02 := hne h02
  have n12 := hne h12
  have hterm : ∀ e : Fin 23, weightOf w ti e * y e
      = (if (⟨(ti 0).toNat, hlt 0⟩ : Fin 23) = e then w 0 * y e else 0) + (if (⟨(ti 1).toNat, hlt 1⟩ : Fin 23) = e then w 1 * y e else 0)
        + (if (⟨(ti 2).toNat, hlt 2⟩ : Fin 23) = e then w 2 * y e else 0) := fun e => by
    unfold weightOf
    simp only [Fin.sum_univ_three, ind_eq, heq]
    by_cases e0 : (⟨(ti 0).toNat, hlt 0⟩ : Fin 23) = e
    · subst e0; simp [n01.symm, n02.symm]
    · by_cases e1 : (⟨(ti 1).toNat, hlt 1⟩ : Fin 23) = e
      · subst e1; simp [n01, n12.symm]
      · by_cases e2 : (⟨(ti 2).toNat, hlt 2⟩ : Fin 23) = e
        · subst e2; simp [n02, n12]
        · simp [e0, e1, e2]
  rw [Finset.sum_congr rfl fun e _ => hterm e, Finset.sum_add_distrib, Finset.sum_add_distrib]
  simp only [Finset.sum_ite_eq, Finset.mem_univ, if_true]

end Cert.Proof.Moe

end
-- ==== Proof.Moe.Blocks.lean ====
/-
  The blocks that the two TensorCore calls read, entry by entry, and so the entries of their results, at the reals with infinities.
-/
module

public import proofs.«01_k».proof.Proof.Moe.Pre
public import proofs.«01_k».proof.Proof.Moe.Scalars

@[expose] public section

set_option maxRecDepth 16384

noncomputable section

namespace Cert.Proof.Moe

open Cert.KernelIdeal Cert.KernelIdeal.Gen

open Idealize.ShloMosaic Idealize.ShloMosaic.TcCoe Idealize.ShloMosaic.Pipeline
open scoped BigOperators
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

omit [FloatOps F] in
theorem i2_eq {n m : ℕ} (a : Fin n) (b : Fin m) : (i2 a b : (⟨2, ![n, m]⟩ : Shape).Idx) = ix2 a b :=
  funext fun (x : Fin 2) => match x with | 0 => rfl | 1 => rfl

/-- The net at equal rows, weights and biases. -/
theorem mlp_congr {x x' : Fin 768 → EReal} {w w' : Fin 384 → Fin 768 → EReal} {b b' : Fin 384 → EReal} {u u' : Fin 768 → Fin 384 → EReal} {c c' : Fin 768 → EReal}
    (hx : ∀ j, x j = x' j) (hw : ∀ k j, w k j = w' k j) (hb : ∀ k, b k = b' k) (hu : ∀ d k, u d k = u' d k) (hc : ∀ d, c d = c' d) (d : Fin 768) :
    mlp x w b u c d = mlp x' w' b' u' c' d := by
  rw [funext hx, funext fun k => funext (hw k), funext hb, funext fun d => funext (hu d), funext hc]

/-! ## Places -/

section Places

omit [FloatOps F]

/-- Entry `(0, a, b)` of the whole rows `e` of a three-axis array. -/
theorem place3 {n p q e : ℕ} {E : Fin n} (he : e = E.val) (a : Fin p) (b : Fin q) (x : Fin 3) :
    (![e, 0, 0] x) * (![1, p, q] x) + ((ix3 (0 : Fin 1) a b : (⟨3, ![1, p, q]⟩ : Shape).Idx) x).val = ((ix3 E a b : (⟨3, ![n, p, q]⟩ : Shape).Idx) x).val := by
  match x with
  | 0 => show e * 1 + 0 = E.val; omega
  | 1 => show 0 * p + a.val = a.val; omega
  | 2 => show 0 * q + b.val = b.val; omega

/-- Entry `(r, j)` of block row `e` of a matrix, in rows of 512. -/
theorem place2 {n q e T : ℕ} (he : e = T) (r : Fin 512) (j : Fin q) (R : Fin n) (hR : R.val = 512 * T + r.val) (x : Fin 2) :
    (![e, 0] x) * (![512, q] x) + ((ix2 r j : (⟨2, ![512, q]⟩ : Shape).Idx) x).val = ((ix2 R j : (⟨2, ![n, q]⟩ : Shape).Idx) x).val := by
  match x with
  | 0 => show e * 512 + r.val = R.val; omega
  | 1 => show 0 * q + j.val = j.val; omega

/-- An entry of a matrix taken whole. -/
theorem place0 {p q : ℕ} (a : Fin p) (b : Fin q) (x : Fin 2) :
    (![0, 0] x) * (![p, q] x) + ((ix2 a b : (⟨2, ![p, q]⟩ : Shape).Idx) x).val = ((ix2 a b : (⟨2, ![p, q]⟩ : Shape).Idx) x).val := by
  match x with
  | 0 => show 0 * p + a.val = a.val; omega
  | 1 => show 0 * q + b.val = b.val; omega

theorem comb_line (t : Fin (cfg3).N) : (BitVec.ofNat 32 ((grid3.coords t) 0).val).toNat = t.val := by
  rw [comb_pt, BitVec.toNat_ofNat]
  have : t.val < 4 := lt_of_lt_of_eq t.isLt Gen.N_3
  omega

end Places

section Experts

variable (m : (ℓ : Loc nD τ sig) → Buf (Elt F) ℓ) (hte : ∀ i : S1x72.Idx, BitVec.toNat (m (0, arg2') i) < 23) (hO : ok1 (F := F) (tb m)) (V : Valuation τ sig (Elt F))
  (c : Dev nD) (t : Fin (cfg1 (F := F) ⟨tb m, hO⟩).N)

/-- The expert of tile `t`. -/
def expertAt (hte : ∀ i : S1x72.Idx, BitVec.toNat (m (0, arg2') i) < 23) (t : Fin (cfg1 (F := F) ⟨tb m, hO⟩).N) : Fin 23 :=
  ⟨(teOf m (grid1.coords t)).toNat, hte _⟩

theorem expert_index :
    (Prefetch.Contents.at (tb m) 0 (Rect.unit (s := S72) ![(Scalar.indexCast (BitVec.ofNat 32 ((grid1.coords t) 0).val)).toNat] S1.size (k1_off1_inb (grid1.coords t))) numel1_S1).toNat
      = (expertAt m hO hte t).val := by
  show _ = (teOf m (grid1.coords t)).toNat
  exact congrArg BitVec.toNat (tb_read m (grid1.coords t))

/-- The tile's rows. -/
theorem ffn_blk0 (r : Fin 128) (j : Fin 768) (R : Fin 9216) (hR : R.val = 128 * t.val + r.val) :
    ffnBlk (tb m) hO V c 0 t (ix2 r j) = V v7' (ix2 R j) := by
  refine congrArg (V v7') (funext fun (a : Fin 2) => Fin.ext ?_)
  match a with
  | 0 =>
    refine Eq.trans (((cfg1 (F := F) ⟨tb m, hO⟩).win 0).rect_emb_val t (ix2 r j) (0 : Fin 2)) ?_
    show (BitVec.ofNat 32 ((grid1.coords t) 0).val).toNat * 128 + r.val = R.val
    rw [ffn_pt, BitVec.toNat_ofNat]
    have : t.val < 72 := lt_of_lt_of_eq t.isLt Gen.N_1
    omega
  | 1 =>
    refine Eq.trans (((cfg1 (F := F) ⟨tb m, hO⟩).win 0).rect_emb_val t (ix2 r j) (1 : Fin 2)) ?_
    show 0 * 768 + j.val = j.val
    omega

/-- The expert's first weights. -/
theorem ffn_blk1 (a : Fin 384) (b : Fin 768) : ffnBlk (tb m) hO V c 1 t (ix3 0 a b) = V arg4' (ix3 (expertAt m hO hte t) a b) := by
  refine congrArg (V arg4') (funext fun (x : Fin 3) => Fin.ext ?_)
  refine Eq.trans (((cfg1 (F := F) ⟨tb m, hO⟩).win 1).rect_emb_val t (ix3 0 a b) x) ?_
  exact place3 (expert_index m hte hO t) a b x

/-- The expert's first bias. -/
theorem ffn_blk2 (a : Fin 1) (b : Fin 384) : ffnBlk (tb m) hO V c 2 t (ix3 0 a b) = V v8' (ix3 (expertAt m hO hte t) a b) := by
  refine congrArg (V v8') (funext fun (x : Fin 3) => Fin.ext ?_)
  refine Eq.trans (((cfg1 (F := F) ⟨tb m, hO⟩).win 2).rect_emb_val t (ix3 0 a b) x) ?_
  exact place3 (expert_index m hte hO t) a b x

/-- The expert's second weights. -/
theorem ffn_blk3 (a : Fin 768) (b : Fin 384) : ffnBlk (tb m) hO V c 3 t (ix3 0 a b) = V arg6' (ix3 (expertAt m hO hte t) a b) := by
  refine congrArg (V arg6') (funext fun (x : Fin 3) => Fin.ext ?_)
  refine Eq.trans (((cfg1 (F := F) ⟨tb m, hO⟩).win 3).rect_emb_val t (ix3 0 a b) x) ?_
  exact place3 (expert_index m hte hO t) a b x

/-- The expert's second bias. -/
theorem ffn_blk4 (a : Fin 1) (b : Fin 768) : ffnBlk (tb m) hO V c 4 t (ix3 0 a b) = V v9' (ix3 (expertAt m hO hte t) a b) := by
  refine congrArg (V v9') (funext fun (x : Fin 3) => Fin.ext ?_)
  refine Eq.trans (((cfg1 (F := F) ⟨tb m, hO⟩).win 4).rect_emb_val t (ix3 0 a b) x) ?_
  exact place3 (expert_index m hte hO t) a b x

/-- One entry of the experts' result: the net of the tile's expert at that row. -/
theorem ffn_at (m : (ℓ : Loc nD τ sig) → Buf (Elt Ideal) ℓ) (hte : ∀ i : S1x72.Idx, BitVec.toNat (m (0, arg2') i) < 23) (hO : ok1 (F := Ideal) (tb m)) (V : Valuation τ sig (Elt Ideal))
    (c : Dev nD) (R : Fin 9216) (d : Fin 768) (e : Fin 23) (j : Fin 72) (hj : j.val = R.val / 128) (he : (m (0, arg2') (i2 (0 : Fin 1) j)).toNat = e.val) :
    ffnVal (tb m) hO V c (ix2 R d)
      = mlp (fun j => V v7' (ix2 R j)) (fun k j => V arg4' (ix3 e k j)) (fun k => V v8' (ix3 e 0 k)) (fun d k => V arg6' (ix3 e d k)) (fun d => V v9' (ix3 e 0 d)) d := by
  have ee : expertAt m hO hte (ffnPt (tb m) hO (ix2 R d)) = e := by
    refine Fin.ext (Eq.trans (congrArg (fun j => (m (0, arg2') (i2 (0 : Fin 1) j)).toNat) (Fin.ext ?_)) he)
    exact (ffn_pt (tb m) hO (ffnPt (tb m) hO (ix2 R d))).trans hj.symm
  show k1_pay1 (F := Ideal) _ _ _ _ _ (ffnIn (ix2 R d)) = _
  refine (congrArg (k1_pay1 (F := Ideal) _ _ _ _ _) (i2_eq _ _)).trans ((ffn_entry _ _ _ _ _ _ _).trans ?_)
  refine mlp_congr (fun j => ?_) (fun k j => ?_) (fun k => ?_) (fun d k => ?_) (fun d => ?_) _
  · exact ffn_blk0 m hO V c _ _ j R (by show R.val = 128 * (R.val / 128) + R.val % 128; omega)
  · exact (ffn_blk1 m hte hO V c _ k j).trans (by rw [ee])
  · exact (ffn_blk2 m hte hO V c _ 0 k).trans (by rw [ee])
  · exact (ffn_blk3 m hte hO V c _ d k).trans (by rw [ee])
  · exact (ffn_blk4 m hte hO V c _ 0 d).trans (by rw [ee])

end Experts

section Combine

variable (V : Valuation τ sig (Elt F)) (c : Dev nD) (t : Fin (cfg3).N)

/-- The block's rows of x. -/
theorem comb_blk0 (r : Fin 512) (j : Fin 768) (R : Fin 2048) (hR : R.val = 512 * t.val + r.val) : combBlk V c 0 t (ix2 r j) = V arg0' (ix2 R j) := by
  refine congrArg (V arg0') (funext fun (x : Fin 2) => Fin.ext ?_)
  refine Eq.trans (((cfg3).win 0).rect_emb_val t (ix2 r j) x) ?_
  exact place2 (comb_line t) r j R hR x

/-- The block's gathered rows, three to a token. -/
theorem comb_blk1 (r : Fin 512) (j : Fin 2304) (R : Fin 2048) (hR : R.val = 512 * t.val + r.val) : combBlk V c 1 t (ix2 r j) = V v13' (ix2 R j) := by
  refine congrArg (V v13') (funext fun (x : Fin 2) => Fin.ext ?_)
  refine Eq.trans (((cfg3).win 1).rect_emb_val t (ix2 r j) x) ?_
  exact place2 (comb_line t) r j R hR x

/-- The block's weights. -/
theorem comb_blk2 (r : Fin 512) (j : Fin 3) (R : Fin 2048) (hR : R.val = 512 * t.val + r.val) : combBlk V c 2 t (ix2 r j) = V arg3' (ix2 R j) := by
  refine congrArg (V arg3') (funext fun (x : Fin 2) => Fin.ext ?_)
  refine Eq.trans (((cfg3).win 2).rect_emb_val t (ix2 r j) x) ?_
  exact place2 (comb_line t) r j R hR x

/-- The shared net's first weights. -/
theorem comb_blk3 (a : Fin 384) (b : Fin 768) : combBlk V c 3 t (ix2 a b) = V arg8' (ix2 a b) := by
  refine congrArg (V arg8') (funext fun (x : Fin 2) => Fin.ext ?_)
  refine Eq.trans (((cfg3).win 3).rect_emb_val t (ix2 a b) x) ?_
  exact place0 a b x

/-- The shared net's first bias. -/
theorem comb_blk4 (a : Fin 1) (b : Fin 384) : combBlk V c 4 t (ix2 a b) = V v14' (ix2 a b) := by
  refine congrArg (V v14') (funext fun (x : Fin 2) => Fin.ext ?_)
  refine Eq.trans (((cfg3).win 4).rect_emb_val t (ix2 a b) x) ?_
  exact place0 a b x

/-- The shared net's second weights. -/
theorem comb_blk5 (a : Fin 768) (b : Fin 384) : combBlk V c 5 t (ix2 a b) = V arg10' (ix2 a b) := by
  refine congrArg (V arg10') (funext fun (x : Fin 2) => Fin.ext ?_)
  refine Eq.trans (((cfg3).win 5).rect_emb_val t (ix2 a b) x) ?_
  exact place0 a b x

/-- The shared net's second bias. -/
theorem comb_blk6 (a : Fin 1) (b : Fin 768) : combBlk V c 6 t (ix2 a b) = V v15' (ix2 a b) := by
  refine congrArg (V v15') (funext fun (x : Fin 2) => Fin.ext ?_)
  refine Eq.trans (((cfg3).win 6).rect_emb_val t (ix2 a b) x) ?_
  exact place0 a b x

/-- A weight of a token, as the combine finds it. -/
def wOf (V : Valuation τ sig (Elt Ideal)) (R : Fin 2048) (k : Fin 3) : EReal := V arg3' (ix2 R k)

/-- An entry of a token's gathered rows, as the combine finds it. -/
def yOf (V : Valuation τ sig (Elt Ideal)) (R : Fin 2048) (q : Fin 2304) : EReal := V v13' (ix2 R q)

/-- One entry of the combine's result: the shared net at the token's row, and the token's three gathered rows by their weights. -/
theorem comb_at (V : Valuation τ sig (Elt Ideal)) (c : Dev nD) (R : Fin 2048) (d : Fin 768) :
    combVal (F := Ideal) V c (ix2 R d)
      = mlp (fun j => V arg0' (ix2 R j)) (fun k j => V arg8' (ix2 k j)) (fun k => V v14' (ix2 0 k)) (fun d k => V arg10' (ix2 d k)) (fun d => V v15' (ix2 0 d)) d
        + wOf V R 0 * yOf V R ⟨d.val, by omega⟩ + wOf V R 1 * yOf V R ⟨768 + d.val, by omega⟩
        + wOf V R 2 * yOf V R ⟨1536 + d.val, by omega⟩ := by
  have hR : R.val = 512 * (R.val / 512) + R.val % 512 := by omega
  show combOut (F := Ideal) _ _ _ _ _ _ _ (combIn (ix2 R d)) = _
  refine (congrArg (combOut (F := Ideal) _ _ _ _ _ _ _) (i2_eq _ _)).trans ((comb_entry _ _ _ _ _ _ _ _ _).trans ?_)
  refine congrArg₂ (· + ·) (congrArg₂ (· + ·) (congrArg₂ (· + ·) ?_ ?_) ?_) ?_
  · refine mlp_congr (fun j => ?_) (fun k j => ?_) (fun k => ?_) (fun d k => ?_) (fun d => ?_) _
    · exact comb_blk0 V c _ _ j R hR
    · exact comb_blk3 V c _ k j
    · exact comb_blk4 V c _ 0 k
    · exact comb_blk5 V c _ d k
    · exact comb_blk6 V c _ 0 d
  · exact congrArg₂ (· * ·) (comb_blk2 V c _ _ 0 R hR) (comb_blk1 V c _ _ _ R hR)
  · exact congrArg₂ (· * ·) (comb_blk2 V c _ _ 1 R hR) (comb_blk1 V c _ _ _ R hR)
  · exact congrArg₂ (· * ·) (comb_blk2 V c _ _ 2 R hR) (comb_blk1 V c _ _ _ R hR)

end Combine

end Cert.Proof.Moe

end
-- ==== Proof.Moe.Algebra.lean ====
/-
  The result of the four calls is the reference's: the arrays between the calls read at their entries, and the equation.
-/
module

public import proofs.«01_k».proof.Proof.Moe.Blocks

@[expose] public section

set_option maxRecDepth 16384

noncomputable section

namespace Cert.Proof.Moe

open Cert.KernelIdeal Cert.KernelIdeal.Gen

open Idealize.ShloMosaic Idealize.ShloMosaic.TcCoe Idealize.ShloMosaic.Pipeline
open scoped BigOperators
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem i1_eq {n : ℕ} (a : Fin n) : (i1 a : (⟨1, ![n]⟩ : Shape).Idx) = Idealize.ShloMosaic.ix1 a :=
  funext fun (x : Fin 1) => match x with | 0 => rfl

/-! ## Reshaped arrays -/

section Reshaped

variable {α : Type}

theorem middle_at {n p : ℕ} (x : (⟨2, ![n, p]⟩ : Shape).Idx → α) (h : (⟨2, ![n, p]⟩ : Shape).ShapeCasts ⟨3, ![n, 1, p]⟩) (e : Fin n) (k : Fin p) :
    shapeCast ⟨3, ![n, 1, p]⟩ x h (ix3 e 0 k) = x (ix2 e k) :=
  cast_at _ _ (by
    rw [Shape.rowMajor_val_two, Shape.rowMajor_val_three]
    show e.val * p + k.val = (e.val * 1 + 0) * p + k.val
    rw [Nat.mul_one, Nat.add_zero])

theorem front_at {p : ℕ} (x : (⟨1, ![p]⟩ : Shape).Idx → α) (h : (⟨1, ![p]⟩ : Shape).ShapeCasts ⟨2, ![1, p]⟩) (k : Fin p) :
    shapeCast ⟨2, ![1, p]⟩ x h (ix2 0 k) = x (Idealize.ShloMosaic.ix1 k) :=
  cast_at _ _ (by
    rw [Shape.rowMajor_val_two, Shape.rowMajor_val_one]
    show k.val = 0 * p + k.val
    omega)

theorem triple_at (x : S6144x768.Idx → α) (h : S6144x768.ShapeCasts S2048x2304) (t : Fin 2048) (k : Fin 3) (d : Fin 768) (n : Fin 6144) (q : Fin 2304)
    (hn : n.val = 3 * t.val + k.val) (hq : q.val = 768 * k.val + d.val) : shapeCast S2048x2304 x h (ix2 t q) = x (ix2 n d) :=
  cast_at _ _ (by
    rw [Shape.rowMajor_val_two, Shape.rowMajor_val_two]
    show n.val * 768 + d.val = t.val * 2304 + q.val
    omega)

end Reshaped

/-! ## The arrays between the calls -/

section Between

variable (m : (ℓ : Loc nD τ sig) → Buf (Elt Ideal) ℓ) (h : Ok m)

/-- An argument, as the experts' call finds it. -/
theorem V2_arg {r : Ref sig .tc} (hr : ∀ y ∈ [main_v0, main_v1, main_v2, main_v3, main_v4, main_v5, main_v6, main_v7, main_v8, main_v9], r ≠ y) :
    V2 m (Proc.devRef .tc r) = m (0, Proc.devRef .tc r) := by
  simp only [List.forall_mem_cons] at hr
  obtain ⟨h0, h1, h2, h3, h4, h5, h6, h7, h8, h9, -⟩ := hr
  rw [V2_eq m ⟨h8, h9⟩, Vx_eq m h7, U6_eq m ⟨h0, h1, h2, h3, h4, h5, h6⟩]

/-- An argument, as the combine finds it. -/
theorem V4_arg {r : Ref sig .tc} (hr : ∀ y ∈ [main_v0, main_v1, main_v2, main_v3, main_v4, main_v5, main_v6, main_v7, main_v8, main_v9, main_v10, main_v11,
    main_v12, main_v13, main_v14, main_v15, main_v16], r ≠ y) : V4 m h (Proc.devRef .tc r) = m (0, Proc.devRef .tc r) :=
  (Vo_eq m h (hr _ (by decide))).symm.trans (kept m h hr)

include h in
/-- The row of the dispatched array at a copy's slot is the token's row. -/
theorem v7_at (t : Fin 2048) (k : Fin 3) (R : Fin 9216) (hR : (m (0, arg1') (i2 t k)).toNat = R.val) (j : Fin 768) :
    V2 m v7' (ix2 R j) = m (0, arg0') (ix2 t j) := by
  have e1 : V2 m v7' = XS (F := Ideal) (U6 m arg0') (Pl m) (U6 m v7') :=
    (V2_eq m (r := main_v7) (by decide)).trans (Function.update_self v7' _ (U6 m))
  refine (congrFun e1 _).trans ((XS_named h.apart (t := t) (k := k) ?_).trans ?_)
  · exact (congrArg BitVec.toNat (Pl_eq m k t)).trans hR
  · exact (congrFun (U6_eq m (r := main_arg0) (by decide)) _).trans (congrArg (m (0, arg0')) (i2_eq t j))

theorem v8_at (e : Fin 23) (k : Fin 384) : V2 m v8' (ix3 e 0 k) = m (0, arg5') (ix2 e k) := by
  have e1 : V2 m v8' = shapeCast S23x1x384 (Vx m arg5') shapeCasts_S23x384_S23x1x384 := by
    unfold V2 U7
    rw [rs_stay _ _ _ _ _ (by decide), StableHlo.reshape_result]
    rfl
  refine (congrFun e1 _).trans ((middle_at _ _ e k).trans ?_)
  rw [Vx_eq m (by decide), U6_eq m (by decide)]

theorem v9_at (e : Fin 23) (k : Fin 768) : V2 m v9' (ix3 e 0 k) = m (0, arg7') (ix2 e k) := by
  have e1 : V2 m v9' = shapeCast S23x1x768 (Vx m arg7') shapeCasts_S23x768_S23x1x768 := by
    unfold V2 U7
    rw [StableHlo.reshape_result, rs_stay _ _ _ _ _ (by decide)]
    rfl
  refine (congrFun e1 _).trans ((middle_at _ _ e k).trans ?_)
  rw [Vx_eq m (by decide), U6_eq m (by decide)]

theorem v14_at (k : Fin 384) : V4 m h v14' (ix2 0 k) = m (0, arg9') (Idealize.ShloMosaic.ix1 k) := by
  have e1 : V4 m h v14' = shapeCast S1x384 (U10 m h arg9') shapeCasts_S384_S1x384 := by
    unfold V4 U11
    rw [rs_stay _ _ _ _ _ (by decide), StableHlo.reshape_result]
    rfl
  have e2 : U10 m h arg9' = V4 m h arg9' := by
    unfold V4 U11
    rw [rs_stay _ _ _ _ _ (by decide), rs_stay _ _ _ _ _ (by decide)]
  refine (congrFun e1 _).trans ((front_at _ _ k).trans ?_)
  rw [e2, V4_arg m h (by decide)]

theorem v15_at (k : Fin 768) : V4 m h v15' (ix2 0 k) = m (0, arg11') (Idealize.ShloMosaic.ix1 k) := by
  have e1 : V4 m h v15' = shapeCast S1x768 (U11 m h arg11') shapeCasts_S768_S1x768 := by
    unfold V4
    rw [StableHlo.reshape_result]
    rfl
  have e2 : U11 m h arg11' = V4 m h arg11' := by
    unfold V4
    rw [rs_stay _ _ _ _ _ (by decide)]
  refine (congrFun e1 _).trans ((front_at _ _ k).trans ?_)
  rw [e2, V4_arg m h (by decide)]

/-- A gathered row is the experts' result at the copy's slot. -/
theorem v13_at (t : Fin 2048) (k : Fin 3) (d : Fin 768) (q : Fin 2304) (hq : q.val = 768 * k.val + d.val) :
    V4 m h v13' (ix2 t q) = ffnVal (tb m) h.tbl (V2 m) 0 (ix2 ⟨(m (0, arg1') (i2 t k)).toNat, h.rng _⟩ d) := by
  have hn : 3 * t.val + k.val < 6144 := by omega
  have e1 : V4 m h v13' = shapeCast S2048x2304 ((cont m h).G) shapeCasts_S6144x768_S2048x2304 := by
    unfold V4 U11 U10
    rw [rs_stay _ _ _ _ _ (by decide), rs_stay _ _ _ _ _ (by decide), StableHlo.reshape_result]
    exact congrArg (fun x => shapeCast S2048x2304 x shapeCasts_S6144x768_S2048x2304) (Function.update_self v12' _ (V3 m h))
  have e2 : V3 m h v10' = ffnVal (tb m) h.tbl (V2 m) 0 := by
    unfold V3
    rw [rs_stay _ _ _ _ _ (by decide)]
    exact Function.update_self v10' _ (V2 m)
  refine (congrFun e1 _).trans ((triple_at _ _ t k d ⟨_, hn⟩ q rfl hq).trans ?_)
  show V3 m h v10' (i2 ⟨(V3 m h v11' (i1 (⟨3 * t.val + k.val, hn⟩ : Fin 6144))).toNat, _⟩ d) = _
  rw [e2, i2_eq]
  exact congrArg (fun R => ffnVal (tb m) h.tbl (V2 m) 0 (ix2 R d)) (Fin.ext (congrArg BitVec.toNat (PF_eq m h t k (i1 (⟨3 * t.val + k.val, hn⟩ : Fin 6144)) rfl)))

end Between

/-! ## The equation -/

variable (m : (ℓ : Loc nD τ sig) → Buf (Elt Ideal) ℓ) (hR : Routed (m (0, arg1')) (m (0, arg2')) (m (0, arg12')))

/-- The tile that holds a slot. -/
def tileOf (hR : Routed (m (0, arg1')) (m (0, arg2')) (m (0, arg12'))) (t : Fin 2048) (k : Fin 3) : Fin 72 :=
  ⟨(m (0, arg1') (i2 t k)).toNat / 128, Nat.div_lt_of_lt_mul (show _ < 128 * 72 from hR.pos_lt _)⟩

include hR in
theorem tile_expert (t : Fin 2048) (k : Fin 3) : m (0, arg2') (i2 (0 : Fin 1) (tileOf m hR t k)) = m (0, arg12') (i2 t k) :=
  hR.agree t k (tileOf m hR t k) (Nat.mul_div_le _ _)
    (show (m (0, arg1') (i2 t k)).toNat < 128 * ((m (0, arg1') (i2 t k)).toNat / 128) + 128 by omega)

include hR in
theorem chosen_lt (t : Fin 2048) (k : Fin 3) : BitVec.toNat (m (0, arg12') (i2 t k)) < 23 :=
  (congrArg BitVec.toNat (tile_expert m hR t k)).symm.trans_lt (hR.te_lt _)

/-- A gathered row is the chosen expert's net at the token's row. -/
theorem row_at (t : Fin 2048) (k : Fin 3) (d : Fin 768) (q : Fin 2304) (hq : q.val = 768 * k.val + d.val) (e : Fin 23) (he : (m (0, arg12') (i2 t k)).toNat = e.val) :
    V4 m (ok_of m hR) v13' (ix2 t q)
      = mlp (fun j => m (0, arg0') (ix2 t j)) (fun k j => m (0, arg4') (ix3 e k j)) (fun k => m (0, arg5') (ix2 e k)) (fun d k => m (0, arg6') (ix3 e d k))
          (fun d => m (0, arg7') (ix2 e d)) d := by
  refine (v13_at m (ok_of m hR) t k d q hq).trans ((ffn_at m hR.te_lt (ok_of m hR).tbl (V2 m) 0 _ d e (tileOf m hR t k) rfl
    ((congrArg BitVec.toNat (tile_expert m hR t k)).trans he)).trans ?_)
  refine mlp_congr (fun j => ?_) (fun k j => ?_) (fun k => ?_) (fun d k => ?_) (fun d => ?_) _
  · exact v7_at m (ok_of m hR) t k _ rfl j
  · exact congrFun (V2_arg m (r := main_arg4) (by decide)) _
  · exact v8_at m e k
  · exact congrFun (V2_arg m (r := main_arg6) (by decide)) _
  · exact v9_at m e d

/-- The kernel's result is the reference's function of the arguments. -/
theorem result_eq : Vo m (ok_of m hR) v16' = refOut (m (0, arg0')) (m (0, arg3')) (m (0, arg12')) (m (0, arg4')) (m (0, arg5')) (m (0, arg6')) (m (0, arg7')) (m (0, arg8'))
    (m (0, arg9')) (m (0, arg10')) (m (0, arg11')) := by
  refine (Function.update_self v16' (combVal (V4 m (ok_of m hR)) 0) (V4 m (ok_of m hR))).trans (funext fun (i : S2048x768.Idx) => ?_)
  obtain ⟨t, d, rfl⟩ : ∃ (t : Fin 2048) (d : Fin 768), i = ix2 t d := ⟨i 0, i 1, eq_ix2 i⟩
  have w (k : Fin 3) : (m (0, arg12') (i2 t k)) = (m (0, arg12') (ix2 t k)) := congrArg (m (0, arg12')) (i2_eq t k)
  have hlt (k : Fin 3) : BitVec.toNat (m (0, arg12') (ix2 t k)) < 23 := (congrArg BitVec.toNat (w k)).symm.trans_lt (chosen_lt m hR t k)
  obtain ⟨h01, h02, h12⟩ := hR.apart0 t
  rw [w, w] at h01
  rw [w, w] at h02
  rw [w, w] at h12
  refine (comb_at _ 0 t d).trans (Eq.trans ?_ (ref_entry _ _ _ _ _ _ _ _ _ _ _ t d).symm)
  rw [sum_experts _ _ _ hlt h01 h02 h12, ← add_assoc, ← add_assoc]
  refine congrArg₂ (· + ·) (congrArg₂ (· + ·) (congrArg₂ (· + ·) ?_ ?_) ?_) ?_
  · refine mlp_congr (fun j => ?_) (fun k j => ?_) (fun k => ?_) (fun d k => ?_) (fun d => ?_) _
    · exact congrFun (V4_arg m _ (r := main_arg0) (by decide)) _
    · exact congrFun (V4_arg m _ (r := main_arg8) (by decide)) _
    · exact v14_at m _ k
    · exact congrFun (V4_arg m _ (r := main_arg10) (by decide)) _
    · exact v15_at m _ d
  · exact congrArg₂ (· * ·) (congrFun (V4_arg m _ (r := main_arg3) (by decide)) _) (row_at m hR t 0 d _ (by show d.val = 768 * 0 + d.val; omega) ⟨_, hlt 0⟩ (congrArg BitVec.toNat (w 0)))
  · exact congrArg₂ (· * ·) (congrFun (V4_arg m _ (r := main_arg3) (by decide)) _) (row_at m hR t 1 d _ (by show 768 + d.val = 768 * 1 + d.val; omega) ⟨_, hlt 1⟩ (congrArg BitVec.toNat (w 1)))
  · exact congrArg₂ (· * ·) (congrFun (V4_arg m _ (r := main_arg3) (by decide)) _) (row_at m hR t 2 d _ (by show 1536 + d.val = 768 * 2 + d.val; omega) ⟨_, hlt 2⟩ (congrArg BitVec.toNat (w 2)))

end Cert.Proof.Moe

end
-- ==== Proof.Moe.Launch.lean ====
/-
  The steps of @main: an operation, each of the two SparseCore calls, each of the two TensorCore calls; and the ghost state of the
  launch.
-/
module

public import proofs.«01_k».proof.Proof.Moe.Vals

@[expose] public section

set_option maxRecDepth 16384

noncomputable section

namespace Cert.Proof.Moe

open Cert.KernelIdeal Cert.KernelIdeal.Gen

open Idealize.ShloMosaic Idealize.ShloMosaic.TcCoe Idealize.ShloMosaic.Pipeline
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The pipelines at the launch's tables, and the launch's ghost state -/

variable (m : (ℓ : Loc nD τ sig) → Buf (Elt F) ℓ) (h : Ok m)

def adm : (p : Fin 2) → (pcfgs (F := F) p).Adm
  | ⟨0, _⟩ => ⟨tb m, h.tbl⟩
  | ⟨1, _⟩ => cfg3.toPCfg_adm
  | ⟨_ + 2, hn⟩ => absurd hn (Nat.not_lt.2 (Nat.le_add_left _ _))

def pd : (p : Fin 2) → (c : Dev nD) → Dat τ (Elt F) (HIx 2) ℕ UU ℕ (pin pcfgs (adm m h) p) c
  | ⟨0, _⟩ => fun c => ffnDat (tb m) h.tbl (V2 m) c
  | ⟨1, _⟩ => fun c => combDat (V4 m h) c
  | ⟨_ + 2, hn⟩ => absurd hn (Nat.not_lt.2 (Nat.le_add_left _ _))

def u₀ : UU := (initOf (K (F := F)).hsCells (K (F := F)).hsToks,
  (initOf (cells (pin (pcfgs (F := F)) (adm m h)) (cellOf_inj (adm m h))) (launchToks (pin (pcfgs (F := F)) (adm m h)) (cellOf_inj (adm m h))), 1))

abbrev ghost (p : Fin 2) (d : Dev nD) : sProp 𝕄 :=
  iprop(cellsGhost (pin (pcfgs (F := F)) (adm m h)) EP p d ∗ toksInit (pin (pcfgs (F := F)) (adm m h)) EP p d)

omit [FloatOps F] in
theorem own_EP (x : UP) : (BI.own (((Emb.inl : Emb UP (UP × Counters)).trans (embR : Emb (UP × Counters) 𝕄)) x) : sProp 𝕄) ⊢ BI.own ((EP : Emb UP 𝕄) x) := by
  unfold EP
  exact Entails.of_eq rfl

theorem hu₀ : (ownU (u₀ m h) : sProp 𝕄)
    ⊢ |={Set.univ}=> iprop(BI.own (EH (initOf (K (F := F)).hsCells (K (F := F)).hsToks)) ∗ (bigSep Finset.univ fun d : Dev nD => iprop(ghost m h 0 d ∗ ghost m h 1 d))
        ∗ bigSep Finset.univ fun thr : Thread nD τ => bigSep Finset.univ fun q : Fin 2 => (P (cont m h)).x q thr) := by
  unfold u₀
  iintro Hu
  ihave H := (ownU_pair _ _) $$ Hu
  icases H with ⟨HH, HR⟩
  ihave H := (own_pair_emb embR _ _) $$ HR
  icases H with ⟨HP, -⟩
  ihave HP := (own_EP (F := F) _) $$ HP
  imod (Pipeline.fund_ghost (pin (pcfgs (F := F)) (adm m h)) EP (cellOf_inj (adm m h))) $$ HP with ⟨Hg, Ht⟩
  imodintro
  isplitl [HH]; · iexact HH
  isplitr []
  · have e : (bigSep Finset.univ fun d : Dev nD => iprop(ghost m h 0 d ∗ ghost m h 1 d))
        = iprop((bigSep Finset.univ fun c : Dev nD => bigSep Finset.univ fun p => cellsGhost (pin (pcfgs (F := F)) (adm m h)) EP p c)
          ∗ (bigSep Finset.univ fun c : Dev nD => bigSep Finset.univ fun p => (toksInit (pin (pcfgs (F := F)) (adm m h)) EP p c : sProp 𝕄))) := by
      rw [← bigSep_sep']
      refine bigSep_congr fun c _ => ?_
      rw [← bigSep_sep', BI.bigSep_fin_two]
      rfl
    rw [e]
    isplitl [Hg] <;> iassumption
  have e : (bigSep Finset.univ fun thr : Thread nD τ => bigSep Finset.univ fun q : Fin 2 => (P (cont m h)).x q thr)
      = (iprop(emp) : sProp 𝕄) :=
    (bigSep_congr fun _ _ => (bigSep_congr fun q _ => match q with | 0 => rfl | 1 => rfl).trans (bigSep_emp_const _)).trans (bigSep_emp_const _)
  rw [e]
  iempintro

/-! ## An operation -/

theorem wp_step {op : HloOp τ sig (Elt F)} {S : Finset (DevRef τ sig)} (hop : op.bufs ⊆ S) (hf : op.fresh = ∅) {V : Valuation τ sig (Elt F)} {d : Dev nD} {Q : PUnit → sProp 𝕄} :
    iprop((boundary (SparseCore.T d) ∗ StableHlo.held (SparseCore.T d) S V) ∗ (boundary (SparseCore.T d) ∗ StableHlo.held (SparseCore.T d) S (op.result V) -∗ Q ⟨⟩))
      ⊢ wp frame (wpE ((K (F := F)).defs (D (F := F))) 𝒱 (SparseCore.T d) none) Set.univ (hlo rfl op fun _ => .ret ⟨⟩) Q := by
  iintro ⟨⟨Hb, Hh⟩, Hk⟩
  iapply (StableHlo.wp_hlo_within 𝒱 (SparseCore.T d) none Set.univ (op := op) (S := S) hop (V := V) hf) $$ [Hb Hh]
  · isplitl [Hb] <;> iassumption
  iintro H
  rw [wp_ret]; imodintro
  iapply Hk $$ H

/-! ## The buffers held between the steps -/

abbrev S0 : Finset (DevRef τ sig) := ucRefs τ sig
abbrev S1 : Finset (DevRef τ sig) := S0 \ {v2', v4', v6'}
abbrev S2 : Finset (DevRef τ sig) := S1 \ {v10', v11'}

theorem mem_S0 {r : Ref sig .tc} (hr : r.isScoped = false) : (Proc.devRef .tc r : DevRef τ sig) ∈ S0 :=
  Finset.mem_filter.mpr ⟨StableHlo.devRef_mem_tcRefs _, fun h' => Bool.false_ne_true (hr.symm.trans h')⟩
theorem mem_S1 {r : Ref sig .tc} (hr : r.isScoped = false ∧ r ≠ main_v2 ∧ r ≠ main_v4 ∧ r ≠ main_v6) : (Proc.devRef .tc r : DevRef τ sig) ∈ S1 := by
  refine Finset.mem_sdiff.mpr ⟨mem_S0 hr.1, fun hm => ?_⟩
  simp only [Finset.mem_insert, Finset.mem_singleton] at hm
  rcases hm with e | e | e
  · exact hr.2.1 (Proc.devRef_injective _ e)
  · exact hr.2.2.1 (Proc.devRef_injective _ e)
  · exact hr.2.2.2 (Proc.devRef_injective _ e)
theorem mem_S2 {r : Ref sig .tc} (hr : (r.isScoped = false ∧ r ≠ main_v2 ∧ r ≠ main_v4 ∧ r ≠ main_v6) ∧ r ≠ main_v10 ∧ r ≠ main_v11) : (Proc.devRef .tc r : DevRef τ sig) ∈ S2 := by
  refine Finset.mem_sdiff.mpr ⟨mem_S1 hr.1, fun hm => ?_⟩
  simp only [Finset.mem_insert, Finset.mem_singleton] at hm
  rcases hm with e | e
  · exact hr.2.1 (Proc.devRef_injective _ e)
  · exact hr.2.2 (Proc.devRef_injective _ e)

theorem two_sub {a b : DevRef τ sig} {S : Finset (DevRef τ sig)} (ha : a ∈ S) (hb : b ∈ S) : ({a, b} : Finset (DevRef τ sig)) ⊆ S := fun x hx => by
  simp only [Finset.mem_insert, Finset.mem_singleton] at hx
  rcases hx with rfl | rfl <;> assumption

/-! ## The dispatch and the gather -/

abbrev R0 : Finset (DevRef τ sig) := {arg0', v2', v4', v6', v7'}
abbrev R1 : Finset (DevRef τ sig) := {v10', v11', v12'}

omit [FloatOps F] in
theorem held_R0 (d : Dev nD) (W : Valuation τ sig (Elt F)) :
    (StableHlo.held (SparseCore.T d) R0 W : sProp 𝕄)
      = iprop((xLoc d ↦{fullShare} W arg0') ∗ (l0Loc d ↦{fullShare} W v2') ∗ (l1Loc d ↦{fullShare} W v4') ∗ (l2Loc d ↦{fullShare} W v6') ∗ zLoc d ↦{fullShare} W v7') := by
  unfold StableHlo.held R0
  rw [SparseCore.bigSep_insert' (by decide), SparseCore.bigSep_insert' (by decide), SparseCore.bigSep_insert' (by decide),
    SparseCore.bigSep_insert' (by decide), bigSep_singleton]

omit [FloatOps F] in
theorem held_R0' (d : Dev nD) (W : Valuation τ sig (Elt F)) :
    (StableHlo.held (SparseCore.T d) {arg0', v7'} W : sProp 𝕄) = iprop((xLoc d ↦{fullShare} W arg0') ∗ zLoc d ↦{fullShare} W v7') := by
  unfold StableHlo.held
  rw [SparseCore.bigSep_insert' (by decide), bigSep_singleton]

omit [FloatOps F] in
theorem held_R1 (d : Dev nD) (W : Valuation τ sig (Elt F)) :
    (StableHlo.held (SparseCore.T d) R1 W : sProp 𝕄) = iprop((yLoc d ↦{fullShare} W v10') ∗ (pLoc d ↦{fullShare} W v11') ∗ oLoc d ↦{fullShare} W v12') := by
  unfold StableHlo.held R1
  rw [SparseCore.bigSep_insert' (by decide), SparseCore.bigSep_insert' (by decide), bigSep_singleton]

omit [FloatOps F] in
theorem held_R1' (d : Dev nD) (W : Valuation τ sig (Elt F)) :
    (StableHlo.held (SparseCore.T d) {v12'} W : sProp 𝕄) = oLoc d ↦{fullShare} W v12' := by
  unfold StableHlo.held
  rw [bigSep_singleton]

theorem R0_sub : R0 ⊆ S0 := fun b hb => by
  simp only [R0, Finset.mem_insert, Finset.mem_singleton] at hb
  rcases hb with rfl | rfl | rfl | rfl | rfl <;> exact mem_S0 (by decide)
theorem R0'_sub : ({arg0', v7'} : Finset (DevRef τ sig)) ⊆ S1 := two_sub (mem_S1 (by decide)) (mem_S1 (by decide))
theorem R0_rest : S1 \ {arg0', v7'} = S0 \ R0 := by
  ext b
  simp only [S1, R0, Finset.mem_sdiff, Finset.mem_insert, Finset.mem_singleton]
  tauto
theorem R1_sub : R1 ⊆ S1 := fun b hb => by
  simp only [R1, Finset.mem_insert, Finset.mem_singleton] at hb
  rcases hb with rfl | rfl | rfl <;> exact mem_S1 (by decide)
theorem R1'_sub : ({v12'} : Finset (DevRef τ sig)) ⊆ S2 := Finset.singleton_subset_iff.mpr (mem_S2 (by decide))
theorem R1_rest : S2 \ {v12'} = S1 \ R1 := by
  ext b
  simp only [S2, R1, Finset.mem_sdiff, Finset.mem_insert, Finset.mem_singleton]
  tauto

variable (κ : GSem nD τ sig → ℕ) (d : Dev nD)

theorem wp_disp {Q : PUnit → sProp 𝕄} :
    iprop((K (F := F)).ctx EH (P (cont m h)) κ ∗ (K (F := F)).tcSt EH d 0 ∗ StableHlo.held (SparseCore.T d) S0 (U6 m)
        ∗ ((K (F := F)).tcSt EH d 1 ∗ StableHlo.held (SparseCore.T d) S1 (Vx m) -∗ Q ⟨⟩))
      ⊢ wp frame (wpE ((K (F := F)).defs (D (F := F))) 𝒱 (SparseCore.T d) none) Set.univ ((K (F := F)).run d 0) Q := by
  have e : (StableHlo.held (SparseCore.T d) (S0 \ R0) (U6 m) : sProp 𝕄) = StableHlo.held (SparseCore.T d) (S1 \ {arg0', v7'}) (Vx m) := by
    rw [R0_rest]
    refine StableHlo.held_congr _ fun b hb => (Function.update_of_ne ?_ _ _).symm
    rintro rfl
    exact (Finset.mem_sdiff.mp hb).2 (by simp only [R0, Finset.mem_insert, Finset.mem_singleton, or_true])
  rw [StableHlo.held_sub_split _ R0_sub, StableHlo.held_sub_split _ R0'_sub (Vx m), held_R0, held_R0', e,
    show Vx m arg0' = U6 m arg0' from up_stay _ _ (by decide), show Vx m v7' = (cont m h).XS from Function.update_self _ _ _]
  iintro ⟨#Hctx, Hst, ⟨Hx, Hr⟩, Hk⟩
  ihave H := (deal0 (cont m h) d) $$ [Hx]
  · iexact Hx
  icases H with ⟨Hs, Hz⟩
  iapply ((K (F := F)).wp_run (D (F := F)) 𝒱 (EH := EH) (P := P (cont m h)) κ d 0) $$ [Hst Hs Hz Hr Hk]
  isplitr; · iexact Hctx
  isplitl [Hst]; · iexact Hst
  isplitl [Hs]; · iexact Hs
  iintro ⟨Hst, Hdn⟩
  ihave H := (back0 (cont m h) d) $$ [Hdn Hz]
  · isplitl [Hdn] <;> iassumption
  iapply Hk
  isplitl [Hst]; · iexact Hst
  isplitl [H]; · iexact H
  iexact Hr

theorem wp_gath_call {Q : PUnit → sProp 𝕄} :
    iprop((K (F := F)).ctx EH (P (cont m h)) κ ∗ (K (F := F)).tcSt EH d 1 ∗ StableHlo.held (SparseCore.T d) S1 (V3 m h)
        ∗ ((K (F := F)).tcSt EH d 2 ∗ StableHlo.held (SparseCore.T d) S2 (Vg m h) -∗ Q ⟨⟩))
      ⊢ wp frame (wpE ((K (F := F)).defs (D (F := F))) 𝒱 (SparseCore.T d) none) Set.univ ((K (F := F)).run d 1) Q := by
  have e : (StableHlo.held (SparseCore.T d) (S1 \ R1) (V3 m h) : sProp 𝕄) = StableHlo.held (SparseCore.T d) (S2 \ {v12'}) (Vg m h) := by
    rw [R1_rest]
    refine StableHlo.held_congr _ fun b hb => (Function.update_of_ne ?_ _ _).symm
    rintro rfl
    exact (Finset.mem_sdiff.mp hb).2 (by simp only [R1, Finset.mem_insert, Finset.mem_singleton, or_true])
  rw [StableHlo.held_sub_split _ R1_sub, StableHlo.held_sub_split _ R1'_sub (Vg m h), held_R1, held_R1', e,
    show Vg m h v12' = (cont m h).G from Function.update_self _ _ _]
  iintro ⟨#Hctx, Hst, ⟨Hx, Hr⟩, Hk⟩
  ihave Hs := (deal1 (cont m h) d) $$ [Hx]
  · iexact Hx
  iapply ((K (F := F)).wp_run (D (F := F)) 𝒱 (EH := EH) (P := P (cont m h)) κ d 1) $$ [Hst Hs Hr Hk]
  isplitr; · iexact Hctx
  isplitl [Hst]; · iexact Hst
  isplitl [Hs]; · iexact Hs
  iintro ⟨Hst, Hdn⟩
  ihave H := (back1 (cont m h) d) $$ Hdn
  iapply Hk
  isplitl [Hst]; · iexact Hst
  isplitl [H]; · iexact H
  iexact Hr

/-! ## A TensorCore call -/

local notation "BL" => SparseCore.Cfg.Blocks.fst (Q := 2) (N := 2)

theorem wp_call [∀ e, Nonempty (Elt F e)] {Q : PUnit → sProp 𝕄} {p : Fin 2} {n : ℕ} {W W' : Valuation τ sig (Elt F)} {S : Finset (DevRef τ sig)}
    (R : RegionSeg pcfgs (adm m h) (pd m h) none defs₀ 𝒱₀ (K (F := F)).L (K (F := F)).lev p)
    (hpre : R.pre d = iprop(StableHlo.held (SparseCore.T d) (arrRefs (pcfgs (F := F) p).spec) W ∗ StableHlo.held (SparseCore.T d) (tblRefs (pcfgs (F := F) p).pre) W
      ∗ ∃ Wd, ⌜(K (F := F)).WBelow (SparseCore.T d) Wd (8 * BL n)⌝ ∗ owes (SparseCore.T d) ((K (F := F)).Otc d n) Wd))
    (hpost : R.post d = iprop(StableHlo.held (SparseCore.T d) (arrRefs (pcfgs (F := F) p).spec) W' ∗ StableHlo.held (SparseCore.T d) (tblRefs (pcfgs (F := F) p).pre) W'
      ∗ ∃ Wd, ⌜(K (F := F)).WBelow (SparseCore.T d) Wd (8 * BL n)⌝ ∗ owes (SparseCore.T d) ((K (F := F)).Otc d n) Wd))
    (hA : arrRefs (pcfgs (F := F) p).spec ⊆ S) (hT : tblRefs (pcfgs (F := F) p).pre ⊆ S \ arrRefs (pcfgs (F := F) p).spec)
    (hoff : ∀ b, b ∉ arrRefs (τ := τ) (pcfgs (F := F) p).spec → W b = W' b) :
    iprop((K (F := F)).ctx EH (P (cont m h)) κ ∗ (K (F := F)).tcSt EH d n ∗ boundary (SparseCore.T d) ∗ StableHlo.held (SparseCore.T d) S W ∗ ghost m h p d
        ∗ ((K (F := F)).tcSt EH d n ∗ boundary (SparseCore.T d) ∗ StableHlo.held (SparseCore.T d) S W' -∗ Q ⟨⟩))
      ⊢ wp frame (wpE ((K (F := F)).defs (D (F := F))) 𝒱 (SparseCore.T d) none) Set.univ (Prog.lift (.customCall (SparseCore.inner (Pipeline.entry p)) ())) Q := by
  have e : (StableHlo.held (SparseCore.T d) ((S \ arrRefs (pcfgs (F := F) p).spec) \ tblRefs (pcfgs (F := F) p).pre) W : sProp 𝕄)
      = StableHlo.held (SparseCore.T d) ((S \ arrRefs (pcfgs (F := F) p).spec) \ tblRefs (pcfgs (F := F) p).pre) W' :=
    StableHlo.held_congr _ fun b hb => hoff b (Finset.mem_sdiff.mp (Finset.mem_sdiff.mp hb).1).2
  rw [StableHlo.held_sub_split _ hA W, StableHlo.held_sub_split _ hT W, StableHlo.held_sub_split _ hA W', StableHlo.held_sub_split _ hT W', e]
  refine BIBase.Entails.trans ?_ ((K (F := F)).wp_liftProg (D (F := F)) 𝒱 (SparseCore.T d) Set.univ none (.op (.customCall (Pipeline.entry p) ()) .ret) Q)
  refine BIBase.Entails.trans ?_ (RegionSeg.wp pcfgs (adm m h) (pd m h) none (cellOf_inj (adm m h)) EP defs₀ 𝒱₀ (K (F := F)).L (K (F := F)).lev R d none
    (fun u hu => nomatch hu) .ret Q)
  rw [hpre, hpost]
  unfold SparseCore.Cfg.tcSt
  iintro ⟨#Hctx, ⟨HO, Hst⟩, Hb, ⟨Ha, Ht, Hr⟩, ⟨Hg, Htok⟩, Hk⟩
  ihave Hlev := ((K (F := F)).ctx_levAts κ) $$ Hctx
  isplitl [Hst Hr Hk]
  · iintro ⟨Hb, Ha, Ht, HO⟩
    rw [wp_ret]; imodintro
    iapply Hk
    isplitl [HO Hst]
    · isplitl [HO]; · iexact HO
      iexact Hst
    isplitl [Hb]; · iexact Hb
    isplitl [Ha]; · iexact Ha
    isplitl [Ht]; · iexact Ht
    iexact Hr
  isplitl [Hb]; · iexact Hb
  isplitl [Ha Ht HO]
  · isplitl [Ha]; · iexact Ha
    isplitl [Ht]; · iexact Ht
    iexact HO
  isplitl [Hlev]; · iexact Hlev
  isplitl [Hg]; · iexact Hg
  iexact Htok

end Cert.Proof.Moe

end
-- ==== Proof.Moe.Main.lean ====
/-
  @main on the TensorCore, and the program's run: what every buffer of the TensorCore holds at the end.
-/
module

public import proofs.«01_k».proof.Proof.Moe.Launch

@[expose] public section

set_option maxRecDepth 16384

noncomputable section

namespace Cert.Proof.Moe

open Cert.KernelIdeal Cert.KernelIdeal.Gen

open Idealize.ShloMosaic Idealize.ShloMosaic.TcCoe Idealize.ShloMosaic.Pipeline
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (h : Ok m)

/-! ## The two TensorCore calls -/

theorem not_arr {W : ℕ} {gr : ℕ} {win : Fin W → WinSpec sig gr} {w : Fin W} {b : DevRef τ sig} (hb : b ∉ arrRefs (τ := τ) win) : b ≠ Proc.devRef .tc (arrRef win w) := fun e =>
  hb (e ▸ Finset.mem_map_of_mem _ (Finset.mem_image_of_mem _ (Finset.mem_univ w)))

theorem arr_mem {W : ℕ} {gr : ℕ} {win : Fin W → WinSpec sig gr} {S : Finset (DevRef τ sig)} (hS : ∀ w, (Proc.devRef .tc (arrRef win w) : DevRef τ sig) ∈ S) : arrRefs (τ := τ) win ⊆ S := fun b hb => by
  obtain ⟨r, hr, rfl⟩ := Finset.mem_map.mp hb
  obtain ⟨w, -, rfl⟩ := Finset.mem_image.mp hr
  exact hS w

theorem tbl_mem {pre : Prefetch sig} {S : Finset (DevRef τ sig)} (hS : ∀ k, (Proc.devRef .tc (pre.ref k) : DevRef τ sig) ∈ S) : tblRefs (τ := τ) pre ⊆ S := fun b hb => by
  obtain ⟨r, hr, rfl⟩ := Finset.mem_map.mp hb
  obtain ⟨k, -, rfl⟩ := Finset.mem_image.mp hr
  exact hS k

theorem tb_V2 (k : Fin 1) : tb m k = V2 m (Proc.devRef .tc (Cert.KernelIdeal.pre1.ref k)) := by
  match k with
  | 0 => exact ((V2_eq m (r := main_v0) (by decide)).trans (Vx_eq m (by decide))).symm

theorem ffn_in (c : Dev nD) (w : Fin 6) : (ffnDat (tb m) h.tbl (V2 m) c).arrAt w 0 = V2 m (Proc.devRef .tc (arrRef spec1 w)) :=
  ffn_A _ _ _ _ w

theorem ffn_out (c : Dev nD) (w : Fin 6) :
    (ffnDat (tb m) h.tbl (V2 m) c).arrAt w (cfg1 (F := F) ⟨tb m, h.tbl⟩).N = Vy m h (Proc.devRef .tc (arrRef spec1 w)) := by
  obtain rfl : c = 0 := Subsingleton.elim _ _
  have hin : ∀ w : Fin 6, (spec1 w).isOut = false → arrRef spec1 w ≠ main_v10 →
      (ffnDat (tb m) h.tbl (V2 m) 0).arrAt w (cfg1 (F := F) ⟨tb m, h.tbl⟩).N = Vy m h (Proc.devRef .tc (arrRef spec1 w)) := fun w hw hne =>
    (((ffnDat (tb m) h.tbl (V2 m) 0).arrAt_in w hw _).trans (ffn_A _ _ _ _ w)).trans (up_stay _ _ hne).symm
  match w with
  | 0 => exact hin 0 rfl (by decide)
  | 1 => exact hin 1 rfl (by decide)
  | 2 => exact hin 2 rfl (by decide)
  | 3 => exact hin 3 rfl (by decide)
  | 4 => exact hin 4 rfl (by decide)
  | 5 => exact (ffn_arr _ _ _ _).trans (Function.update_self v10' (ffnVal (tb m) h.tbl (V2 m) 0) (V2 m)).symm

def ffnCall : RegionSeg pcfgs (adm m h) (pd m h) none defs₀ 𝒱₀ (K (F := F)).L (K (F := F)).lev 0 :=
  step (adm m h) (pd m h) 0 1 launch1 (fun c => (ffn_obligation (tb m) h.tbl (V2 m) c).loose) (fun _ _ => rfl) (fun _ _ => rfl)
    (fun c => (ffnDat (tb m) h.tbl (V2 m) c).share_full fun _ => rfl) (fun _ _ => rfl) (V2 m) (Vy m h)
    (ffn_in m h) (tb_V2 m) (ffn_out m h) (fun k => (tb_V2 m k).trans (match k with | 0 => (up_stay (r := main_v0) (y := main_v10) _ _ (by decide)).symm))

theorem comb_in (c : Dev nD) (w : Fin 8) : (combDat (V4 m h) c).arrAt w 0 = V4 m h (Proc.devRef .tc (arrRef spec3 w)) :=
  comb_A _ _ w

theorem comb_out (c : Dev nD) (w : Fin 8) : (combDat (V4 m h) c).arrAt w cfg3.N = Vo m h (Proc.devRef .tc (arrRef spec3 w)) := by
  obtain rfl : c = 0 := Subsingleton.elim _ _
  have hin : ∀ w : Fin 8, (spec3 w).isOut = false → arrRef spec3 w ≠ main_v16 →
      (combDat (V4 m h) 0).arrAt w cfg3.N = Vo m h (Proc.devRef .tc (arrRef spec3 w)) := fun w hw hne =>
    (((combDat (V4 m h) 0).arrAt_in w hw _).trans (comb_A _ _ w)).trans (up_stay _ _ hne).symm
  match w with
  | 0 => exact hin 0 rfl (by decide)
  | 1 => exact hin 1 rfl (by decide)
  | 2 => exact hin 2 rfl (by decide)
  | 3 => exact hin 3 rfl (by decide)
  | 4 => exact hin 4 rfl (by decide)
  | 5 => exact hin 5 rfl (by decide)
  | 6 => exact hin 6 rfl (by decide)
  | 7 => exact (comb_arr _ _).trans (Function.update_self v16' (combVal (V4 m h) 0) (V4 m h)).symm

def combCall : RegionSeg pcfgs (adm m h) (pd m h) none defs₀ 𝒱₀ (K (F := F)).L (K (F := F)).lev 1 :=
  step (adm m h) (pd m h) 1 2 launch3 (fun c => (comb_obligation (V4 m h) c).loose) (fun _ _ => rfl) (fun _ _ => rfl)
    (fun c => (combDat (V4 m h) c).share_full fun _ => rfl) (fun _ _ => rfl) (V4 m h) (Vo m h)
    (comb_in m h) (fun k => k.elim0) (comb_out m h) (fun k => k.elim0)

theorem ffn_arrs : ∀ w : Fin 6, (Proc.devRef .tc (arrRef spec1 w) : DevRef τ sig) ∈ S1 := fun w => by
  have h : ∀ w : Fin 6, (arrRef spec1 w).isScoped = false ∧ arrRef spec1 w ≠ main_v2 ∧ arrRef spec1 w ≠ main_v4 ∧ arrRef spec1 w ≠ main_v6 := by decide
  exact mem_S1 (h w)
theorem ffn_tbls : tblRefs (τ := τ) (pcfgs (F := F) 0).pre ⊆ S1 \ arrRefs (pcfgs (F := F) 0).spec :=
  tblRefs_sub_sdiff spec1 _ preFacts1.disj (tbl_mem fun k => match k with | 0 => mem_S1 (r := main_v0) (by decide))
theorem comb_arrs : ∀ w : Fin 8, (Proc.devRef .tc (arrRef spec3 w) : DevRef τ sig) ∈ S2 := fun w => by
  have h : ∀ w : Fin 8, ((arrRef spec3 w).isScoped = false ∧ arrRef spec3 w ≠ main_v2 ∧ arrRef spec3 w ≠ main_v4 ∧ arrRef spec3 w ≠ main_v6)
      ∧ arrRef spec3 w ≠ main_v10 ∧ arrRef spec3 w ≠ main_v11 := by decide
  exact mem_S2 (h w)
theorem comb_tbls : tblRefs (τ := τ) (pcfgs (F := F) 1).pre ⊆ S2 \ arrRefs (pcfgs (F := F) 1).spec := fun b hb => by
  obtain ⟨r, hr, rfl⟩ := Finset.mem_map.mp hb
  obtain ⟨k, -, rfl⟩ := Finset.mem_image.mp hr
  exact k.elim0

/-! ## @main -/

variable (ρ : Dev nD → PrngReg)

/-- What @main leaves the claims: every buffer it still holds, at its last contents. -/
abbrev FIN (d : Dev nD) : sProp 𝕄 := StableHlo.held (SparseCore.T d) S2 (Vo m h)

theorem hmain [∀ e, Nonempty (Elt F e)] (κ : GSem nD τ sig → ℕ) (d : Dev nD) :
    iprop((K (F := F)).ctx EH (P (cont m h)) κ ∗ (K (F := F)).tcSt EH d 0 ∗ (K (F := F)).tcRes m ρ d ∗ (ghost m h 0 d ∗ ghost m h 1 d))
      ⊢ wp frame (wpE ((K (F := F)).defs (D (F := F))) 𝒱 (SparseCore.T d) none) Set.univ (main d)
          fun _ => iprop((K (F := F)).tcSt EH d 2 ∗ FIN m h d ∗ (K (F := F)).tcEnd d) := by
  have e0 : (unscopedBufs d (fun b => m ((SparseCore.T d).loc b)) : sProp 𝕄) = StableHlo.held (SparseCore.T d) S0 (V0 m) := by
    obtain rfl : d = 0 := Subsingleton.elim _ _
    exact Pipeline.unscopedBufs_held 0 (V0 m)
  unfold SparseCore.Cfg.tcRes SparseCore.Cfg.tcEnd
  rw [e0]
  simp only [main, wp_bind, wp_pure]
  iintro ⟨#Hctx, Hst, ⟨Hb, Hheld, Hts, -⟩, ⟨Hg0, Hg1⟩⟩
  iapply (wp_step (op := op0 (F := F)) (S := S0) (V := V0 m) (two_sub (mem_S0 (by decide)) (mem_S0 (by decide))) rfl)
  isplitl [Hb Hheld]
  · isplitl [Hb]; · iexact Hb
    iexact Hheld
  iintro ⟨Hb, Hheld⟩
  iapply (wp_step (op := op1 (F := F)) (S := S0) (V := U0 m) (two_sub (mem_S0 (by decide)) (mem_S0 (by decide))) rfl)
  isplitl [Hb Hheld]
  · isplitl [Hb]; · iexact Hb
    iexact Hheld
  iintro ⟨Hb, Hheld⟩
  iapply (wp_step (op := op2 (F := F)) (S := S0) (V := U1 m) (two_sub (mem_S0 (by decide)) (mem_S0 (by decide))) rfl)
  isplitl [Hb Hheld]
  · isplitl [Hb]; · iexact Hb
    iexact Hheld
  iintro ⟨Hb, Hheld⟩
  iapply (wp_step (op := op3 (F := F)) (S := S0) (V := U2 m) (two_sub (mem_S0 (by decide)) (mem_S0 (by decide))) rfl)
  isplitl [Hb Hheld]
  · isplitl [Hb]; · iexact Hb
    iexact Hheld
  iintro ⟨Hb, Hheld⟩
  iapply (wp_step (op := op4 (F := F)) (S := S0) (V := U3 m) (two_sub (mem_S0 (by decide)) (mem_S0 (by decide))) rfl)
  isplitl [Hb Hheld]
  · isplitl [Hb]; · iexact Hb
    iexact Hheld
  iintro ⟨Hb, Hheld⟩
  iapply (wp_step (op := op5 (F := F)) (S := S0) (V := U4 m) (two_sub (mem_S0 (by decide)) (mem_S0 (by decide))) rfl)
  isplitl [Hb Hheld]
  · isplitl [Hb]; · iexact Hb
    iexact Hheld
  iintro ⟨Hb, Hheld⟩
  iapply (wp_step (op := op6 (F := F)) (S := S0) (V := U5 m) (two_sub (mem_S0 (by decide)) (mem_S0 (by decide))) rfl)
  isplitl [Hb Hheld]
  · isplitl [Hb]; · iexact Hb
    iexact Hheld
  iintro ⟨Hb, Hheld⟩
  iapply (wp_disp m h κ d)
  isplitr; · iexact Hctx
  isplitl [Hst]; · iexact Hst
  isplitl [Hheld]; · iexact Hheld
  iintro ⟨Hst, Hheld⟩
  iapply (wp_step (op := op7 (F := F)) (S := S1) (V := Vx m) (two_sub (mem_S1 (by decide)) (mem_S1 (by decide))) rfl)
  isplitl [Hb Hheld]
  · isplitl [Hb]; · iexact Hb
    iexact Hheld
  iintro ⟨Hb, Hheld⟩
  iapply (wp_step (op := op8 (F := F)) (S := S1) (V := U7 m) (two_sub (mem_S1 (by decide)) (mem_S1 (by decide))) rfl)
  isplitl [Hb Hheld]
  · isplitl [Hb]; · iexact Hb
    iexact Hheld
  iintro ⟨Hb, Hheld⟩
  iapply (wp_call m h κ d (p := 0) (n := 1) (W := V2 m) (W' := Vy m h) (S := S1) (ffnCall m h) rfl rfl (arr_mem ffn_arrs) ffn_tbls (fun b hb => (Function.update_of_ne (not_arr (w := 5) hb) _ _).symm))
  isplitr; · iexact Hctx
  isplitl [Hst]; · iexact Hst
  isplitl [Hb]; · iexact Hb
  isplitl [Hheld]; · iexact Hheld
  isplitl [Hg0]; · iexact Hg0
  iintro ⟨Hst, Hb, Hheld⟩
  iapply (wp_step (op := op9 (F := F)) (S := S1) (V := Vy m h) (two_sub (mem_S1 (by decide)) (mem_S1 (by decide))) rfl)
  isplitl [Hb Hheld]
  · isplitl [Hb]; · iexact Hb
    iexact Hheld
  iintro ⟨Hb, Hheld⟩
  iapply (wp_gath_call m h κ d)
  isplitr; · iexact Hctx
  isplitl [Hst]; · iexact Hst
  isplitl [Hheld]; · iexact Hheld
  iintro ⟨Hst, Hheld⟩
  iapply (wp_step (op := op10 (F := F)) (S := S2) (V := Vg m h) (two_sub (mem_S2 (by decide)) (mem_S2 (by decide))) rfl)
  isplitl [Hb Hheld]
  · isplitl [Hb]; · iexact Hb
    iexact Hheld
  iintro ⟨Hb, Hheld⟩
  iapply (wp_step (op := op11 (F := F)) (S := S2) (V := U10 m h) (two_sub (mem_S2 (by decide)) (mem_S2 (by decide))) rfl)
  isplitl [Hb Hheld]
  · isplitl [Hb]; · iexact Hb
    iexact Hheld
  iintro ⟨Hb, Hheld⟩
  iapply (wp_step (op := op12 (F := F)) (S := S2) (V := U11 m h) (two_sub (mem_S2 (by decide)) (mem_S2 (by decide))) rfl)
  isplitl [Hb Hheld]
  · isplitl [Hb]; · iexact Hb
    iexact Hheld
  iintro ⟨Hb, Hheld⟩
  iapply (wp_call m h κ d (p := 1) (n := 2) (W := V4 m h) (W' := Vo m h) (S := S2) (combCall m h) rfl rfl (arr_mem comb_arrs) comb_tbls (fun b hb => (Function.update_of_ne (not_arr (w := 7) hb) _ _).symm))
  isplitr; · iexact Hctx
  isplitl [Hst]; · iexact Hst
  isplitl [Hb]; · iexact Hb
  isplitl [Hheld]; · iexact Hheld
  isplitl [Hg1]; · iexact Hg1
  iintro ⟨Hst, Hb, Hheld⟩
  imodintro
  isplitl [Hst]; · iexact Hst
  isplitl [Hheld]; · iexact Hheld
  isplitl [Hb] <;> iassumption

/-! ## The final state -/

omit [FloatOps F] in
/-- A state beside buffers held has them at their contents. -/
theorem read_held (d : Dev nD) (V : Valuation τ sig (Elt F)) (s' : Phys nD τ sig (Elt F)) (S : Finset (DevRef τ sig)) :
    iprop(StableHlo.held (SparseCore.T d) S V ∗ SI s') ⊢ (⌜∀ b ∈ S, s'.mem.mem (d, b) = V b⌝ : sProp 𝕄) := by
  induction S using Finset.induction_on with
  | empty => iintro -; ipureintro; exact fun b hb => absurd hb (Finset.notMem_empty b)
  | insert a S ha ih =>
    have e : (StableHlo.held (SparseCore.T d) (insert a S) V : sProp 𝕄) = iprop(((d, a) ↦{fullShare} V a) ∗ StableHlo.held (SparseCore.T d) S V) := by
      unfold StableHlo.held
      rw [SparseCore.bigSep_insert' ha]
    rw [e]
    iintro ⟨⟨Ha, HS⟩, HSI⟩
    ihave H := (persistent_entails_right (SI_pointsTo_agree (st := s') (ℓ := (d, a)) (I := Finset.univ) (q := fullShare) (f := V a))) $$ [HSI Ha]
    · isplitl [HSI] <;> iassumption
    icases H with ⟨%hx, HSI, -⟩
    ihave H := ih $$ [HS HSI]
    · isplitl [HS] <;> iassumption
    icases H with %hr
    ipureintro
    intro b hb
    rcases Finset.mem_insert.mp hb with rfl | hb
    · exact funext fun i => hx i (Finset.mem_univ i)
    · exact hr b hb

def QC : PUnit × MemSt nD τ sig (Elt F) → Prop := fun r => (∀ c : Dev nD, ∀ b ∈ S2, r.2.mem (c, b) = Vo m h b) ∧ r.2.sem = fun _ => 0

theorem run_main [∀ e, Nonempty (Elt F e)] : θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P (cont m h)) (A := ∅) facts v₀
    (fun q hq => match q with | 0 => nomatch hq | 1 => nomatch hq)
    (fun q _ => match q with | 0 => tileObl0 (cont m h) facts | 1 => tileObl1 (cont m h) facts)
    (fun q _ => match q with | 0 => SparseCore.Cfg.VecSplit.of_plain (vecSplit0 (cont m h)) | 1 => SparseCore.Cfg.VecSplit.of_plain (vecSplit1 (cont m h)))
    m ρ main (fun d => iprop(ghost m h 0 d ∗ ghost m h 1 d)) (FIN m h) (u₀ m h) (sep_elim_left.trans (hu₀ m h)) (hmain m h ρ)
    (fun d s' => ∀ b ∈ S2, s'.mem.mem (d, b) = Vo m h b) (fun d s' => read_held d (Vo m h) s' S2) (QC m h) (fun _ hq hz => ⟨hq, hz⟩)

end Cert.Proof.Moe

end
-- ==== Proof.Moe.Frames.lean ====
/-
  The program's run read at its arguments, its result and its counters: the frames of the certificate.
-/
module

public import proofs.«01_k».proof.Proof.Moe.Main
public import proofs.«01_k».proof.Proof.Moe.Pre
public import proofs.«01_k».proof.Defs
public import proofs.«01_k».proof.Proof.Gen.Kernel
public import proofs.«01_k».proof.Proof.Gen.ReferenceIdeal.Run

@[expose] public section

set_option maxRecDepth 16384

noncomputable section

namespace Cert.Proof.Moe

open Cert.KernelIdeal Cert.KernelIdeal.Gen

open Idealize.ShloMosaic Idealize.ShloMosaic.TcCoe Idealize.ShloMosaic.Pipeline
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (h : Ok m)

variable {m} in
theorem keep {r : PUnit × MemSt nD τ sig (Elt F)} (q : QC m h r) (c : Dev nD) {b : Ref sig .tc} (hb : ∀ y ∈ [main_v0, main_v1, main_v2, main_v3, main_v4, main_v5, main_v6, main_v7, main_v8, main_v9, main_v10,
    main_v11, main_v12, main_v13, main_v14, main_v15, main_v16], b ≠ y) (hs : (Proc.devRef .tc b : DevRef τ sig) ∈ S2) : r.2.mem ((c.tc : Thread nD τ).loc b) = m ((c.tc : Thread nD τ).loc b) := by
  obtain rfl : c = 0 := Subsingleton.elim _ _
  exact (q.1 0 _ hs).trans (kept m h hb)

/-- The program runs; its result is `Vo` of the result's buffer, its arguments are unchanged, its counters end at zero. -/
theorem run_all [∀ e, Nonempty (Elt F e)] (ρ : Dev nD → PrngReg) :
    θ_run (Cert.KernelIdeal.defs (F := F)) (Cert.KernelIdeal.threads (F := F)) ⟨m, fun _ => 0, ρ⟩ fun r => (∀ c : Dev nD,
      r.2.mem ((c.tc : Thread nD τ).loc main_v16) = Vo m h v16'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0 :=
  (θ_run Cert.KernelIdeal.defs _ _).mono (fun _ q => ⟨fun c => ⟨q.1 c v16' (mem_S2 (by decide)),
      keep h q c (b := main_arg0) (by decide) (mem_S2 (by decide)),
      keep h q c (b := main_arg1) (by decide) (mem_S2 (by decide)),
      keep h q c (b := main_arg2) (by decide) (mem_S2 (by decide)),
      keep h q c (b := main_arg3) (by decide) (mem_S2 (by decide)),
      keep h q c (b := main_arg4) (by decide) (mem_S2 (by decide)),
      keep h q c (b := main_arg5) (by decide) (mem_S2 (by decide)),
      keep h q c (b := main_arg6) (by decide) (mem_S2 (by decide)),
      keep h q c (b := main_arg7) (by decide) (mem_S2 (by decide)),
      keep h q c (b := main_arg8) (by decide) (mem_S2 (by decide)),
      keep h q c (b := main_arg9) (by decide) (mem_S2 (by decide)),
      keep h q c (b := main_arg10) (by decide) (mem_S2 (by decide)),
      keep h q c (b := main_arg11) (by decide) (mem_S2 (by decide)),
      keep h q c (b := main_arg12) (by decide) (mem_S2 (by decide))⟩, q.2⟩) (run_main m h ρ)

theorem ok_ideal {m : (ℓ : Loc nD τ sig) → Buf (Elt Ideal) ℓ} (hp : Cert.Pre_KernelIdeal m) : Routed (m (0, arg1')) (m (0, arg2')) (m (0, arg12')) := by
  obtain ⟨h1, h2, h3, h4, h5, h6, h7⟩ := hp 0
  exact routed_of h1 h2 h3 h4 h5 h6 h7

theorem ok_bits {m : (ℓ : Loc nD τ sig) → Buf (Elt Bits) ℓ} (hp : Cert.Pre_Kernel m) : Routed (m (0, arg1')) (m (0, arg2')) (m (0, arg12')) := by
  obtain ⟨h1, h2, h3, h4, h5, h6, h7⟩ := hp 0
  exact routed_of h1 h2 h3 h4 h5 h6 h7

theorem frame_pi : Cert.quiescent_KernelIdeal := fun m ρ hp =>
  (θ_run Cert.KernelIdeal.defs _ _).mono (fun _ q => ⟨fun c => (q.1 c).2, q.2⟩) (run_all m (ok_of m (ok_ideal hp)) ρ)

/-- The frame of the compiled program, spelt with the idealized program's names: the two programs are one text. -/
def FrameBits : Prop := ∀ (m : (ℓ : Loc nD τ sig) → Buf (Elt Bits) ℓ) (ρ : Dev nD → PrngReg), Cert.Pre_Kernel m →
    θ_run (Cert.KernelIdeal.defs (F := Bits)) (Cert.KernelIdeal.threads (F := Bits)) ⟨m, fun _ => 0, ρ⟩ fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0

theorem frameBits : FrameBits := fun m ρ hp =>
  (θ_run Cert.KernelIdeal.defs _ _).mono (fun _ q => ⟨fun c => (q.1 c).2, q.2⟩) (run_all (F := Bits) m (ok_of m (ok_bits hp)) ρ)

/-- The SparseCore calls over any two pipelines. -/
def scOf (Q : Fin 2 → PCfg sig Λ₀ (Elt F)) : SparseCore.Cfg τ sig (Pipeline.Sig Λ₀ (Fin 2) fun p => (Q p).Adm) 2 where
  kind := scKind
  nCore := scNCore
  nSub := scNSub
  hkind := hscKind
  hCore := hscCore
  hSub := hscSub
  body := fun | 0 => Pipeline.kernel 0 | 1 => Pipeline.kernel 2 | ⟨_ + 2, h⟩ => absurd h (Nat.not_lt.2 (Nat.le_add_left _ _))
  args := fun | 0 => ⟨⟩ | 1 => ⟨⟩ | ⟨_ + 2, h⟩ => absurd h (Nat.not_lt.2 (Nat.le_add_left _ _))
  start := sc_start
  done := sc_done
  go := sc_go
  taskDone := sc_taskDone

/-- @main over any two pipelines and SparseCore calls. -/
def mainOf (Q : Fin 2 → PCfg sig Λ₀ (Elt F)) (C : SparseCore.Cfg τ sig (Pipeline.Sig Λ₀ (Fin 2) fun p => (Q p).Adm) 2) : Dev nD → Prog (TpuEff nD τ sig (Elt F) (SparseCore.Sig (Pipeline.Sig Λ₀ (Fin 2) fun p => (Q p).Adm) 2) .tc) PUnit := fun d => do
  hlo rfl (op0 (F := F)) (fun _ => .ret ⟨⟩)
  hlo rfl (op1 (F := F)) (fun _ => .ret ⟨⟩)
  hlo rfl (op2 (F := F)) (fun _ => .ret ⟨⟩)
  hlo rfl (op3 (F := F)) (fun _ => .ret ⟨⟩)
  hlo rfl (op4 (F := F)) (fun _ => .ret ⟨⟩)
  hlo rfl (op5 (F := F)) (fun _ => .ret ⟨⟩)
  hlo rfl (op6 (F := F)) (fun _ => .ret ⟨⟩)
  C.run d 0
  hlo rfl (op7 (F := F)) (fun _ => .ret ⟨⟩)
  hlo rfl (op8 (F := F)) (fun _ => .ret ⟨⟩)
  Prog.lift (.customCall (SparseCore.inner (Pipeline.entry 0)) ())
  hlo rfl (op9 (F := F)) (fun _ => .ret ⟨⟩)
  C.run d 1
  hlo rfl (op10 (F := F)) (fun _ => .ret ⟨⟩)
  hlo rfl (op11 (F := F)) (fun _ => .ret ⟨⟩)
  hlo rfl (op12 (F := F)) (fun _ => .ret ⟨⟩)
  Prog.lift (.customCall (SparseCore.inner (Pipeline.entry 1)) ())
  pure ⟨⟩

/-- The frame over any two pipelines, table of kernel bodies, SparseCore calls and @main. -/
def FrameOf (Q : Fin 2 → PCfg sig Λ₀ (Elt Bits)) (D : Defs nD τ sig (Elt Bits) Λ₀) (C : SparseCore.Cfg τ sig (Pipeline.Sig Λ₀ (Fin 2) fun p => (Q p).Adm) 2)
    (M : Dev nD → Prog (TpuEff nD τ sig (Elt Bits) (SparseCore.Sig (Pipeline.Sig Λ₀ (Fin 2) fun p => (Q p).Adm) 2) .tc) PUnit) : Prop :=
  ∀ (m : (ℓ : Loc nD τ sig) → Buf (Elt Bits) ℓ) (ρ : Dev nD → PrngReg), Cert.Pre_Kernel m →
    θ_run (C.defs (Pipeline.defs Q D)) (C.threads M) ⟨m, fun _ => 0, ρ⟩ fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0

theorem pipes_eq : Cert.Kernel.pcfgs (F := Bits) = Cert.KernelIdeal.pcfgs (F := Bits) := by eq_refl

set_option smartUnfolding false in
theorem bodies_eq : Cert.Kernel.defs₀ (F := Bits) = Cert.KernelIdeal.defs₀ (F := Bits) := by eq_refl

theorem calls_eq : Cert.Kernel.sc (F := Bits) = scOf (Cert.Kernel.pcfgs (F := Bits)) := by eq_refl

set_option maxHeartbeats 1500000 in
set_option maxRecDepth 65536 in
theorem main_eq : Cert.Kernel.main (F := Bits) = mainOf (Cert.Kernel.pcfgs (F := Bits)) (Cert.Kernel.sc (F := Bits)) := by
  refine funext fun d => ?_
  delta Cert.Kernel.main mainOf
  beta_reduce
  iterate 8 refine congrArg₂ Bind.bind (by eq_refl) (funext fun _ => ?_)
  eq_refl

/-- That frame with the calls and @main that belong to the pipelines. -/
def FrameAt (Q : Fin 2 → PCfg sig Λ₀ (Elt Bits)) (D : Defs nD τ sig (Elt Bits) Λ₀) : Prop := FrameOf Q D (scOf Q) (mainOf Q (scOf Q))

theorem frame_here : FrameAt (Cert.KernelIdeal.pcfgs (F := Bits)) (Cert.KernelIdeal.defs₀ (F := Bits)) := frameBits

theorem frame_there : FrameOf (Cert.Kernel.pcfgs (F := Bits)) (Cert.Kernel.defs₀ (F := Bits)) (Cert.Kernel.sc (F := Bits)) (Cert.Kernel.main (F := Bits)) := by
  rw [main_eq, calls_eq]
  exact Eq.mpr (congrArg₂ FrameAt pipes_eq bodies_eq) frame_here

theorem frame_p : Cert.quiescent_Kernel := frame_there

theorem frame_ri : Cert.quiescent_ReferenceIdeal := fun m ρ _ =>
  (θ_run Cert.ReferenceIdeal.defs _ _).mono (fun r q => ⟨fun c => (q c).2, sem_eq_zero_of_no_sems (by decide) r.2⟩) (Cert.ReferenceIdeal.Value.run (F := Ideal) m ρ)

end Cert.Proof.Moe

end
-- ==== Proof.Moe.Equal.lean ====
/-
  The algebraic claim: over the extended reals the four calls compute the reference.
-/
module

public import proofs.«01_k».proof.Proof.Moe.Algebra
public import proofs.«01_k».proof.Proof.Moe.Frames

@[expose] public section

set_option maxRecDepth 16384

noncomputable section

namespace Cert.Proof.Moe

open Cert.KernelIdeal Cert.KernelIdeal.Gen

open Idealize.ShloMosaic Idealize.ShloMosaic.TcCoe Idealize.ShloMosaic.Pipeline
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The reference's frame holds at the kernel's precondition too. -/
theorem frame_ri_pre : Cert.quiescent_ReferenceIdeal_pre_routed := fun m ρ _ => frame_ri m ρ trivial

/-- From equal arguments in the precondition's range, the kernel's result and the reference's are the same array. -/
theorem algebraic : Cert.algebraic_KernelIdeal_ReferenceIdeal := fun m g m' g' hp ha => by
  have hR := ok_ideal hp
  refine ⟨fun _ => Vo m (ok_of m hR) v16',
    (θ_run Cert.KernelIdeal.defs _ _).mono (fun _ q => q.1) (run_all m (ok_of m hR) g),
    (θ_run Cert.ReferenceIdeal.defs _ _).mono (fun _ q c => ⟨(q c).1.trans ?_, (q c).2⟩) (Cert.ReferenceIdeal.Value.run (F := Ideal) m' g')⟩
  obtain rfl : c = 0 := Subsingleton.elim _ _
  obtain ⟨a0, -, -, a3, a4, a5, a6, a7, a8, a9, a10, a11, a12⟩ := ha 0
  refine Eq.trans ?_ (result_eq m hR).symm
  rw [a0, a3, a4, a5, a6, a7, a8, a9, a10, a11, a12]
  rfl

end Cert.Proof.Moe

end
-- ==== Proof.Moe.GatePick.lean ====
/-
  The gate's choice: three rounds of "the greatest entry, the first of those that attain it", each round's choice struck out before the next, are the
  first three positions of a stable sort with the greater entries first.
-/
module

public import Idealize.ShloMosaic.Lib.SortPrefix
public import Idealize.ShloMosaic.PureOps.Ideal

@[expose] public section

noncomputable section

namespace Cert.Proof.Moe.Gate

open Idealize.ShloMosaic

/-! ## A stable sort of increasing positions -/

section Stable

variable {ι : Type}

/-- The sort compares an entry only with entries that stand after it in the list. -/
theorem sort_later (B C : ι → ι → Bool) (l : List ι) (h : l.Pairwise fun a b => B b a = C b a) : stableSort B l = stableSort C l := by
  induction l with
  | nil => rfl
  | cons a l ih =>
    obtain ⟨ha, hl⟩ := List.pairwise_cons.mp h
    show insertBefore B a (stableSort B l) = insertBefore C a (stableSort C l)
    rw [ih hl]
    exact insertBefore_congr B C a _ fun b hb => ha b ((perm_stableSort C l).mem_iff.mp hb)

/-- Greater entries first, and the earlier position of two equal ones. -/
def Ahead {n : ℕ} (s : Fin n → EReal) (k k' : Fin n) : Bool := decide (s k' < s k) || (decide (s k = s k') && decide (k < k'))

theorem ahead_total {n : ℕ} (s : Fin n → EReal) : StrictTotalBefore (Ahead s) :=
  StrictTotalBefore.of_key_then_position (fun a b : EReal => decide (b < a)) s (fun a => decide_eq_false (lt_irrefl a))
    (fun a b c hab hbc => decide_eq_true (lt_trans (of_decide_eq_true hbc) (of_decide_eq_true hab)))
    (fun a b => (lt_trichotomy a b).elim (fun h => Or.inr (Or.inr (decide_eq_true h)))
      fun h => h.elim (fun e => Or.inr (Or.inl e)) fun h' => Or.inl (decide_eq_true h'))

/-- The position breaks the ties of a stable sort of all positions. -/
theorem sortedFrom_ahead {n : ℕ} (s : Fin n → EReal) (k : Fin n) : sortedFrom (fun i j => decide (s j < s i)) k = sortedFrom (Ahead s) k := by
  have e : sortPositions n (fun i j => decide (s j < s i)) = sortPositions n (Ahead s) :=
    sort_later _ _ _ ((List.pairwise_lt_finRange n).imp fun {a b} hab => by
      unfold Ahead
      rw [decide_eq_false (not_lt_of_gt hab), Bool.and_false, Bool.or_false])
  unfold sortedFrom
  exact List.getElem_of_eq e _

end Stable

/-! ## The rounds -/

section Rounds

/-- `p` is the first position at which `s` is greatest. -/
def Best (s : Fin 23 → EReal) (p : Fin 23) : Prop := (∀ e, s e ≤ s p) ∧ ∀ e, s e = s p → p ≤ e

theorem best_exists (s : Fin 23 → EReal) : ∃ p, Best s p := by
  classical
  obtain ⟨q, -, hq⟩ := Finset.exists_max_image Finset.univ s ⟨0, Finset.mem_univ _⟩
  obtain ⟨p, hp, hp'⟩ := Finset.exists_min_image (Finset.univ.filter fun e => s e = s q) id ⟨q, by simp⟩
  have e : s p = s q := (Finset.mem_filter.mp hp).2
  exact ⟨p, fun x => e ▸ hq x (Finset.mem_univ _), fun x hx => hp' x (Finset.mem_filter.mpr ⟨Finset.mem_univ _, hx.trans e⟩)⟩

def pick (s : Fin 23 → EReal) : Fin 23 := Classical.choose (best_exists s)

theorem pick_best (s : Fin 23 → EReal) : Best s (pick s) := Classical.choose_spec (best_exists s)

/-- The entries with position `p` struck out. -/
def strike (c : EReal) (s : Fin 23 → EReal) (p : Fin 23) : Fin 23 → EReal := fun e => if e = p then c else s e

variable (c : EReal) (s : Fin 23 → EReal)

def p0 : Fin 23 := pick s
def s1 : Fin 23 → EReal := strike c s (p0 s)
def p1 : Fin 23 := pick (s1 c s)
def s2 : Fin 23 → EReal := strike c (s1 c s) (p1 c s)
def p2 : Fin 23 := pick (s2 c s)

/-- The three choices, in order. -/
def sel : Fin 3 → Fin 23 := ![p0 s, p1 c s, p2 c s]

variable {c s}

theorem s1_of {e : Fin 23} (h : e ≠ p0 s) : s1 c s e = s e := if_neg h

theorem s2_of {e : Fin 23} (h : e ≠ p0 s) (h' : e ≠ p1 c s) : s2 c s e = s e := (if_neg h').trans (s1_of h)

variable (hc : ∀ e, c < s e)
include hc

theorem p1_ne : p1 c s ≠ p0 s := by
  intro h
  obtain ⟨e, he⟩ : ∃ e : Fin 23, e ≠ p0 s := exists_ne _
  have := (pick_best (s1 c s)).1 e
  rw [s1_of he] at this
  have hp : s1 c s (pick (s1 c s)) = c := if_pos h
  rw [hp] at this
  exact absurd (hc e) (not_lt.mpr this)

theorem p2_ne : p2 c s ≠ p0 s ∧ p2 c s ≠ p1 c s := by
  obtain ⟨e, he, he'⟩ : ∃ e : Fin 23, e ≠ p0 s ∧ e ≠ p1 c s := by
    have : ∀ a b : Fin 23, ∃ e : Fin 23, e ≠ a ∧ e ≠ b := by decide
    exact this _ _
  have h := (pick_best (s2 c s)).1 e
  rw [s2_of he he'] at h
  have hlt : c < s2 c s (p2 c s) := lt_of_lt_of_le (hc e) h
  constructor
  · intro e0
    have : s2 c s (p2 c s) = c := by
      rw [e0]
      unfold s2 strike
      rw [if_neg (p1_ne hc).symm]
      exact if_pos rfl
    exact absurd hlt (by rw [this]; exact lt_irrefl c)
  · intro e1
    have : s2 c s (p2 c s) = c := by rw [e1]; exact if_pos rfl
    exact absurd hlt (by rw [this]; exact lt_irrefl c)

omit hc in
/-- Nothing is ahead of the best of the entries. -/
theorem not_ahead {t : Fin 23 → EReal} {p e : Fin 23} (h : Best t p) (hp : t p = s p) (he : t e = s e) : Ahead s e p = false := by
  unfold Ahead
  rw [← hp, ← he, decide_eq_false (not_lt_of_ge (h.1 e)), Bool.false_or]
  by_cases e' : t e = t p
  · rw [decide_eq_false (not_lt_of_ge (h.2 e e')), Bool.and_false]
  · rw [decide_eq_false e', Bool.false_and]

theorem behind0 (e : Fin 23) : Ahead s e (p0 s) = false := not_ahead (pick_best s) rfl rfl

theorem behind1 {e : Fin 23} (he : e ≠ p0 s) : Ahead s e (p1 c s) = false := not_ahead (pick_best (s1 c s)) (s1_of (p1_ne hc)) (s1_of he)

theorem behind2 {e : Fin 23} (he : e ≠ p0 s) (he' : e ≠ p1 c s) : Ahead s e (p2 c s) = false :=
  not_ahead (pick_best (s2 c s)) (s2_of (p2_ne hc).1 (p2_ne hc).2) (s2_of he he')

theorem sel_inj : Function.Injective (sel c s) := by
  have h1 := p1_ne hc
  have h2 := p2_ne hc
  intro i j hij
  fin_cases i <;> fin_cases j <;> first | rfl | (exfalso; revert hij; simp [sel]; tauto)

/-- The choices are the first three positions of the sort. -/
theorem sorted_sel (k : Fin 3) : sortedFrom (fun i j => decide (s j < s i)) (k.castLE (by decide : 3 ≤ 23)) = sel c s k := by
  rw [sortedFrom_ahead]
  have h1 := p1_ne hc
  have h2 := p2_ne hc
  refine (ahead_total s).sortedFrom_eq_of_prefix (by decide) (sel c s) (sel_inj hc) ?_ ?_ k
  · intro i j hij
    fin_cases i <;> fin_cases j <;> first
      | exact absurd hij (by decide)
      | exact behind0 hc _
      | exact behind1 hc h2.1
  · intro i p hp
    have a0 : p ≠ p0 s := (hp 0).symm
    have a1 : p ≠ p1 c s := (hp 1).symm
    fin_cases i
    · exact behind0 hc _
    · exact behind1 hc a0
    · exact behind2 hc a0 a1

end Rounds

end Cert.Proof.Moe.Gate

end
-- ==== Proof.Moe.GateMask.lean ====
/-
  The gate's call, round by round: the mask of a round at a token's entry, and the value the round picks out.
-/
module

public import proofs.«01_k».proof.Proof.Moe.GatePick
public import proofs.«01_k».proof.Proof.Gen.GateIdeal.Value
public import Idealize.ShloMosaic.Lib.Pointwise
public import Idealize.ShloMosaic.Lib.SortNet.Extract
public import Idealize.ShloMosaic.Lib.IdealHost
public import Idealize.ShloMosaic.Lib.StableHlo.Predicate

@[expose] public section

set_option maxRecDepth 16384

noncomputable section

namespace Cert.Proof.Moe.Gate

open Cert.GateIdeal Cert.GateIdeal.Gen
open Idealize.ShloMosaic
open scoped BigOperators

/-- The lanes of a token's row that hold the first of its greatest entries. -/
def maskOf (v : FVec Ideal S2048x23 .f32) : IVec S2048x23 1 :=
  cmpi .eq (iota .tc S2048x23 32 [1] iota_S2048x23_d1_w32)
    (broadcastTo S2048x23 (shapeCast S2048x1 (multiReductionI .minsi [1] S2048
      (select (cmpf .oeq v (broadcastTo S2048x23 (shapeCast S2048x1 (multiReduction .maximumf [1] S2048 v 0xFF800000#32 reduces_S2048x23_S2048 (.inl rfl) rfl)
        shapeCasts_S2048_S2048x1) broadcasts_S2048x1_S2048x23)) (iota .tc S2048x23 32 [1] iota_S2048x23_d1_w32) (broadcast S2048x23 23#32))
      2147483647#32 reduces_S2048x23_S2048 rfl) shapeCasts_S2048_S2048x1) broadcasts_S2048x1_S2048x23)

/-- What strikes an entry out. -/
abbrev Struck : EReal := Ideal.ofBits .f32 0xF149F2CA#32

theorem least_word : Ideal.ofBits .f32 0xFF800000#32 = ⊥ := by
  simp [Ideal.ofBits, Ideal.ieee]

theorem pay5_eq (x0 : Vec Ideal S2048x768 .f32) (x1 : Vec Ideal S23x768 .f32) (x2 x3 : Vec Ideal S1x23 .f32) :
    k0_pay5 x0 x1 x2 x3 = maskOf (k0_pay4 x0 x1 x2 x3) := rfl

theorem pay8_eq (x0 : Vec Ideal S2048x768 .f32) (x1 : Vec Ideal S23x768 .f32) (x2 x3 : Vec Ideal S1x23 .f32) :
    k0_pay8 x0 x1 x2 x3 = maskOf (k0_pay7 x0 x1 x2 x3) := rfl

theorem pay11_eq (v28 : FVec Ideal S2048x23 .f32) (v38 : IVec S2048x23 1) :
    k0_pay11 (iota .tc S2048x23 32 [1] iota_S2048x23_d1_w32) v28 v38
      = maskOf (select v38 (broadcast S2048x23 (Scalar.ofBits (F := Ideal) .f32 0xF149F2CA#32)) v28) := rfl

/-- The greatest of the entries, from the least value on. -/
theorem fold_best {v : Fin 23 → EReal} {p : Fin 23} (h : Best v p) : Finset.univ.fold max (⊥ : EReal) v = v p := by
  refine le_antisymm ?_ ?_
  · exact (Finset.fold_max_le (v p)).mpr ⟨bot_le, fun e _ => h.1 e⟩
  · exact (Finset.le_fold_max (v p)).mpr (Or.inr ⟨p, Finset.mem_univ _, le_rfl⟩)

theorem toInt_lane (e : Fin 23) : (BitVec.ofNat 32 e.val).toInt = e.val := by
  revert e
  decide

/-- The least lane among those that hold the greatest entry. -/
theorem fold_lane {v : Fin 23 → EReal} {p : Fin 23} (h : Best v p) :
    Finset.univ.fold IntOp.minsi (2147483647#32) (fun x : Fin 23 => if v x = v p then BitVec.ofNat 32 x.val else 23#32) = BitVec.ofNat 32 p.val := by
  have hr : ∀ {x y z : BitVec 32}, x.toInt ≤ (IntOp.minsi y z).toInt ↔ x.toInt ≤ y.toInt ∧ x.toInt ≤ z.toInt := fun {x y z} => by
    rw [SortNet.toInt_minsi]
    exact le_min_iff
  have hf := fun c : BitVec 32 => Finset.fold_op_rel_iff_and (op := IntOp.minsi) (r := fun x y : BitVec 32 => x.toInt ≤ y.toInt) hr (c := c)
    (s := Finset.univ) (b := 2147483647#32) (f := fun x : Fin 23 => if v x = v p then BitVec.ofNat 32 x.val else 23#32)
  refine BitVec.toInt_inj.mp (le_antisymm ?_ ?_)
  · have h2 := ((hf _).mp le_rfl).2 p (Finset.mem_univ _)
    rwa [if_pos rfl] at h2
  · refine (hf _).mpr ⟨?_, fun x _ => ?_⟩
    · rw [toInt_lane]
      have := p.isLt
      show (p.val : ℤ) ≤ 2147483647
      omega
    · have := p.isLt
      split
      · next hx =>
        rw [toInt_lane, toInt_lane]
        exact_mod_cast h.2 x hx
      · rw [toInt_lane]
        show (p.val : ℤ) ≤ 23
        omega

theorem maskOf_at (v : FVec Ideal S2048x23 .f32) (t : Fin 2048) (e : Fin 23) :
    maskOf v (ix2 t e) = if e = pick (fun e => v (ix2 t e)) then 1#1 else 0#1 := by
  pointwise [maskOf]
  have hb := pick_best (fun e => v (ix2 t e))
  generalize pick (fun e => v (ix2 t e)) = p at hb
  rw [least_word, fold_best hb, fold_lane hb]
  by_cases he : e = p
  · rw [if_pos he, he]
    exact StableHlo.Predicate.cmpi_eq_iff.mpr rfl
  · rw [if_neg he]
    refine ValueIdx.eq_zero_of_ne_one fun h => he ?_
    have := congrArg BitVec.toInt (StableHlo.Predicate.cmpi_eq_iff.mp h)
    rw [toInt_lane, toInt_lane] at this
    exact Fin.ext (by exact_mod_cast this)

/-- A row's sum over the lanes of a mask at one lane. -/
theorem sum_pick (k : IVec S2048x23 1) (g : FVec Ideal S2048x23 .f32) (t : Fin 2048) (o : Fin 1) (p : Fin 23)
    (hk : ∀ e, k (ix2 t e) = if e = p then 1#1 else 0#1) :
    k0_pay10 (select k g (broadcast S2048x23 (Scalar.ofBits (F := Ideal) .f32 0x00000000#32))) (ix2 t o) = g (ix2 t p) := by
  pointwise [k0_pay10]
  rw [Finset.sum_eq_single p]
  · rw [hk, if_pos rfl]
    rfl
  · intro e _ he
    rw [hk, if_neg he]
    rfl
  · exact fun h => absurd (Finset.mem_univ p) h

/-! ## The call's values -/

section Values

variable (x0 : Vec Ideal S2048x768 .f32) (x1 : Vec Ideal S23x768 .f32) (x2 x3 : Vec Ideal S1x23 .f32)

/-- A token's weights. -/
def gk (t : Fin 2048) (e : Fin 23) : EReal := k0_pay3 (F := Ideal) x0 x1 x2 (ix2 t e)

/-- What a token's experts are chosen by. -/
def sk (t : Fin 2048) (e : Fin 23) : EReal := k0_pay4 (F := Ideal) x0 x1 x2 x3 (ix2 t e)

theorem gk_eq (t : Fin 2048) (e : Fin 23) :
    gk x0 x1 x2 t e = Ideal.logistic ((∑ k : Fin 768, (x0 (ix2 t k) : EReal) * (x1 (ix2 e k) : EReal)) + (x2 (ix2 0 e) : EReal)) := by
  unfold gk
  pointwise [k0_pay3]

theorem sk_eq (t : Fin 2048) (e : Fin 23) : sk x0 x1 x2 x3 t e = gk x0 x1 x2 t e + (x3 (ix2 0 e) : EReal) := by
  unfold sk gk
  pointwise [k0_pay4]

theorem mask0 (t : Fin 2048) (e : Fin 23) : k0_pay5 (F := Ideal) x0 x1 x2 x3 (ix2 t e) = if e = p0 (sk x0 x1 x2 x3 t) then 1#1 else 0#1 := by
  rw [pay5_eq, maskOf_at]
  rfl

theorem sel_struck (k : IVec S2048x23 1) (v : FVec Ideal S2048x23 .f32) (t : Fin 2048) (s : Fin 23 → EReal) (p : Fin 23)
    (hk : ∀ e, k (ix2 t e) = if e = p then 1#1 else 0#1) (hv : ∀ e, v (ix2 t e) = s e) (e : Fin 23) :
    (select k (broadcast S2048x23 (Scalar.ofBits (F := Ideal) .f32 0xF149F2CA#32)) v) (ix2 t e) = strike Struck s p e := by
  show Scalar.select (k (ix2 t e)) _ (v (ix2 t e)) = _
  rw [hk, hv]
  unfold strike
  by_cases he : e = p
  · rw [if_pos he, if_pos he]
    rfl
  · rw [if_neg he, if_neg he]
    rfl

theorem left1 (t : Fin 2048) (e : Fin 23) : k0_pay7 (F := Ideal) x0 x1 x2 x3 (ix2 t e) = s1 Struck (sk x0 x1 x2 x3 t) e :=
  sel_struck (k0_pay5 (F := Ideal) x0 x1 x2 x3) (k0_pay4 (F := Ideal) x0 x1 x2 x3) t _ _ (mask0 x0 x1 x2 x3 t) (fun _ => rfl) e

theorem mask1 (t : Fin 2048) (e : Fin 23) : k0_pay8 (F := Ideal) x0 x1 x2 x3 (ix2 t e) = if e = p1 Struck (sk x0 x1 x2 x3 t) then 1#1 else 0#1 := by
  rw [pay8_eq, maskOf_at]
  have : (fun e => k0_pay7 (F := Ideal) x0 x1 x2 x3 (ix2 t e)) = s1 Struck (sk x0 x1 x2 x3 t) := funext (left1 x0 x1 x2 x3 t)
  rw [this]
  rfl

theorem mask2 (t : Fin 2048) (e : Fin 23) :
    k0_pay11 (iota .tc S2048x23 32 [1] iota_S2048x23_d1_w32) (k0_pay7 (F := Ideal) x0 x1 x2 x3) (k0_pay8 (F := Ideal) x0 x1 x2 x3) (ix2 t e)
      = if e = p2 Struck (sk x0 x1 x2 x3 t) then 1#1 else 0#1 := by
  rw [pay11_eq, maskOf_at]
  have : (fun e => (select (k0_pay8 (F := Ideal) x0 x1 x2 x3) (broadcast S2048x23 (Scalar.ofBits (F := Ideal) .f32 0xF149F2CA#32))
      (k0_pay7 (F := Ideal) x0 x1 x2 x3)) (ix2 t e)) = s2 Struck (sk x0 x1 x2 x3 t) :=
    funext (sel_struck _ _ t _ _ (mask1 x0 x1 x2 x3 t) (left1 x0 x1 x2 x3 t))
  rw [this]
  rfl

/-- The weight of the first choice. -/
theorem val0 (t : Fin 2048) (o : Fin 1) : k0_pay6 (F := Ideal) x0 x1 x2 x3 (ix2 t o) = gk x0 x1 x2 t (p0 (sk x0 x1 x2 x3 t)) :=
  sum_pick (k0_pay5 (F := Ideal) x0 x1 x2 x3) (k0_pay3 (F := Ideal) x0 x1 x2) t o _ (mask0 x0 x1 x2 x3 t)

theorem val1 (t : Fin 2048) (o : Fin 1) : k0_pay10 (k0_pay9 (F := Ideal) x0 x1 x2 x3) (ix2 t o) = gk x0 x1 x2 t (p1 Struck (sk x0 x1 x2 x3 t)) :=
  sum_pick (k0_pay8 (F := Ideal) x0 x1 x2 x3) (k0_pay3 (F := Ideal) x0 x1 x2) t o _ (mask1 x0 x1 x2 x3 t)

theorem val2 (t : Fin 2048) (o : Fin 1) :
    k0_pay12 (k0_pay3 (F := Ideal) x0 x1 x2) (iota .tc S2048x23 32 [1] iota_S2048x23_d1_w32) (k0_pay7 (F := Ideal) x0 x1 x2 x3) (k0_pay8 (F := Ideal) x0 x1 x2 x3) (ix2 t o)
      = gk x0 x1 x2 t (p2 Struck (sk x0 x1 x2 x3 t)) :=
  sum_pick (k0_pay11 (iota .tc S2048x23 32 [1] iota_S2048x23_d1_w32) (k0_pay7 (F := Ideal) x0 x1 x2 x3) (k0_pay8 (F := Ideal) x0 x1 x2 x3))
    (k0_pay3 (F := Ideal) x0 x1 x2) t o _ (mask2 x0 x1 x2 x3 t)

/-- The weights of the three choices added up. -/
theorem val_sum (t : Fin 2048) (o : Fin 1) :
    k0_pay13 (k0_pay3 (F := Ideal) x0 x1 x2) (iota .tc S2048x23 32 [1] iota_S2048x23_d1_w32) (k0_pay6 (F := Ideal) x0 x1 x2 x3)
      (k0_pay7 (F := Ideal) x0 x1 x2 x3) (k0_pay8 (F := Ideal) x0 x1 x2 x3) (k0_pay9 (F := Ideal) x0 x1 x2 x3) (ix2 t o)
      = ∑ k : Fin 3, gk x0 x1 x2 t (sel Struck (sk x0 x1 x2 x3 t) k) := by
  rw [Fin.sum_univ_three]
  exact congrArg₂ (fun a b : EReal => a + b) (congrArg₂ (fun a b : EReal => a + b) (val0 x0 x1 x2 x3 t o) (val1 x0 x1 x2 x3 t o)) (val2 x0 x1 x2 x3 t o)

theorem pack_at (v58 v60 v26 v42 : FVec Ideal S2048x1 .f32) (t : Fin 2048) (k : Fin 3) :
    k0_pay30 v58 v60 (iota .tc S2048x3 32 [1] iota_S2048x3_d1_w32) (k0_pay29 v26 v42 v60) (ix2 t k)
      = Ideal.div ((![v26 (ix2 t 0), v42 (ix2 t 0), v58 (ix2 t 0)] : Fin 3 → EReal) k) (v60 (ix2 t 0)) := by
  pointwise [k0_pay29, k0_pay30]
  fin_cases k
  · show (Ideal.div _ _ : EReal) + 0 + 0 = _
    rw [add_zero, add_zero]
    rfl
  · show 0 + (Ideal.div _ _ : EReal) + 0 = _
    rw [add_zero, zero_add]
    rfl
  · show 0 + 0 + (Ideal.div _ _ : EReal) = _
    rw [add_zero, zero_add]
    rfl

theorem origin : (![0, 0] : Fin 2 → ℕ) = fun _ => 0 := funext fun (a : Fin 2) => match a with | 0 => rfl | 1 => rfl

theorem out4_eq : out0_4 (F := Ideal) x0 x1 x2 x3 = k0_pay30
    (k0_pay12 (k0_pay3 (F := Ideal) x0 x1 x2) (iota .tc S2048x23 32 [1] iota_S2048x23_d1_w32) (k0_pay7 (F := Ideal) x0 x1 x2 x3) (k0_pay8 (F := Ideal) x0 x1 x2 x3))
    (k0_pay13 (k0_pay3 (F := Ideal) x0 x1 x2) (iota .tc S2048x23 32 [1] iota_S2048x23_d1_w32) (k0_pay6 (F := Ideal) x0 x1 x2 x3)
      (k0_pay7 (F := Ideal) x0 x1 x2 x3) (k0_pay8 (F := Ideal) x0 x1 x2 x3) (k0_pay9 (F := Ideal) x0 x1 x2 x3))
    (iota .tc S2048x3 32 [1] iota_S2048x3_d1_w32)
    (k0_pay29 (k0_pay6 (F := Ideal) x0 x1 x2 x3) (k0_pay10 (k0_pay9 (F := Ideal) x0 x1 x2 x3))
      (k0_pay13 (k0_pay3 (F := Ideal) x0 x1 x2) (iota .tc S2048x23 32 [1] iota_S2048x23_d1_w32) (k0_pay6 (F := Ideal) x0 x1 x2 x3)
        (k0_pay7 (F := Ideal) x0 x1 x2 x3) (k0_pay8 (F := Ideal) x0 x1 x2 x3) (k0_pay9 (F := Ideal) x0 x1 x2 x3))) := by
  unfold_out out0_4
  refine (View.canon_unit_zero origin _ _).trans ?_
  rw [View.ld_unit_zero origin, View.ld_unit_zero origin, View.ld_unit_zero origin, View.ld_unit_zero origin]

theorem out7_eq : out0_7 (F := Ideal) x0 x1 x2 x3 = k0_pay1 (k0_pay3 (F := Ideal) x0 x1 x2)
    (k0_pay15 (iota .tc S2048x23 32 [1] iota_S2048x23_d1_w32) (k0_pay5 (F := Ideal) x0 x1 x2 x3) (k0_pay7 (F := Ideal) x0 x1 x2 x3) (k0_pay8 (F := Ideal) x0 x1 x2 x3)) := by
  unfold_out out0_7
  refine (View.canon_unit_zero origin _ _).trans ?_
  rw [View.ld_unit_zero origin, View.ld_unit_zero origin, View.ld_unit_zero origin, View.ld_unit_zero origin]

/-- The normalised weights. -/
theorem topw_at (t : Fin 2048) (k : Fin 3) : out0_4 (F := Ideal) x0 x1 x2 x3 (ix2 t k)
    = Ideal.div (gk x0 x1 x2 t (sel Struck (sk x0 x1 x2 x3 t) k)) (∑ j : Fin 3, gk x0 x1 x2 t (sel Struck (sk x0 x1 x2 x3 t) j)) := by
  rw [out4_eq, pack_at, val_sum, val0, val1, val2]
  refine congrArg (fun a => Ideal.div a _) ?_
  fin_cases k <;> rfl

/-- One where a condition holds, zero where it does not. -/
def one (p : Prop) [Decidable p] : EReal := if p then 1 else 0

theorem mask_one (p : Prop) [Decidable p] : (FloatOps.sitofp .f32 (BitVec.setWidth 32 (if p then 1#1 else 0#1)) : Ideal .f32) = one p := by
  unfold one
  by_cases h : p
  · rw [if_pos h, if_pos h]
    exact (congrArg (fun z : ℤ => ((z : ℝ) : EReal)) (by decide : (BitVec.setWidth 32 1#1).toInt = 1)).trans (by simp)
  · rw [if_neg h, if_neg h]
    exact (congrArg (fun z : ℤ => ((z : ℝ) : EReal)) (by decide : (BitVec.setWidth 32 0#1).toInt = 0)).trans (by simp)

/-- How many of the choices of all tokens an expert is. -/
theorem count_at (e : Fin 23) :
    k0_pay15 (iota .tc S2048x23 32 [1] iota_S2048x23_d1_w32) (k0_pay5 (F := Ideal) x0 x1 x2 x3) (k0_pay7 (F := Ideal) x0 x1 x2 x3) (k0_pay8 (F := Ideal) x0 x1 x2 x3)
      (ix2 0 e) = ∑ t : Fin 2048, ∑ k : Fin 3, one (e = sel Struck (sk x0 x1 x2 x3 t) k) := by
  pointwise [k0_pay15, k0_pay14]
  refine Finset.sum_congr rfl fun t _ => ?_
  rw [mask0, mask1, mask2, mask_one, mask_one, mask_one, Fin.sum_univ_three]
  rfl

/-- The balance of the experts' loads, from their shares and the counts of their choices. -/
def balance (g : Fin 2048 → Fin 23 → EReal) (n : Fin 23 → EReal) : EReal :=
  ∑ e : Fin 23, Ideal.div (∑ t : Fin 2048, Ideal.div (g t e) (∑ e' : Fin 23, g t e')) (Ideal.ofBits .f32 0x45000000#32)
    * Ideal.div (Ideal.ofBits .f32 0x41B80000#32 * n e) (Ideal.ofBits .f32 0x45C00000#32)

theorem aux_at : out0_7 (F := Ideal) x0 x1 x2 x3 (ix2 0 0)
    = balance (gk x0 x1 x2) fun e => ∑ t : Fin 2048, ∑ k : Fin 3, one (e = sel Struck (sk x0 x1 x2 x3 t) k) := by
  rw [out7_eq]
  have h := count_at x0 x1 x2 x3
  revert h
  generalize k0_pay15 (iota .tc S2048x23 32 [1] iota_S2048x23_d1_w32) (k0_pay5 (F := Ideal) x0 x1 x2 x3) (k0_pay7 (F := Ideal) x0 x1 x2 x3)
    (k0_pay8 (F := Ideal) x0 x1 x2 x3) = n
  intro h
  pointwise [k0_pay1]
  rw [Fin.sum_univ_one]
  refine Finset.sum_congr rfl fun e _ => ?_
  rw [h]
  rfl

end Values

end Cert.Proof.Moe.Gate

end
-- ==== Proof.Moe.GateArrays.lean ====
/-
  The gate call's results and its arguments, as whole arrays.
-/
module

public import proofs.«01_k».proof.Proof.Moe.GateMask

@[expose] public section

set_option maxRecDepth 16384

noncomputable section

namespace Cert.Proof.Moe.Gate

open Cert.GateIdeal Cert.GateIdeal.Gen
open Idealize.ShloMosaic Idealize.ShloMosaic.TcCoe
open scoped BigOperators

variable (m : (ℓ : Loc nD τ sig) → Buf (Elt Ideal) ℓ) (c : Dev nD)

/-- The call's only point. -/
def only : Fin cfg0.N := ⟨0, by decide⟩

theorem emb_0 (t : Fin 2048) (k : Fin 768) : ((cfg0.win 0).blk only).view.emb (ix2 t k : S2048x768.Idx) = (ix2 t k : S2048x768.Idx) := by
  refine funext fun (a : Fin 2) => Fin.ext ?_
  refine ((cfg0.win 0).rect_emb_val only (ix2 t k : S2048x768.Idx) a).trans ?_
  match a with
  | 0 => show 0 * 2048 + t.val = t.val; omega
  | 1 => show 0 * 768 + k.val = k.val; omega

theorem in_0 (t : Fin 2048) (k : Fin 768) : (iblk m c 0 only : S2048x768.Idx → EReal) (ix2 t k) = (m ((c : Thread nD τ).loc main_arg0) : S2048x768.Idx → EReal) (ix2 t k) :=
  (congrArg (V m c main_arg0) (emb_0 t k)).trans (congrFun (V_main_arg0 m c) _)

theorem in_1 (e : Fin 23) (k : Fin 768) : (iblk m c 1 only : S23x768.Idx → EReal) (ix2 e k) = (m ((c : Thread nD τ).loc main_arg1) : S23x768.Idx → EReal) (ix2 e k) := by
  refine (congrArg (V m c main_arg1) (?_ : ((cfg0.win 1).blk only).view.emb (ix2 e k : S23x768.Idx) = (ix2 e k : S23x768.Idx))).trans (congrFun (V_main_arg1 m c) _)
  refine funext fun (a : Fin 2) => Fin.ext ?_
  refine ((cfg0.win 1).rect_emb_val only (ix2 e k : S23x768.Idx) a).trans ?_
  match a with
  | 0 => show 0 * 23 + e.val = e.val; omega
  | 1 => show 0 * 768 + k.val = k.val; omega

/-- The offsets reach the call as one row. -/
theorem V_row2 : V m c main_v0 = shapeCast S1x23 (m ((c : Thread nD τ).loc main_arg2)) shapeCasts_S23_S1x23 := by
  unfold V
  after_results_simp
  rfl

theorem V_row3 : V m c main_v1 = shapeCast S1x23 (m ((c : Thread nD τ).loc main_arg3)) shapeCasts_S23_S1x23 := by
  unfold V
  after_results_simp
  rfl

theorem row_at (x : S23.Idx → EReal) (e : Fin 23) : shapeCast S1x23 x shapeCasts_S23_S1x23 (ix2 0 e) = x (ix1 e) := by
  pointwise

theorem in_2 (e : Fin 23) : (iblk m c 2 only : S1x23.Idx → EReal) (ix2 0 e) = (m ((c : Thread nD τ).loc main_arg2) : S23.Idx → EReal) (ix1 e) := by
  refine (congrArg (V m c main_v0) (?_ : ((cfg0.win 2).blk only).view.emb (ix2 0 e : S1x23.Idx) = (ix2 0 e : S1x23.Idx))).trans ((congrFun (V_row2 m c) _).trans (row_at _ e))
  refine funext fun (a : Fin 2) => Fin.ext ?_
  refine ((cfg0.win 2).rect_emb_val only (ix2 0 e : S1x23.Idx) a).trans ?_
  match a with
  | 0 => rfl
  | 1 => show 0 * 23 + e.val = e.val; omega

theorem in_3 (e : Fin 23) : (iblk m c 3 only : S1x23.Idx → EReal) (ix2 0 e) = (m ((c : Thread nD τ).loc main_arg3) : S23.Idx → EReal) (ix1 e) := by
  refine (congrArg (V m c main_v1) (?_ : ((cfg0.win 3).blk only).view.emb (ix2 0 e : S1x23.Idx) = (ix2 0 e : S1x23.Idx))).trans ((congrFun (V_row3 m c) _).trans (row_at _ e))
  refine funext fun (a : Fin 2) => Fin.ext ?_
  refine ((cfg0.win 3).rect_emb_val only (ix2 0 e : S1x23.Idx) a).trans ?_
  match a with
  | 0 => rfl
  | 1 => show 0 * 23 + e.val = e.val; omega

theorem flush_4 : (cfg0.win 4).flush only = true := by decide +kernel

theorem flush_5 : (cfg0.win 5).flush only = true := by decide +kernel

theorem flush_6 : (cfg0.win 6).flush only = true := by decide +kernel

theorem flush_8 : (cfg0.win 8).flush only = true := by decide +kernel

theorem flush_7 : (cfg0.win 7).flush only = true := by decide +kernel

/-- The weights' array after the call. -/
theorem out_4 (t : Fin 2048) (k : Fin 3) : ((dats m 0 c).arrAt 4 cfg0.N : S2048x3.Idx → EReal) (ix2 t k) = out0_4 (F := Ideal) (iblk m c 0 only) (iblk m c 1 only) (iblk m c 2 only) (iblk m c 3 only) (ix2 t k) := by
  have h := congrFun ((Cert.GateIdeal.Value.blocks4 m c only flush_4).trans (Cert.GateIdeal.Value.flushed4 m c only)) (ix2 t k : S2048x3.Idx)
  refine Eq.trans ?_ h
  refine (congrArg ((dats m 0 c).arrAt 4 cfg0.N) (?_ : ((cfg0.win 4).blk only).view.emb (ix2 t k : S2048x3.Idx) = (ix2 t k : S2048x3.Idx))).symm
  refine funext fun (a : Fin 2) => Fin.ext ?_
  refine ((cfg0.win 4).rect_emb_val only (ix2 t k : S2048x3.Idx) a).trans ?_
  match a with
  | 0 => show 0 * 2048 + t.val = t.val; omega
  | 1 => show 0 * 3 + k.val = k.val; omega

/-- The balance term's array after the call. -/
theorem out_7 : ((dats m 0 c).arrAt 7 cfg0.N : S1x1.Idx → EReal) (ix2 0 0) = out0_7 (F := Ideal) (iblk m c 0 only) (iblk m c 1 only) (iblk m c 2 only) (iblk m c 3 only) (ix2 0 0) := by
  have h := congrFun ((Cert.GateIdeal.Value.blocks7 m c only flush_7).trans (Cert.GateIdeal.Value.flushed7 m c only)) (ix2 0 0 : S1x1.Idx)
  refine Eq.trans ?_ h
  refine (congrArg ((dats m 0 c).arrAt 7 cfg0.N) (?_ : ((cfg0.win 7).blk only).view.emb (ix2 0 0 : S1x1.Idx) = (ix2 0 0 : S1x1.Idx))).symm
  refine funext fun (a : Fin 2) => Fin.ext ?_
  refine ((cfg0.win 7).rect_emb_val only (ix2 0 0 : S1x1.Idx) a).trans ?_
  match a with
  | 0 => rfl
  | 1 => rfl

/-- The slots' array after the call. -/
theorem out_5 (t : Fin 2048) (k : Fin 3) : ((dats m 0 c).arrAt 5 cfg0.N : S2048x3.Idx → BitVec 32) (ix2 t k) = out0_5 (F := Ideal) (iblk m c 0 only) (iblk m c 1 only) (iblk m c 2 only) (iblk m c 3 only) (ix2 t k) := by
  have h := congrFun ((Cert.GateIdeal.Value.blocks5 m c only flush_5).trans (Cert.GateIdeal.Value.flushed5 m c only)) (ix2 t k : S2048x3.Idx)
  refine Eq.trans ?_ h
  refine (congrArg ((dats m 0 c).arrAt 5 cfg0.N) (?_ : ((cfg0.win 5).blk only).view.emb (ix2 t k : S2048x3.Idx) = (ix2 t k : S2048x3.Idx))).symm
  refine funext fun (a : Fin 2) => Fin.ext ?_
  refine ((cfg0.win 5).rect_emb_val only (ix2 t k : S2048x3.Idx) a).trans ?_
  match a with
  | 0 => show 0 * 2048 + t.val = t.val; omega
  | 1 => show 0 * 3 + k.val = k.val; omega

/-- The array of the tiles' experts after the call. -/
theorem out_6 (j : Fin 72) : ((dats m 0 c).arrAt 6 cfg0.N : S1x72.Idx → BitVec 32) (ix2 0 j) = out0_6 (F := Ideal) (iblk m c 0 only) (iblk m c 1 only) (iblk m c 2 only) (iblk m c 3 only) (ix2 0 j) := by
  have h := congrFun ((Cert.GateIdeal.Value.blocks6 m c only flush_6).trans (Cert.GateIdeal.Value.flushed6 m c only)) (ix2 0 j : S1x72.Idx)
  refine Eq.trans ?_ h
  refine (congrArg ((dats m 0 c).arrAt 6 cfg0.N) (?_ : ((cfg0.win 6).blk only).view.emb (ix2 0 j : S1x72.Idx) = (ix2 0 j : S1x72.Idx))).symm
  refine funext fun (a : Fin 2) => Fin.ext ?_
  refine ((cfg0.win 6).rect_emb_val only (ix2 0 j : S1x72.Idx) a).trans ?_
  match a with
  | 0 => rfl
  | 1 => show 0 * 72 + j.val = j.val; omega

/-- The array of the tokens' rows after the call. -/
theorem out_8 (t : Fin 2048) (k : Fin 768) : ((dats m 0 c).arrAt 8 cfg0.N : S2048x768.Idx → EReal) (ix2 t k) = out0_8 (F := Ideal) (iblk m c 0 only) (iblk m c 1 only) (iblk m c 2 only) (iblk m c 3 only) (ix2 t k) := by
  have h := congrFun ((Cert.GateIdeal.Value.blocks8 m c only flush_8).trans (Cert.GateIdeal.Value.flushed8 m c only)) (ix2 t k : S2048x768.Idx)
  refine Eq.trans ?_ h
  refine (congrArg ((dats m 0 c).arrAt 8 cfg0.N) (?_ : ((cfg0.win 8).blk only).view.emb (ix2 t k : S2048x768.Idx) = (ix2 t k : S2048x768.Idx))).symm
  refine funext fun (a : Fin 2) => Fin.ext ?_
  refine ((cfg0.win 8).rect_emb_val only (ix2 t k : S2048x768.Idx) a).trans ?_
  match a with
  | 0 => show 0 * 2048 + t.val = t.val; omega
  | 1 => show 0 * 768 + k.val = k.val; omega

end Cert.Proof.Moe.Gate

end
-- ==== Proof.Moe.GateRef.lean ====
/-
  The gate's reference at an entry: the experts it chooses, their weights, and how often an expert is chosen.
-/
module

public import proofs.«01_k».proof.Proof.Moe.GateMask
public import proofs.«01_k».proof.Proof.Gen.GateReferenceIdeal.Run
public import Idealize.ShloMosaic.Lib.Pointwise
public import Idealize.ShloMosaic.Lib.IdealHost
public import Idealize.ShloMosaic.Lib.StableHlo.Predicate
public import Idealize.ShloMosaic.Lib.Routing.Ops

@[expose] public section

set_option maxRecDepth 16384

noncomputable section

namespace Cert.Proof.Moe.Gate

open Cert.GateReferenceIdeal Cert.GateReferenceIdeal.Gen
open Idealize.ShloMosaic
open scoped BigOperators

section Parts

variable (a0 : FVec Ideal S2048x768 .f32) (a1 : FVec Ideal S23x768 .f32) (a2 a3 : FVec Ideal S23 .f32)

/-- The experts' weights, all tokens. -/
def rW : FVec Ideal S2048x23 .f32 :=
  Host.divf (broadcastInDim S2048x23 ![] bcast_S_S2048x23 (constant S_ .f32 0x3F800000#32)) (addf (broadcastInDim S2048x23 ![] bcast_S_S2048x23 (constant S_ .f32 0x3F800000#32)) (Host.exp (Host.negf (addf (Host.dotGeneral dot_S2048x768_S768x23_S2048x23_1_0_0_1_n_n none a0 (transpose S768x23 [1, 0] a1 transposes_S23x768_S768x23_1_0)) (broadcastInDim S2048x23 ![0, 1] bcast_S1x23_S2048x23_0_1 (broadcastInDim S1x23 ![1] bcast_S23_S1x23_1 a2))))))

/-- What the experts are chosen by. -/
def rS : FVec Ideal S2048x23 .f32 :=
  addf (rW a0 a1 a2) (broadcastInDim S2048x23 ![0, 1] bcast_S1x23_S2048x23_0_1 (broadcastInDim S1x23 ![1] bcast_S23_S1x23_1 a3))

/-- The experts chosen. -/
def rI (v : FVec Ideal S2048x23 .f32) : IVec S2048x3 32 := (Host.topK S2048x3 1 (FloatOps.cmpfTotal .gt) v sliceFits_S2048x23_S2048x3).2

variable (g : FVec Ideal S2048x23 .f32) (I : IVec S2048x3 32)

/-- Their numbers as an index array, negative ones counted from the end. -/
def wrapped : IVec S2048x3x1 32 :=
  shapeCast _ (select (cmpi .slt I (broadcastInDim S2048x3 ![] bcast_S_S2048x3 (constantI S_ 32 0#32))) (addi I (broadcastInDim S2048x3 ![] bcast_S_S2048x3 (constantI S_ 32 23#32))) I) shapeCasts_S2048x3_S2048x3x1

/-- The chosen experts' weights. -/
def taken : FVec Ideal S2048x3 .f32 :=
  select (Host.reduce IntOp.andi (andi (cmpi .sge (wrapped I) (broadcastInDim S2048x3x1 ![] bcast_S_S2048x3x1 (constantI S_ 32 0#32)))
      (cmpi .sle (wrapped I) (broadcastInDim S2048x3x1 ![0, 1, 2] bcast_S1x1x1_S2048x3x1_0_1_2 (broadcastInDim S1x1x1 ![2] bcast_S1_S1x1x1_2 (constantI S1 32 22#32)))))
      (constantI S_ 1 1#1) reducesTo_S2048x3x1_S2048x3_d2 h_S_)
    (Host.gather gather_S2048x23_S2048x3x1_S2048x3_n_1_0_0_1_2_11 g (wrapped I)) (broadcastInDim S2048x3 ![] bcast_S_S2048x3 (constant S_ .f32 0x7FC00000#32))

/-- The chosen weights over their sum. -/
def normed (v : FVec Ideal S2048x3 .f32) : FVec Ideal S2048x3 .f32 :=
  Host.divf v (broadcastInDim S2048x3 ![0, 1] bcast_S2048x1_S2048x3_0_1 (broadcastInDim S2048x1 ![0] bcast_S2048_S2048x1_0 (Host.reduceAdd v (constant S_ .f32 0x00000000#32) reducesTo_S2048x3_S2048_d1 h_S_)))

/-- The choices of all tokens in one row, as the counting takes them. -/
def clipped : IVec S6144 32 := maxsi (broadcastInDim S6144 ![] bcast_S_S6144 (id (constantI S_ 32 0#32))) (shapeCast _ I shapeCasts_S2048x3_S6144)

/-- The same as an index array. -/
def listed : IVec S6144x1 32 :=
  broadcastInDim S6144x1 ![0] bcast_S6144_S6144x1_0 (select (cmpi .slt (clipped I) (broadcastInDim S6144 ![] bcast_S_S6144 (constantI S_ 32 0#32)))
    (addi (clipped I) (broadcastInDim S6144 ![] bcast_S_S6144 (constantI S_ 32 23#32))) (clipped I))

/-- How often an expert is chosen. -/
def counted : IVec S23 32 :=
  Host.scatter scatter_S23_S6144x1_S6144_n_0_0_1 IntOp.addi (broadcastInDim S23 ![] bcast_S_S23 (constantI S_ 32 0#32)) (listed I)
    (broadcastInDim S6144 ![] bcast_S_S6144 (constantI S_ 32 1#32))

/-- The balance term: over the experts, the mean share of the weight times the share of the choices. -/
def balanced (n : IVec S23 32) : FVec Ideal S1x1 .f32 :=
  shapeCast _ (Host.reduceAdd (mulf (Host.divf (Host.reduceAdd (Host.divf g (broadcastInDim S2048x23 ![0, 1] bcast_S2048x1_S2048x23_0_1 (broadcastInDim S2048x1 ![0] bcast_S2048_S2048x1_0 (Host.reduceAdd g (constant S_ .f32 0x00000000#32) reducesTo_S2048x23_S2048_d1 h_S_)))) (constant S_ .f32 0x00000000#32) reducesTo_S2048x23_S23_d0 h_S_) (broadcastInDim S23 ![] bcast_S_S23 (constant S_ .f32 0x45000000#32))) (Host.divf (mulf (broadcastInDim S23 ![] bcast_S_S23 (constant S_ .f32 0x41B80000#32)) (sitofp .f32 n)) (broadcastInDim S23 ![] bcast_S_S23 (constant S_ .f32 0x45C00000#32)))) (constant S_ .f32 0x00000000#32) reducesTo_S23_S_d0 h_S_) shapeCasts_S_S1x1

end Parts

open Cert.GateReferenceIdeal.Value in
theorem top_parts (m : (ℓ : Loc nD τ sig) → Buf (Elt Ideal) ℓ) (c : Dev nD) :
    res_out0 m c = normed (taken (rW (m (c, Proc.devRef .tc main_arg0)) (m (c, Proc.devRef .tc main_arg1)) (m (c, Proc.devRef .tc main_arg2))) (rI (rS (m (c, Proc.devRef .tc main_arg0)) (m (c, Proc.devRef .tc main_arg1)) (m (c, Proc.devRef .tc main_arg2)) (m (c, Proc.devRef .tc main_arg3))))) := rfl

open Cert.GateReferenceIdeal.Value in
theorem aux_parts (m : (ℓ : Loc nD τ sig) → Buf (Elt Ideal) ℓ) (c : Dev nD) :
    res_out3 m c = balanced (rW (m (c, Proc.devRef .tc main_arg0)) (m (c, Proc.devRef .tc main_arg1)) (m (c, Proc.devRef .tc main_arg2))) (counted (rI (rS (m (c, Proc.devRef .tc main_arg0)) (m (c, Proc.devRef .tc main_arg1)) (m (c, Proc.devRef .tc main_arg2)) (m (c, Proc.devRef .tc main_arg3))))) := rfl

theorem rW_at (a0 : FVec Ideal S2048x768 .f32) (a1 : FVec Ideal S23x768 .f32) (a2 : FVec Ideal S23 .f32) (t : Fin 2048) (e : Fin 23) :
    rW a0 a1 a2 (ix2 t e) = Ideal.logistic ((∑ k : Fin 768, (a0 (ix2 t k) : EReal) * a1 (ix2 e k)) + a2 (ix1 e)) := by
  pointwise [rW]
  rfl

theorem rS_at (a0 : FVec Ideal S2048x768 .f32) (a1 : FVec Ideal S23x768 .f32) (a2 a3 : FVec Ideal S23 .f32) (t : Fin 2048) (e : Fin 23) :
    rS a0 a1 a2 a3 (ix2 t e) = (rW a0 a1 a2 (ix2 t e) : EReal) + a3 (ix1 e) := by
  pointwise [rS]

theorem normed_at (v : FVec Ideal S2048x3 .f32) (t : Fin 2048) (k : Fin 3) :
    normed v (ix2 t k) = Ideal.div (v (ix2 t k)) (∑ j : Fin 3, (v (ix2 t j) : EReal)) := by
  pointwise [normed]

theorem balanced_at (g : FVec Ideal S2048x23 .f32) (n : IVec S23 32) :
    balanced g n (ix2 0 0) = balance (fun t e => g (ix2 t e)) fun e => (FloatOps.sitofp .f32 (n (ix1 e)) : Ideal .f32) := by
  pointwise [balanced]
  rfl

/-- A sort of pairs by a comparison, its second list at an index. -/
theorem sorted_snd (s : Shape) (d : ℕ) (hd : d < s.rank) {α β : Type} (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem along_self (j : S2048x23.Idx) (p : Fin 23) : (j.along 1 p) 1 = p := rfl

/-- The experts chosen are the three the positions name, where every value lies above the struck one. -/
theorem rI_at (v : FVec Ideal S2048x23 .f32) (t : Fin 2048) (k : Fin 3) (c : EReal) (hc : ∀ e : Fin 23, c < v (ix2 t e)) :
    rI v (ix2 t k) = BitVec.ofNat 32 (sel c (fun e => v (ix2 t e)) k).val := by
  unfold rI Host.topK
  pointwise
  rw [← sorted_sel (c := c) (s := fun e => v (ix2 t e)) hc k]
  have ha : ∀ e : Fin 23, (ix2 t (⟨k.val, by omega⟩ : Fin 23) : S2048x23.Idx).along 1 e = ix2 t e := fun e => by
    funext a
    match a with
    | ⟨0, _⟩ => rfl
    | ⟨1, _⟩ => rfl
  have hd : ∀ i j : Fin 23, (FloatOps.cmpfTotal .gt (v (ix2 t i)) (v (ix2 t j)) == 1#1) = decide ((v (ix2 t j) : EReal) < v (ix2 t i)) := fun i j => by
    show (BitVec.ofBool (decide ((v (ix2 t j) : EReal) < v (ix2 t i))) == 1#1) = _
    cases decide ((v (ix2 t j) : EReal) < v (ix2 t i)) <;> rfl
  rw [sorted_snd _ _ (by decide)]
  refine (congrArg (fun p : Fin 23 => BitVec.ofNat 32 p.val) (along_self _ _)).trans ?_
  refine congrArg (fun p : Fin 23 => BitVec.ofNat 32 p.val) ?_
  refine (congrArg (fun b => sortedFrom b _) (funext fun i => funext fun j => ?_)).trans rfl
  exact (congrArg (· == 1#1) (congrArg₂ (fun a b : Ideal .f32 => FloatOps.cmpfTotal .gt a b) (congrArg v (ha i)) (congrArg v (ha j)))).trans (hd i j)

section Chosen

variable (g : FVec Ideal S2048x23 .f32) (I : IVec S2048x3 32) (σ : Fin 2048 → Fin 3 → Fin 23) (hI : ∀ t k, I (ix2 t k) = BitVec.ofNat 32 (σ t k).val)

theorem wrap_small : ∀ p : Fin 23, Scalar.select (IntOp.cmpi .slt (BitVec.ofNat 32 p.val) 0#32) (IntOp.addi (BitVec.ofNat 32 p.val) 23#32) (BitVec.ofNat 32 p.val) = BitVec.ofNat 32 p.val := by
  decide

theorem range_small : ∀ p : Fin 23, IntOp.andi (IntOp.andi (IntOp.cmpi .sge (BitVec.ofNat 32 p.val) 0#32) (IntOp.cmpi .sle (BitVec.ofNat 32 p.val) 22#32)) 1#1 = 1#1 := by
  decide

theorem clip_small : ∀ p : Fin 23, IntOp.maxsi 0#32 (BitVec.ofNat 32 p.val) = BitVec.ofNat 32 p.val := by
  decide

theorem toInt_small : ∀ p : Fin 23, (BitVec.ofNat 32 p.val).toInt = (p.val : ℤ) := by
  decide

include hI in
theorem wrapped_at (t : Fin 2048) (k : Fin 3) (o : Fin 1) : wrapped I (ix3 t k o) = BitVec.ofNat 32 (σ t k).val := by
  pointwise [wrapped]
  rw [hI]
  exact wrap_small _

/-- How the weights are gathered. -/
abbrev D : GatherDims S2048x23 S2048x3x1 S2048x3 := gather_S2048x23_S2048x3x1_S2048x3_n_1_0_0_1_2_11

/-- A token's weight gathered at an expert's number. -/
theorem gather_at (w : IVec S2048x3x1 32) (t : Fin 2048) (k : Fin 3) (p : Fin 23) (hw : w (ix3 t k (0 : Fin 1)) = BitVec.ofNat 32 p.val) :
    Host.gather gather_S2048x23_S2048x3x1_S2048x3_n_1_0_0_1_2_11 g w (ix2 t k) = g (ix2 t p) := by
  unfold Host.gather
  have h0 : GatherDims.start D (ix2 t k) w 0 + D.batchCoord (ix2 t k) 0 + D.offCoord (ix2 t k) 0 = t.val := by
    rw [D.start_batching _ _ _ (List.mem_singleton.2 rfl), D.offCoord_eq_zero _ _ fun h => ((D.mem_sKept _).1 h).2 (List.mem_singleton.2 rfl)]
    simp only [Nat.zero_add, Nat.add_zero]
    unfold GatherDims.batchCoord
    have hm : (0 : Fin 2) ∈ D.operandBatchingDims := List.mem_singleton.2 rfl
    rw [dif_pos hm]
    rfl
  have h1 : GatherDims.start D (ix2 t k) w 1 + D.batchCoord (ix2 t k) 1 + D.offCoord (ix2 t k) 1 = p.val := by
    have hm : (1 : Fin 2) ∈ D.startIndexMap := List.mem_singleton.2 rfl
    rw [D.batchCoord_eq_zero _ _ (show (1 : Fin 2) ∉ ([0] : List (Fin 2)) by decide), D.offCoord_eq_zero _ _ fun h => ((D.mem_sKept _).1 h).1 (List.mem_singleton.2 rfl)]
    simp only [Nat.add_zero]
    unfold GatherDims.start
    rw [dif_pos hm]
    have hsi : D.siIdx (ix2 t k) ⟨D.startIndexMap.idxOf (1 : Fin 2), List.idxOf_lt_length_iff.2 hm⟩ = ix3 t k (0 : Fin 1) := by
      funext b
      apply Fin.ext
      match b with
      | ⟨0, _⟩ => rfl
      | ⟨1, _⟩ => rfl
      | ⟨2, _⟩ => rfl
    rw [hsi, hw, toInt_small]
    show min p.val 22 = p.val
    omega
  refine congrArg g (funext fun a => Fin.ext ?_)
  match a with
  | ⟨0, _⟩ => exact h0
  | ⟨1, _⟩ => exact h1

include hI in
theorem taken_at (t : Fin 2048) (k : Fin 3) : taken g I (ix2 t k) = g (ix2 t (σ t k)) := by
  pointwise [taken]
  simp only [wrapped_at I σ hI]
  rw [gather_at g _ t k (σ t k) (wrapped_at I σ hI t k 0)]
  rw [show (Finset.univ : Finset (Fin 1)) = {0} from rfl, Finset.fold_singleton, range_small]
  rfl

include hI in
theorem listed_at (t : Fin 2048) (k : Fin 3) (n : Fin 6144) (hn : n.val = 3 * t.val + k.val) : listed I (ix2 n (0 : Fin 1)) = BitVec.ofNat 32 (σ t k).val := by
  pointwise [listed, clipped]
  have h1 : (⟨n.val / 3, by omega⟩ : Fin 2048) = t := Fin.ext (by show n.val / 3 = t.val; omega)
  have h2 : (⟨n.val % 3, by omega⟩ : Fin 3) = k := Fin.ext (by show n.val % 3 = k.val; omega)
  rw [h1, h2, hI]
  show Scalar.select (IntOp.cmpi .slt (IntOp.maxsi 0#32 (BitVec.ofNat 32 (σ t k).val)) 0#32) (IntOp.addi (IntOp.maxsi 0#32 (BitVec.ofNat 32 (σ t k).val)) 23#32) (IntOp.maxsi 0#32 (BitVec.ofNat 32 (σ t k).val)) = _
  rw [clip_small]
  exact wrap_small _

end Chosen

/-- A choice counts for the expert its number names. -/
theorem lands (w : IVec S6144x1 32) (n : Fin 6144) (x : Fin 23) :
    scatter_S23_S6144x1_S6144_n_0_0_1.resultIdx? (ix1 n) w = some (ix1 x) ↔ (w (ix2 n (0 : Fin 1))).toInt = (x.val : ℤ) := by
  have hm : (0 : Fin 1) ∈ scatter_S23_S6144x1_S6144_n_0_0_1.scatterDimsToOperandDims := List.mem_singleton.2 rfl
  have hw : scatter_S23_S6144x1_S6144_n_0_0_1.window (ix1 n) 0 = 0 := rfl
  have hs : scatter_S23_S6144x1_S6144_n_0_0_1.start (ix1 n) w 0 = (w (ix2 n (0 : Fin 1))).toInt := by
    unfold ScatterDims.start
    rw [dif_pos hm]
    refine congrArg (fun j => (w j).toInt) (funext fun b => Fin.ext ?_)
    match b with
    | ⟨0, _⟩ => rfl
    | ⟨1, _⟩ => rfl
  have hx := x.isLt
  unfold ScatterDims.resultIdx?
  split
  · next h =>
    have h0 := h 0
    rw [hs, hw] at h0
    change 0 ≤ _ + ((0 : ℕ) : ℤ) ∧ _ + ((0 : ℕ) : ℤ) < ((23 : ℕ) : ℤ) at h0
    have key : ∀ a : Fin 1, (scatter_S23_S6144x1_S6144_n_0_0_1.start (ix1 n) w a + (scatter_S23_S6144x1_S6144_n_0_0_1.window (ix1 n) a : ℤ)).toNat = (w (ix2 n (0 : Fin 1))).toInt.toNat := fun a => by
      obtain rfl : a = 0 := Subsingleton.elim _ _
      rw [hs, hw]
      exact congrArg Int.toNat (Int.add_zero _)
    constructor
    · intro e
      have e0 : (scatter_S23_S6144x1_S6144_n_0_0_1.start (ix1 n) w 0 + (scatter_S23_S6144x1_S6144_n_0_0_1.window (ix1 n) 0 : ℤ)).toNat = x.val :=
        congrArg Fin.val (congrFun (Option.some.inj e) 0)
      rw [key] at e0
      omega
    · intro e
      refine congrArg some (funext fun a => Fin.ext ?_)
      refine (key a).trans ?_
      obtain rfl : a = 0 := Subsingleton.elim _ _
      show _ = x.val
      omega
  · next h =>
    refine ⟨fun e => (nomatch e), fun e => (h fun a => ?_).elim⟩
    obtain rfl : a = 0 := Subsingleton.elim _ _
    rw [hs, hw]
    show 0 ≤ _ + ((0 : ℕ) : ℤ) ∧ _ + ((0 : ℕ) : ℤ) < ((23 : ℕ) : ℤ)
    omega

theorem countP_sum {α : Type} (p : α → Bool) (l : List α) : l.countP p = (l.map fun a => if p a then 1 else 0).sum := by
  induction l with
  | nil => rfl
  | cons a l ih =>
    rw [List.countP_cons, List.map_cons, List.sum_cons, ih, Nat.add_comm]

/-- The number of choices of an expert, as a word. -/
theorem counted_word (I : IVec S2048x3 32) (e : Fin 23) :
    counted I (ix1 e) = BitVec.ofNat 32 (∑ n : Fin 6144, if (listed I (ix2 n (0 : Fin 1))).toInt = (e.val : ℤ) then 1 else 0) := by
  unfold counted Host.scatter
  refine (Routing.foldl_count _ (ix1 e) (fun n => decide ((listed I (ix2 (n.cast (Routing.numel1 6144)) (0 : Fin 1))).toInt = (e.val : ℤ))) ?_ _ _ 0 rfl).trans ?_
  · intro r n
    have hl := lands (listed I) (n.cast (Routing.numel1 6144)) e
    rw [show S6144.rowMajor.symm n = ix1 (n.cast (Routing.numel1 6144)) from Routing.symm1 n]
    simp only [decide_eq_true_eq, ← hl]
    generalize scatter_S23_S6144x1_S6144_n_0_0_1.resultIdx? (ix1 (n.cast (Routing.numel1 6144))) (listed I) = o
    rcases o with _ | i
    · rfl
    · by_cases hi : ix1 e = i
      · subst hi
        exact (if_pos rfl).trans (if_pos rfl).symm
      · exact (if_neg hi).trans (if_neg fun h' => hi (Option.some.inj h').symm).symm
  · rw [Nat.zero_add, countP_sum]
    refine congrArg (BitVec.ofNat 32) ?_
    simp only [decide_eq_true_eq]
    exact (Fin.sum_univ_def (n := 6144) fun n : Fin 6144 => if (listed I (ix2 n (0 : Fin 1))).toInt = (e.val : ℤ) then 1 else 0).symm

/-- The number of choices of an expert: over the tokens and their three choices. -/
theorem counted_at (I : IVec S2048x3 32) (σ : Fin 2048 → Fin 3 → Fin 23) (hI : ∀ t k, I (ix2 t k) = BitVec.ofNat 32 (σ t k).val) (e : Fin 23) :
    (FloatOps.sitofp .f32 (counted I (ix1 e)) : Ideal .f32) = ∑ t : Fin 2048, ∑ k : Fin 3, one (e = σ t k) := by
  have hsum : (∑ n : Fin 6144, if (listed I (ix2 n (0 : Fin 1))).toInt = (e.val : ℤ) then 1 else 0) = ∑ t : Fin 2048, ∑ k : Fin 3, if e = σ t k then 1 else 0 := by
    rw [← Fintype.sum_prod_type']
    refine (Equiv.sum_comp (finProdFinEquiv.trans (finCongr (by norm_num : 2048 * 3 = 6144))) _).symm.trans (Finset.sum_congr rfl fun q _ => ?_)
    obtain ⟨t, k⟩ := q
    rw [listed_at I σ hI t k _ (by show k.val + 3 * t.val = _; omega), toInt_small]
    refine if_congr ⟨fun h => Fin.ext (by exact_mod_cast h.symm), fun h => ?_⟩ rfl rfl
    rw [h]
  rw [counted_word, hsum]
  have hle : (∑ t : Fin 2048, ∑ k : Fin 3, if e = σ t k then 1 else 0) ≤ 6144 := by
    refine (Finset.sum_le_sum fun t _ => Finset.sum_le_sum fun k _ => (by split <;> omega : (if e = σ t k then 1 else 0) ≤ 1)).trans ?_
    simp
  show (((BitVec.ofNat 32 (∑ t : Fin 2048, ∑ k : Fin 3, if e = σ t k then 1 else 0)).toInt : ℝ) : EReal) = _
  rw [StableHlo.Predicate.toInt_ofNat_small _ (by omega)]
  show (((∑ t : Fin 2048, ∑ k : Fin 3, if e = σ t k then 1 else 0 : ℕ) : ℝ) : EReal) = _
  rw [EReal.coe_natCast, Nat.cast_sum]
  refine Finset.sum_congr rfl fun t _ => ?_
  rw [Nat.cast_sum]
  refine Finset.sum_congr rfl fun k _ => ?_
  unfold one
  split <;> simp

end Cert.Proof.Moe.Gate

end
-- ==== Proof.Moe.GateCount.lean ====
/-
  Counting with zeros and ones over the extended reals: sums up to a bound, tiles of a load, and whole numbers as words.
-/
module

public import proofs.«01_k».proof.Proof.Moe.GateMask

@[expose] public section

set_option maxRecDepth 16384

noncomputable section

namespace Cert.Proof.Moe.Gate

open Idealize.ShloMosaic
open scoped BigOperators

theorem one_mul_eq (p : Prop) [Decidable p] (x : EReal) : one p * x = if p then x else 0 := by
  unfold one
  split
  · exact one_mul x
  · exact zero_mul x

theorem mul_one_eq (p : Prop) [Decidable p] (x : EReal) : x * one p = if p then x else 0 := by
  rw [mul_comm, one_mul_eq]

theorem truth (p : Prop) [Decidable p] : BitVec.ofBool (decide p) = if p then 1#1 else 0#1 := by
  by_cases h : p <;> simp [h]

theorem sgt_one {a b : ℕ} (ha : a < 2 ^ 31) (hb : b < 2 ^ 31) :
    (FloatOps.sitofp .f32 (BitVec.setWidth 32 (IntOp.cmpi .sgt (BitVec.ofNat 32 a) (BitVec.ofNat 32 b))) : Ideal .f32) = one (b < a) := by
  rw [WordCmp.cmpi_sgt_ofNat ha hb, truth, mask_one]

theorem slt_one {a b : ℕ} (ha : a < 2 ^ 31) (hb : b < 2 ^ 31) :
    (FloatOps.sitofp .f32 (BitVec.setWidth 32 (IntOp.cmpi .slt (BitVec.ofNat 32 a) (BitVec.ofNat 32 b))) : Ideal .f32) = one (a < b) := by
  rw [WordCmp.cmpi_slt_ofNat ha hb, truth, mask_one]

theorem sle_one {a b : ℕ} (ha : a < 2 ^ 31) (hb : b < 2 ^ 31) :
    (FloatOps.sitofp .f32 (BitVec.setWidth 32 (IntOp.cmpi .sle (BitVec.ofNat 32 a) (BitVec.ofNat 32 b))) : Ideal .f32) = one (a ≤ b) := by
  rw [WordCmp.cmpi_sle_ofNat ha hb, truth, mask_one]

/-- A bit read as a number. -/
theorem bit_one (p : Prop) [Decidable p] : (FloatOps.uitofp .f32 (if p then 1#1 else 0#1) : Ideal .f32) = one p := by
  unfold one
  by_cases h : p
  · rw [if_pos h, if_pos h]
    exact (congrArg (fun z : ℕ => ((z : ℝ) : EReal)) (by decide : (1#1).toNat = 1)).trans (by simp)
  · rw [if_neg h, if_neg h]
    exact (congrArg (fun z : ℕ => ((z : ℝ) : EReal)) (by decide : (0#1).toNat = 0)).trans (by simp)

theorem bit_sgt {a b : ℕ} (ha : a < 2 ^ 31) (hb : b < 2 ^ 31) :
    (FloatOps.uitofp .f32 (IntOp.cmpi .sgt (BitVec.ofNat 32 a) (BitVec.ofNat 32 b)) : Ideal .f32) = one (b < a) := by
  rw [WordCmp.cmpi_sgt_ofNat ha hb, truth, bit_one]

theorem bit_eq (a b : Fin 23) :
    (FloatOps.uitofp .f32 (IntOp.cmpi .eq (BitVec.ofNat 32 a.val) (BitVec.ofNat 32 b.val)) : Ideal .f32) = one (b = a) := by
  rw [← bit_one]
  congr 1
  revert a b
  decide

/-- A sum weighted by being below a bound is the sum up to the bound. -/
theorem sum_below (n r : ℕ) (hr : r ≤ n) (f : ℕ → EReal) : ∑ x : Fin n, one (x.val < r) * f x.val = ∑ i ∈ Finset.range r, f i := by
  rw [Fin.sum_univ_eq_sum_range (fun i => one (i < r) * f i) n]
  refine (Finset.sum_subset (Finset.range_subset_range.mpr hr) fun x _ hx => ?_).symm.trans (Finset.sum_congr rfl fun x hx => ?_)
  · rw [one_mul_eq, if_neg fun h => hx (Finset.mem_range.mpr h)]
  · rw [one_mul_eq, if_pos (Finset.mem_range.mp hx)]

/-- One block of 256 further. -/
theorem sum_block (a r : ℕ) (hr : r ≤ 256) (f : ℕ → EReal) (c : EReal) (hc : c = ∑ i ∈ Finset.range a, f i) :
    (∑ x : Fin 256, one (x.val < r) * f (a + x.val)) + c = ∑ i ∈ Finset.range (a + r), f i := by
  rw [sum_below 256 r hr (fun i => f (a + i)), Finset.sum_range_add, hc, add_comm]

theorem carry_block (a : ℕ) (f : ℕ → EReal) (c : EReal) (hc : c = ∑ i ∈ Finset.range a, f i) :
    c + ∑ x : Fin 256, f (a + x.val) = ∑ i ∈ Finset.range (a + 256), f i := by
  rw [Fin.sum_univ_eq_sum_range (fun i => f (a + i)) 256, Finset.sum_range_add, hc]

/-! ## Loads and tiles -/

theorem word_128 : Ideal.ofBits .f32 0x43000000#32 = ((128 : ℝ) : EReal) := by
  simp [Ideal.ofBits, Ideal.ieee, -EReal.coe_mul]
  norm_num

theorem word_127 : Ideal.ofBits .f32 0x42FE0000#32 = ((127 : ℝ) : EReal) := by
  simp [Ideal.ofBits, Ideal.ieee, -EReal.coe_mul]
  norm_num

theorem div_128 (r : ℝ) : Ideal.div (r : EReal) (Ideal.ofBits .f32 0x43000000#32) = ((r / 128 : ℝ) : EReal) := by
  rw [word_128, Ideal.div_coe (by norm_num), ← EReal.coe_mul]
  congr 1
  ring

/-- How often an expert is chosen. -/
def load (σ : Fin 2048 → Fin 3 → Fin 23) (e : Fin 23) : ℕ := ∑ t : Fin 2048, ∑ k : Fin 3, if e = σ t k then 1 else 0

/-- The tiles an expert's copies fill. -/
def tilesOf (σ : Fin 2048 → Fin 3 → Fin 23) (e : Fin 23) : ℕ := (load σ e + 127) / 128

/-- An expert's first tile. -/
def firstOf (σ : Fin 2048 → Fin 3 → Fin 23) (e : Fin 23) : ℕ := ∑ e' : Fin 23, if e'.val < e.val then tilesOf σ e' else 0

variable (σ : Fin 2048 → Fin 3 → Fin 23)

theorem load_le (e : Fin 23) : load σ e ≤ 6144 := by
  unfold load
  refine (Finset.sum_le_sum fun t _ => Finset.sum_le_sum fun k _ => (by split <;> omega : (if e = σ t k then 1 else 0) ≤ 1)).trans ?_
  simp

theorem first_le (e : Fin 23) : firstOf σ e ≤ 1127 := by
  unfold firstOf
  refine (Finset.sum_le_sum fun e' _ => (?_ : _ ≤ 49)).trans (by simp)
  have := load_le σ e'
  unfold tilesOf
  split <;> omega

/-- The number of copies of an expert, added up over the extended reals. -/
theorem load_sum (e : Fin 23) : ∑ t : Fin 2048, ∑ k : Fin 3, one (e = σ t k) = (((load σ e : ℕ) : ℝ) : EReal) := by
  unfold load
  rw [EReal.coe_natCast, Nat.cast_sum]
  refine Finset.sum_congr rfl fun t _ => ?_
  rw [Nat.cast_sum]
  refine Finset.sum_congr rfl fun k _ => ?_
  unfold one
  split <;> simp

theorem tiles_floor (n : ℕ) : Ideal.liftRound Int.floor (Ideal.div (((n : ℝ) : EReal) + Ideal.ofBits .f32 0x42FE0000#32) (Ideal.ofBits .f32 0x43000000#32))
    = ((((n + 127) / 128 : ℕ) : ℝ) : EReal) := by
  rw [word_127, ← EReal.coe_add, div_128, Ideal.liftRound_coe]
  have h : ⌊((n : ℝ) + 127) / 128⌋ = (((n + 127) / 128 : ℕ) : ℤ) := by
    rw [Int.floor_eq_iff]
    have h1 : (((n + 127) / 128 * 128 : ℕ) : ℝ) ≤ ((n + 127 : ℕ) : ℝ) := by exact_mod_cast Nat.div_mul_le_self _ _
    have h2 : ((n + 127 : ℕ) : ℝ) < (((n + 127) / 128 * 128 + 128 : ℕ) : ℝ) := by exact_mod_cast (by omega : n + 127 < (n + 127) / 128 * 128 + 128)
    generalize (n + 127) / 128 = q at h1 h2 ⊢
    push_cast at h1 h2 ⊢
    constructor <;> linarith
  rw [h, Int.cast_natCast]

theorem tiles_ceil (n : ℕ) : Ideal.liftRound Int.ceil (Ideal.div ((n : ℝ) : EReal) (Ideal.ofBits .f32 0x43000000#32)) = ((((n + 127) / 128 : ℕ) : ℝ) : EReal) := by
  rw [div_128, Ideal.liftRound_coe]
  have h : ⌈(n : ℝ) / 128⌉ = (((n + 127) / 128 : ℕ) : ℤ) := by
    rw [Int.ceil_eq_iff]
    have h1 : (((n + 127) / 128 * 128 : ℕ) : ℝ) < ((n + 128 : ℕ) : ℝ) := by exact_mod_cast (by omega : (n + 127) / 128 * 128 < n + 128)
    have h2 : ((n : ℕ) : ℝ) ≤ (((n + 127) / 128 * 128 : ℕ) : ℝ) := by exact_mod_cast (by omega : n ≤ (n + 127) / 128 * 128)
    generalize (n + 127) / 128 = q at h1 h2 ⊢
    push_cast at h1 h2 ⊢
    constructor <;> linarith
  rw [h, Int.cast_natCast]

theorem first_sum (e : Fin 23) : ∑ e' : Fin 23, one (e'.val < e.val) * (((tilesOf σ e' : ℕ) : ℝ) : EReal) = (((firstOf σ e : ℕ) : ℝ) : EReal) := by
  unfold firstOf
  rw [EReal.coe_natCast, Nat.cast_sum]
  refine Finset.sum_congr rfl fun e' _ => ?_
  rw [one_mul_eq]
  split <;> simp

/-- A whole number as a word. -/
theorem word_of (n : ℕ) (hn : n < 2 ^ 31) (x : Ideal .f32) (hx : x = ((n : ℝ) : EReal)) : FloatOps.fptosi 32 x = BitVec.ofNat 32 n := by
  show Ideal.fptosi 32 x = _
  rw [hx]
  rw [Ideal.fptosi, Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by
    norm_num at hn ⊢
    omega]
  exact BitVec.ofInt_natCast 32 n

end Cert.Proof.Moe.Gate

end
-- ==== Proof.Moe.GateSlots.lean ====
/-
  The gate's call: the slots of the tokens' copies, the experts of the tiles, and the tokens' rows passed on.
-/
module

public import proofs.«01_k».proof.Proof.Moe.GateCount

@[expose] public section

set_option maxRecDepth 16384

noncomputable section

namespace Cert.Proof.Moe.Gate

open Cert.GateIdeal Cert.GateIdeal.Gen
open Idealize.ShloMosaic
open scoped BigOperators

theorem tri_block (r : ℕ) (hr : r < 256) (g : Fin 256 → EReal) :
    ∑ x : Fin 256, (FloatOps.sitofp .f32 (BitVec.setWidth 32 (IntOp.cmpi .sgt (BitVec.ofNat 32 r) (BitVec.ofNat 32 x.val))) : Ideal .f32) * g x
      = ∑ x : Fin 256, one (x.val < r) * g x :=
  Finset.sum_congr rfl fun x _ => congrArg (fun a : EReal => a * g x) (sgt_one (by omega) (by omega))

/-- What the blocks of the tokens hold: each token's entry, the first two blocks' entries added up, and the first block's total. -/
structure Blocks (o : FVec Ideal S2048x23 .f32) (v80 v84 v87 : FVec Ideal S256x23 .f32) (v83 : FVec Ideal S1x23 .f32) (e : Fin 23) (f : ℕ → EReal) : Prop where
  entry : ∀ t : Fin 2048, o (ix2 t e) = f t.val
  fst : ∀ r : Fin 256, v80 (ix2 r e) = ∑ i ∈ Finset.range r.val, f i
  total : v83 (ix2 0 e) = ∑ x : Fin 256, f x.val
  next : ∀ r : Fin 256, v84 (ix2 r e) = f (256 + r.val)
  snd : ∀ r : Fin 256, v87 (ix2 r e) = ∑ i ∈ Finset.range (256 + r.val), f i

/-- The copies of the tokens before a token. -/
theorem before_at (o : FVec Ideal S2048x23 .f32) (v80 v84 v87 : FVec Ideal S256x23 .f32) (v83 : FVec Ideal S1x23 .f32) (e : Fin 23) (f : ℕ → EReal)
    (H : Blocks o v80 v84 v87 v83 e f) (t : Fin 2048) :
    k0_pay23 o (k0_pay16 (F := Ideal)) v80 v83 v84 v87 (ix2 t e) = ∑ i ∈ Finset.range t.val, f i := by
  generalize hn : (∑ i ∈ Finset.range t.val, f i) = n
  pointwise [k0_pay23, k0_pay16]
  subst hn
  obtain ⟨ho, h80, h83, h84, h87⟩ := H
  have c1 : ∑ x : Fin 256, f x.val = ∑ i ∈ Finset.range 256, f i := Fin.sum_univ_eq_sum_range f 256
  have c2 := carry_block 256 f _ c1
  have c3 := carry_block 512 f _ c2
  have c4 := carry_block 768 f _ c3
  have c5 := carry_block 1024 f _ c4
  have c6 := carry_block 1280 f _ c5
  have c7 := carry_block 1536 f _ c6
  have ht := t.isLt
  by_cases h0 : t.val < 256
  · exact (dif_pos h0).trans (h80 _)
  refine (dif_neg h0).trans ?_
  by_cases h1 : t.val - 256 < 256
  · exact (dif_pos h1).trans ((h87 _).trans (congrArg (fun n => ∑ i ∈ Finset.range n, f i) (by show 256 + (t.val - 256) = t.val; omega)))
  refine (dif_neg h1).trans ?_
  by_cases h2 : t.val - 256 - 256 < 256
  · refine (dif_pos h2).trans ?_
    simp only [ho, h83, h84]
    exact (congrArg (fun a : EReal => a + _) (tri_block _ h2 _)).trans ((sum_block 512 _ h2.le f _ c2).trans (congrArg (fun n => ∑ i ∈ Finset.range n, f i) (by omega)))
  refine (dif_neg h2).trans ?_
  by_cases h3 : t.val - 256 - 256 - 256 < 256
  · refine (dif_pos h3).trans ?_
    simp only [ho, h83, h84]
    exact (congrArg (fun a : EReal => a + _) (tri_block _ h3 _)).trans ((sum_block 768 _ h3.le f _ c3).trans (congrArg (fun n => ∑ i ∈ Finset.range n, f i) (by omega)))
  refine (dif_neg h3).trans ?_
  by_cases h4 : t.val - 256 - 256 - 256 - 256 < 256
  · refine (dif_pos h4).trans ?_
    simp only [ho, h83, h84]
    exact (congrArg (fun a : EReal => a + _) (tri_block _ h4 _)).trans ((sum_block 1024 _ h4.le f _ c4).trans (congrArg (fun n => ∑ i ∈ Finset.range n, f i) (by omega)))
  refine (dif_neg h4).trans ?_
  by_cases h5 : t.val - 256 - 256 - 256 - 256 - 256 < 256
  · refine (dif_pos h5).trans ?_
    simp only [ho, h83, h84]
    exact (congrArg (fun a : EReal => a + _) (tri_block _ h5 _)).trans ((sum_block 1280 _ h5.le f _ c5).trans (congrArg (fun n => ∑ i ∈ Finset.range n, f i) (by omega)))
  refine (dif_neg h5).trans ?_
  by_cases h6 : t.val - 256 - 256 - 256 - 256 - 256 - 256 < 256
  · refine (dif_pos h6).trans ?_
    simp only [ho, h83, h84]
    exact (congrArg (fun a : EReal => a + _) (tri_block _ h6 _)).trans ((sum_block 1536 _ h6.le f _ c6).trans (congrArg (fun n => ∑ i ∈ Finset.range n, f i) (by omega)))
  refine (dif_neg h6).trans ?_
  have h7 : t.val - 256 - 256 - 256 - 256 - 256 - 256 - 256 < 256 := by omega
  simp only [ho, h83, h84]
  exact (congrArg (fun a : EReal => a + _) (tri_block _ h7 _)).trans ((sum_block 1792 _ h7.le f _ c7).trans (congrArg (fun n => ∑ i ∈ Finset.range n, f i) (by omega)))

theorem before_call (v8 : IVec S2048x23 32) (v22 : IVec S2048x23 1) (v28 : FVec Ideal S2048x23 .f32) (v38 : IVec S2048x23 1) (e : Fin 23) (f : ℕ → EReal)
    (ho : ∀ t : Fin 2048, k0_pay14 v8 v22 v28 v38 (ix2 t e) = f t.val) (t : Fin 2048) :
    k0_pay23 (k0_pay14 v8 v22 v28 v38) (k0_pay16 (F := Ideal)) (k0_pay19 v8 v22 v28 v38) (k0_pay20 v8 v22 v28 v38) (k0_pay21 v8 v22 v28 v38) (k0_pay22 v8 v22 v28 v38)
      (ix2 t e) = ∑ i ∈ Finset.range t.val, f i := by
  have h83 : k0_pay20 v8 v22 v28 v38 (ix2 0 e) = ∑ x : Fin 256, f x.val := by
    pointwise [k0_pay20, k0_pay17, k0_pay18]
    exact Finset.sum_congr rfl fun x _ => ho _
  refine before_at _ _ _ _ _ e f ⟨ho, fun r => ?_, h83, fun r => ?_, fun r => ?_⟩ t
  · pointwise [k0_pay19, k0_pay16, k0_pay17, k0_pay18]
    simp only [ho]
    exact (tri_block r.val r.isLt fun x => f x.val).trans (sum_below 256 r.val r.isLt.le f)
  · pointwise [k0_pay21]
    exact ho _
  · pointwise [k0_pay22, k0_pay16, k0_pay21]
    simp only [ho, h83]
    exact (congrArg (fun a : EReal => a + _) (tri_block _ r.isLt _)).trans (sum_block 256 _ r.isLt.le f _ (Fin.sum_univ_eq_sum_range f 256))

/-- An expert's first slot. -/
theorem first_at (σ : Fin 2048 → Fin 3 → Fin 23) (v : FVec Ideal S1x23 .f32) (hv : ∀ e : Fin 23, v (ix2 0 e) = (((load σ e : ℕ) : ℝ) : EReal)) (e : Fin 23) :
    k0_pay25 (k0_pay24 v) (ix2 0 e) = ((128 : ℝ) : EReal) * (((firstOf σ e : ℕ) : ℝ) : EReal) := by
  pointwise [k0_pay25, k0_pay24]
  refine congrArg₂ (fun a b : EReal => a * b) word_128 ((Finset.sum_congr rfl fun e' _ => ?_).trans (first_sum σ e))
  refine (congrArg₂ (fun a b : EReal => a * b) ?_ (slt_one (by omega) (by omega))).trans (mul_comm _ _)
  rw [hv]
  exact tiles_floor _

/-- The experts of the tiles, from the first slots. -/
theorem begun_at (f : Fin 23 → ℕ) (hf : ∀ e, f e ≤ 1127) (v : FVec Ideal S1x23 .f32)
    (hv : ∀ e : Fin 23, v (ix2 0 e) = ((128 : ℝ) : EReal) * (((f e : ℕ) : ℝ) : EReal)) (j : Fin 72) :
    k0_pay32 v (ix2 0 j) = Ideal.fptosi 32 ((∑ e : Fin 23, one (f e ≤ j.val)) - 1) := by
  generalize hn : (∑ e : Fin 23, one (f e ≤ j.val)) = n
  pointwise [k0_pay32]
  rw [← hn]
  refine congrArg (fun a : EReal => Ideal.fptosi 32 (a - 1)) (Finset.sum_congr rfl fun e _ => ?_)
  have hf := hf e
  rw [word_of (f e) (by omega)]
  · exact sle_one (by omega) (by omega)
  · rw [hv, ← EReal.coe_mul, div_128]
    congr 1
    ring

theorem sum_sel (k : IVec S2048x23 1) (g : FVec Ideal S2048x23 .f32) (t : Fin 2048) (p : Fin 23) (hk : ∀ e, k (ix2 t e) = if e = p then 1#1 else 0#1) :
    ∑ e : Fin 23, (Scalar.select (k (ix2 t e)) (g (ix2 t e)) (0 : EReal) : EReal) = g (ix2 t p) := by
  rw [Finset.sum_eq_single p]
  · rw [hk, if_pos rfl]
    rfl
  · intro e _ he
    rw [hk, if_neg he]
    rfl
  · exact fun h => absurd (Finset.mem_univ p) h

/-- The three slots of a token's copies packed into one row. -/
theorem slots_pack (v22 v38 v54 : IVec S2048x23 1) (v : FVec Ideal S2048x23 .f32) (w : FVec Ideal S1x23 .f32) (t : Fin 2048) (σ : Fin 3 → Fin 23)
    (h0 : ∀ e, v22 (ix2 t e) = if e = σ 0 then 1#1 else 0#1) (h1 : ∀ e, v38 (ix2 t e) = if e = σ 1 then 1#1 else 0#1)
    (h2 : ∀ e, v54 (ix2 t e) = if e = σ 2 then 1#1 else 0#1) (k : Fin 3) :
    k0_pay31 v54 (k0_pay26 v w) (iota .tc S2048x3 32 [1] iota_S2048x3_d1_w32) (k0_pay27 v22 v w) (k0_pay28 v38 v w) 1#32 (ix2 t k)
      = Ideal.fptosi 32 (k0_pay26 v w (ix2 t (σ k))) := by
  pointwise [k0_pay31, k0_pay27, k0_pay28]
  have s0 := sum_sel v22 (k0_pay26 v w) t _ h0
  have s1 := sum_sel v38 (k0_pay26 v w) t _ h1
  have s2 := sum_sel v54 (k0_pay26 v w) t _ h2
  refine congrArg (fun a : EReal => Ideal.fptosi 32 a) ?_
  refine (congrArg₂ (fun a b : EReal => a + b) (congrArg₂ (fun a b : EReal => a + b) (congrArg (fun a : EReal => Scalar.select _ a 0) s0)
    (congrArg (fun a : EReal => Scalar.select _ a 0) s1)) (congrArg (fun a : EReal => Scalar.select _ a 0) s2)).trans ?_
  fin_cases k
  · show (_ : EReal) + 0 + 0 = _
    rw [add_zero, add_zero]
    rfl
  · show 0 + (_ : EReal) + 0 = _
    rw [add_zero, zero_add]
    rfl
  · show 0 + 0 + (_ : EReal) = _
    rw [add_zero, zero_add]
    rfl

theorem slot_sum (v : FVec Ideal S2048x23 .f32) (w : FVec Ideal S1x23 .f32) (t : Fin 2048) (e : Fin 23) :
    k0_pay26 v w (ix2 t e) = (v (ix2 t e) : EReal) + k0_pay25 w (ix2 0 e) := by
  pointwise [k0_pay26]

section Values

variable (x0 : Vec Ideal S2048x768 .f32) (x1 : Vec Ideal S23x768 .f32) (x2 x3 : Vec Ideal S1x23 .f32)

/-- The experts chosen, in the call. -/
abbrev ch (t : Fin 2048) (k : Fin 3) : Fin 23 := sel Struck (sk x0 x1 x2 x3 t) k

/-- The copies of a token an expert has. -/
def row (σ : Fin 2048 → Fin 3 → Fin 23) (e : Fin 23) (n : ℕ) : EReal := if h : n < 2048 then ∑ k : Fin 3, one (e = σ ⟨n, h⟩ k) else 0

theorem row_lt (σ : Fin 2048 → Fin 3 → Fin 23) (e : Fin 23) (t : Fin 2048) : row σ e t.val = ∑ k : Fin 3, one (e = σ t k) := dif_pos t.isLt

/-- The slot of a token's copy. -/
def slotOf (σ : Fin 2048 → Fin 3 → Fin 23) (t : Fin 2048) (e : Fin 23) : EReal :=
  (∑ i ∈ Finset.range t.val, row σ e i) + ((128 : ℝ) : EReal) * (((firstOf σ e : ℕ) : ℝ) : EReal)

theorem mask_row (t : Fin 2048) (e : Fin 23) :
    k0_pay14 (iota .tc S2048x23 32 [1] iota_S2048x23_d1_w32) (k0_pay5 (F := Ideal) x0 x1 x2 x3) (k0_pay7 (F := Ideal) x0 x1 x2 x3) (k0_pay8 (F := Ideal) x0 x1 x2 x3) (ix2 t e)
      = row (ch x0 x1 x2 x3) e t.val := by
  rw [row_lt]
  pointwise [k0_pay14]
  rw [mask0, mask1, mask2, mask_one, mask_one, mask_one, Fin.sum_univ_three]
  rfl

theorem out5_at (t : Fin 2048) (k : Fin 3) : out0_5 (F := Ideal) x0 x1 x2 x3 (ix2 t k)
    = Ideal.fptosi 32 (slotOf (ch x0 x1 x2 x3) t (ch x0 x1 x2 x3 t k)) := by
  unfold_out out0_5
  refine (congrFun (View.canon_unit_zero origin _ _) _).trans ?_
  rw [View.ld_unit_zero origin, View.ld_unit_zero origin, View.ld_unit_zero origin, View.ld_unit_zero origin]
  refine (slots_pack _ _ _ _ _ t (ch x0 x1 x2 x3 t) (mask0 x0 x1 x2 x3 t) (mask1 x0 x1 x2 x3 t) (mask2 x0 x1 x2 x3 t) k).trans ?_
  refine congrArg (fun a : EReal => Ideal.fptosi 32 a) ?_
  rw [slot_sum]
  refine congrArg₂ (fun a b : EReal => a + b) (before_call _ _ _ _ _ _ (fun t => mask_row x0 x1 x2 x3 t _) t) ?_
  exact first_at (ch x0 x1 x2 x3) _ (fun e => (count_at x0 x1 x2 x3 e).trans (load_sum _ e)) _

theorem out6_at (j : Fin 72) : out0_6 (F := Ideal) x0 x1 x2 x3 (ix2 0 j)
    = Ideal.fptosi 32 ((∑ e : Fin 23, one (firstOf (ch x0 x1 x2 x3) e ≤ j.val)) - 1) := by
  unfold_out out0_6
  refine (congrFun (View.canon_unit_zero origin _ _) _).trans ?_
  rw [View.ld_unit_zero origin, View.ld_unit_zero origin, View.ld_unit_zero origin, View.ld_unit_zero origin]
  exact begun_at _ (first_le (ch x0 x1 x2 x3)) _ (first_at (ch x0 x1 x2 x3) _ (fun e => (count_at x0 x1 x2 x3 e).trans (load_sum _ e))) j

theorem out8_at (i : S2048x768.Idx) : out0_8 (F := Ideal) x0 x1 x2 x3 i = x0 i := by
  unfold_out out0_8
  refine (congrFun (View.canon_unit_zero origin _ _) _).trans ?_
  rw [View.ld_unit_zero origin]
  rfl

end Values

end Cert.Proof.Moe.Gate

end
-- ==== Proof.Moe.GateSlotsRef.lean ====
/-
  The gate's reference at an entry: the slots of the tokens' copies and the experts of the tiles.
-/
module

public import proofs.«01_k».proof.Proof.Moe.GateRef
public import proofs.«01_k».proof.Proof.Moe.GateSlots

@[expose] public section

set_option maxRecDepth 16384

noncomputable section

namespace Cert.Proof.Moe.Gate

open Cert.GateReferenceIdeal Cert.GateReferenceIdeal.Gen
open Idealize.ShloMosaic
open scoped BigOperators

/-- The choices as rows of zeros and ones. -/
def hot (I : IVec S2048x3 32) : FVec Ideal S2048x3x23 .f32 :=
  uitofp .f32 (cmpi .eq (broadcastInDim S2048x3x23 ![0, 1, 2] bcast_S2048x3x1_S2048x3x23_0_1_2 (broadcastInDim S2048x3x1 ![0, 1] bcast_S2048x3_S2048x3x1_0_1 I)) (broadcastInDim S2048x3x23 ![0, 1, 2] bcast_S1x1x23_S2048x3x23_0_1_2 (iotaInDim S1x1x23 32 2)))

/-- The experts of a token. -/
def hots (h : FVec Ideal S2048x3x23 .f32) : FVec Ideal S2048x23 .f32 :=
  Host.reduceAdd h (constant S_ .f32 0x00000000#32) reducesTo_S2048x3x23_S2048x23_d1 h_S_

/-- The experts' tiles. -/
def filled (w : FVec Ideal S2048x23 .f32) : FVec Ideal S23 .f32 :=
  Host.ceil (Host.divf (Host.reduceAdd w (constant S_ .f32 0x00000000#32) reducesTo_S2048x23_S23_d0 h_S_) (broadcastInDim S23 ![] bcast_S_S23 (constant S_ .f32 0x43000000#32)))

/-- The experts' first tiles. -/
def begins (n : FVec Ideal S23 .f32) : FVec Ideal S23 .f32 :=
  Host.dotGeneral dot_S23x23_S23_S23_1_0_0_n_n_n none (uitofp .f32 (cmpi .sgt (broadcastInDim S23x23 ![0, 1] bcast_S23x1_S23x23_0_1 (broadcastInDim S23x1 ![0] bcast_S23_S23x1_0 (iotaInDim S23 32 0))) (broadcastInDim S23x23 ![0, 1] bcast_S1x23_S23x23_0_1 (broadcastInDim S1x23 ![1] bcast_S23_S1x23_1 (iotaInDim S23 32 0))))) n

/-- The copies of earlier tokens. -/
def ranked (w : FVec Ideal S2048x23 .f32) : FVec Ideal S2048x23 .f32 :=
  Host.dotGeneral dot_S2048x2048_S2048x23_S2048x23_1_0_0_1_n_n none (uitofp .f32 (cmpi .sgt (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) w

/-- The slots of the copies. -/
def slotted (h : FVec Ideal S2048x3x23 .f32) (b : FVec Ideal S23 .f32) (r : FVec Ideal S2048x23 .f32) : IVec S2048x3 32 :=
  fptosi 32 (Host.reduceAdd (mulf h (broadcastInDim S2048x3x23 ![0, 1, 2] bcast_S2048x1x23_S2048x3x23_0_1_2 (broadcastInDim S2048x1x23 ![0, 2] bcast_S2048x23_S2048x1x23_0_2 (addf (broadcastInDim S2048x23 ![0, 1] bcast_S1x23_S2048x23_0_1 (broadcastInDim S1x23 ![1] bcast_S23_S1x23_1 (mulf (broadcastInDim S23 ![] bcast_S_S23 (constant S_ .f32 0x43000000#32)) b))) r)))) (constant S_ .f32 0x00000000#32) reducesTo_S2048x3x23_S2048x3_d2 h_S_)

/-- The tiles' experts. -/
def tiled (b : FVec Ideal S23 .f32) : IVec S1x72 32 :=
  shapeCast _ (fptosi 32 (subf (Host.reduceAdd (uitofp .f32 (cmpf .ole (broadcastInDim S23x72 ![0, 1] bcast_S23x1_S23x72_0_1 (broadcastInDim S23x1 ![0] bcast_S23_S23x1_0 b) : FVec Ideal S23x72 .f32) (broadcastInDim S23x72 ![0, 1] bcast_S1x72_S23x72_0_1 (broadcastInDim S1x72 ![1] bcast_S72_S1x72_1 (sitofp .f32 (iotaInDim S72 32 0))))) : FVec Ideal S23x72 .f32) (constant S_ .f32 0x00000000#32) reducesTo_S23x72_S72_d0 h_S_) (broadcastInDim S72 ![] bcast_S_S72 (constant S_ .f32 0x3F800000#32)) : FVec Ideal S72 .f32)) shapeCasts_S72_S1x72

open Cert.GateReferenceIdeal.Value in
theorem slot_parts (m : (ℓ : Loc nD τ sig) → Buf (Elt Ideal) ℓ) (c : Dev nD) :
    res_out1 m c = slotted (hot (rI (rS (m (c, Proc.devRef .tc main_arg0)) (m (c, Proc.devRef .tc main_arg1)) (m (c, Proc.devRef .tc main_arg2)) (m (c, Proc.devRef .tc main_arg3)))))
      (begins (filled (hots (hot (rI (rS (m (c, Proc.devRef .tc main_arg0)) (m (c, Proc.devRef .tc main_arg1)) (m (c, Proc.devRef .tc main_arg2)) (m (c, Proc.devRef .tc main_arg3))))))))
      (ranked (hots (hot (rI (rS (m (c, Proc.devRef .tc main_arg0)) (m (c, Proc.devRef .tc main_arg1)) (m (c, Proc.devRef .tc main_arg2)) (m (c, Proc.devRef .tc main_arg3))))))) := rfl

section Read

variable (I : IVec S2048x3 32) (σ : Fin 2048 → Fin 3 → Fin 23) (hI : ∀ t k, I (ix2 t k) = BitVec.ofNat 32 (σ t k).val)

include hI in
theorem hot_at (t : Fin 2048) (k : Fin 3) (e : Fin 23) : hot I (ix3 t k e) = one (e = σ t k) := by
  pointwise [hot]
  rw [hI]
  exact bit_eq _ _

include hI in
theorem hots_at (t : Fin 2048) (e : Fin 23) : hots (hot I) (ix2 t e) = row σ e t.val := by
  have hh := hot_at I σ hI t
  rw [row_lt]
  generalize hot I = h at hh
  pointwise [hots]
  exact Finset.sum_congr rfl fun k _ => hh k e

theorem filled_at (w : FVec Ideal S2048x23 .f32) (hw : ∀ t e, w (ix2 t e) = row σ e t.val) (e : Fin 23) : filled w (ix1 e) = (((tilesOf σ e : ℕ) : ℝ) : EReal) := by
  refine Eq.trans ?_ (tiles_ceil (load σ e))
  rw [← load_sum]
  generalize hn : (∑ t : Fin 2048, ∑ k : Fin 3, one (e = σ t k)) = n
  pointwise [filled]
  rw [← hn]
  refine congrArg (fun a : EReal => Ideal.liftRound Int.ceil (Ideal.div a _)) (Finset.sum_congr rfl fun t _ => ?_)
  exact (hw t e).trans (row_lt σ e t)

theorem begins_at (n : FVec Ideal S23 .f32) (hn : ∀ e, n (ix1 e) = (((tilesOf σ e : ℕ) : ℝ) : EReal)) (e : Fin 23) : begins n (ix1 e) = (((firstOf σ e : ℕ) : ℝ) : EReal) := by
  refine Eq.trans ?_ (first_sum σ e)
  generalize hs : (∑ e' : Fin 23, one (e'.val < e.val) * (((tilesOf σ e' : ℕ) : ℝ) : EReal)) = s
  pointwise [begins]
  rw [← hs]
  exact Finset.sum_congr rfl fun e' _ => congrArg₂ (fun a b : EReal => a * b) (bit_sgt (by omega) (by omega)) (hn e')

theorem ranked_at (w : FVec Ideal S2048x23 .f32) (hw : ∀ t e, w (ix2 t e) = row σ e t.val) (t : Fin 2048) (e : Fin 23) :
    ranked w (ix2 t e) = ∑ i ∈ Finset.range t.val, row σ e i := by
  refine Eq.trans ?_ (sum_below 2048 t.val t.isLt.le (row σ e))
  generalize hs : (∑ x : Fin 2048, one (x.val < t.val) * row σ e x.val) = s
  pointwise [ranked]
  rw [← hs]
  exact Finset.sum_congr rfl fun x _ => congrArg₂ (fun a b : EReal => a * b) (bit_sgt (by omega) (by omega)) (hw x e)

theorem slotted_at (h : FVec Ideal S2048x3x23 .f32) (b : FVec Ideal S23 .f32) (r : FVec Ideal S2048x23 .f32) (hh : ∀ t k e, h (ix3 t k e) = one (e = σ t k))
    (hb : ∀ e, b (ix1 e) = (((firstOf σ e : ℕ) : ℝ) : EReal)) (hr : ∀ t e, r (ix2 t e) = ∑ i ∈ Finset.range t.val, row σ e i) (t : Fin 2048) (k : Fin 3) :
    slotted h b r (ix2 t k) = Ideal.fptosi 32 (slotOf σ t (σ t k)) := by
  generalize hs : slotOf σ t (σ t k) = s
  pointwise [slotted]
  rw [← hs]
  refine congrArg (fun a : EReal => Ideal.fptosi 32 a) ?_
  rw [Finset.sum_eq_single (σ t k)]
  · rw [hh, hb, hr]
    unfold slotOf one
    rw [if_pos rfl, one_mul, word_128]
    exact add_comm _ _
  · intro e _ he
    rw [hh]
    unfold one
    rw [if_neg he, zero_mul]
  · exact fun h => absurd (Finset.mem_univ _) h

theorem tiled_at (b : FVec Ideal S23 .f32) (f : Fin 23 → ℕ) (hb : ∀ e, b (ix1 e) = (((f e : ℕ) : ℝ) : EReal)) (j : Fin 72) :
    tiled b (ix2 0 j) = Ideal.fptosi 32 ((∑ e : Fin 23, one (f e ≤ j.val)) - 1) := by
  generalize hn : (∑ e : Fin 23, one (f e ≤ j.val)) = n
  pointwise [tiled]
  rw [← hn]
  refine congrArg (fun a : EReal => Ideal.fptosi 32 (a - 1)) (Finset.sum_congr rfl fun e _ => ?_)
  rw [hb]
  have hj : (FloatOps.sitofp .f32 (BitVec.ofNat 32 j.val) : Ideal .f32) = (((j.val : ℕ) : ℝ) : EReal) := by
    show (((BitVec.ofNat 32 j.val).toInt : ℝ) : EReal) = _
    rw [StableHlo.Predicate.toInt_ofNat_small _ (by omega), Int.cast_natCast]
  refine (congrArg (fun v : BitVec 1 => (FloatOps.uitofp .f32 v : Ideal .f32)) ?_).trans (bit_one (f e ≤ j.val))
  rw [← truth, hj]
  refine congrArg BitVec.ofBool (decide_eq_decide.mpr ?_)
  rw [EReal.coe_le_coe_iff, Nat.cast_le]

end Read

end Cert.Proof.Moe.Gate

end
-- ==== Proof.Moe.GateEqual.lean ====
/-
  The gate call computes its reference over the extended reals, and the gate's frames.
-/
module

public import proofs.«01_k».proof.Defs
public import proofs.«01_k».proof.Proof.Moe.GateArrays
public import proofs.«01_k».proof.Proof.Moe.GateSlotsRef
public import proofs.«01_k».proof.Proof.Gen.Gate.Frame
public import proofs.«01_k».proof.Proof.Gen.Pre_biased
public import proofs.«01_k».proof.Proof.Gen.Pre_routed
public import proofs.«01_k».proof.Proof.Gen.Kernel
public import proofs.«01_k».proof.Proof.Gen.KernelIdeal
public import proofs.«01_k».proof.Proof.Gen.ReferenceIdeal

@[expose] public section

set_option maxRecDepth 16384

noncomputable section

namespace Cert.Proof.Moe.Gate

open Idealize.ShloMosaic Idealize.ShloMosaic.TcCoe Idealize.SL.Sem
open scoped BigOperators

/-- A logistic value is no less than zero. -/
theorem logistic_nonneg (x : EReal) : 0 ≤ Ideal.logistic x := by
  induction x using EReal.rec with
  | bot => simp
  | top => simp
  | coe r =>
    rw [Ideal.logistic_coe]
    exact_mod_cast le_of_lt (inv_pos.mpr (by have := Real.exp_pos (-r); linarith))

section Values

variable (m : (ℓ : Loc Cert.GateIdeal.nD Cert.GateIdeal.τ Cert.GateIdeal.sig) → Buf (Elt Ideal) ℓ)

/-- The four arguments. -/
abbrev g0 : FVec Ideal Cert.GateReferenceIdeal.S2048x768 .f32 := m (0, Proc.devRef .tc Cert.GateIdeal.main_arg0)
abbrev g1 : FVec Ideal Cert.GateReferenceIdeal.S23x768 .f32 := m (0, Proc.devRef .tc Cert.GateIdeal.main_arg1)
abbrev g2 : FVec Ideal Cert.GateReferenceIdeal.S23 .f32 := m (0, Proc.devRef .tc Cert.GateIdeal.main_arg2)
abbrev g3 : FVec Ideal Cert.GateReferenceIdeal.S23 .f32 := m (0, Proc.devRef .tc Cert.GateIdeal.main_arg3)

open Cert.GateIdeal.Gen in
theorem gk_args (t : Fin 2048) (e : Fin 23) : gk (iblk m 0 0 only) (iblk m 0 1 only) (iblk m 0 2 only) t e = rW (g0 m) (g1 m) (g2 m) (ix2 t e) := by
  rw [gk_eq, rW_at]
  refine congrArg Ideal.logistic (congrArg₂ (fun a b : EReal => a + b) (Finset.sum_congr rfl fun k _ => ?_) (in_2 m 0 e))
  exact congrArg₂ (fun a b : EReal => a * b) (in_0 m 0 t k) (in_1 m 0 e k)

open Cert.GateIdeal.Gen in
theorem sk_args (t : Fin 2048) (e : Fin 23) : sk (iblk m 0 0 only) (iblk m 0 1 only) (iblk m 0 2 only) (iblk m 0 3 only) t e = rS (g0 m) (g1 m) (g2 m) (g3 m) (ix2 t e) := by
  rw [sk_eq, rS_at]
  exact congrArg₂ (fun a b : EReal => a + b) (gk_args m t e) (in_3 m 0 e)

variable (hp : Cert.Pre_GateIdeal_biased m)

include hp in
/-- What the experts are chosen by lies above the struck value. -/
theorem above (t : Fin 2048) (e : Fin 23) : Struck < rS (g0 m) (g1 m) (g2 m) (g3 m) (ix2 t e) := by
  have h : Ideal.cmp .ogt (g3 m (ix1 e)) Struck = 1 := congrFun (hp 0) (ix1 e)
  rw [rS_at, rW_at]
  exact lt_of_lt_of_le ((Ideal.cmp_ogt_eq_one _ _).mp h) (le_add_of_nonneg_left (logistic_nonneg _))

/-- The experts chosen. -/
def chosen (t : Fin 2048) (k : Fin 3) : Fin 23 := sel Struck (fun e => rS (g0 m) (g1 m) (g2 m) (g3 m) (ix2 t e)) k

include hp in
theorem chosen_word (t : Fin 2048) (k : Fin 3) : rI (rS (g0 m) (g1 m) (g2 m) (g3 m)) (ix2 t k) = BitVec.ofNat 32 (chosen m t k).val :=
  rI_at _ t k Struck (above m hp t)

open Cert.GateIdeal.Gen in
theorem sel_args (t : Fin 2048) (k : Fin 3) : sel Struck (sk (iblk m 0 0 only) (iblk m 0 1 only) (iblk m 0 2 only) (iblk m 0 3 only) t) k = chosen m t k := by
  unfold chosen
  exact congrArg (fun s => sel Struck s k) (funext fun e => sk_args m t e)

include hp in
open Cert.GateIdeal.Gen in
/-- The weights are the reference's. -/
theorem weights_eq : (dats m 0 0).arrAt 4 Cert.GateIdeal.cfg0.N = normed (taken (rW (g0 m) (g1 m) (g2 m)) (rI (rS (g0 m) (g1 m) (g2 m) (g3 m)))) := by
  funext (i : Cert.GateReferenceIdeal.S2048x3.Idx)
  obtain ⟨t, k, rfl⟩ : ∃ (t : Fin 2048) (k : Fin 3), i = ix2 t k := ⟨i 0, i 1, (ix2_eta i).symm⟩
  refine (out_4 m 0 t k).trans ?_
  rw [topw_at, normed_at]
  simp only [taken_at _ _ (chosen m) (chosen_word m hp), sel_args, gk_args]

include hp in
open Cert.GateIdeal.Gen in
/-- The balance term is the reference's. -/
theorem balance_eq : (dats m 0 0).arrAt 7 Cert.GateIdeal.cfg0.N = balanced (rW (g0 m) (g1 m) (g2 m)) (counted (rI (rS (g0 m) (g1 m) (g2 m) (g3 m)))) := by
  funext (i : Cert.GateReferenceIdeal.S1x1.Idx)
  obtain rfl : i = ix2 0 0 := funext fun a => match a with
    | ⟨0, _⟩ => Subsingleton.elim (α := Fin 1) _ _
    | ⟨1, _⟩ => Subsingleton.elim (α := Fin 1) _ _
  refine (out_7 m 0).trans ?_
  rw [aux_at, balanced_at]
  simp only [counted_at _ (chosen m) (chosen_word m hp), sel_args]
  exact congrArg (fun g => balance g _) (funext fun t => funext fun e => gk_args m t e)

/-- The reference's slots of the copies. -/
abbrev slotsRef (I : IVec Cert.GateReferenceIdeal.S2048x3 32) : IVec Cert.GateReferenceIdeal.S2048x3 32 := slotted (hot I) (begins (filled (hots (hot I)))) (ranked (hots (hot I)))

/-- The reference's experts of the tiles. -/
abbrev tilesRef (I : IVec Cert.GateReferenceIdeal.S2048x3 32) : IVec Cert.GateReferenceIdeal.S1x72 32 := tiled (begins (filled (hots (hot I))))

open Cert.GateIdeal.Gen in
theorem ch_args : ch (iblk m 0 0 only) (iblk m 0 1 only) (iblk m 0 2 only) (iblk m 0 3 only) = chosen m := funext fun t => funext fun k => sel_args m t k

include hp in
open Cert.GateIdeal.Gen in
/-- The slots are the reference's. -/
theorem slots_eq : (dats m 0 0).arrAt 5 Cert.GateIdeal.cfg0.N = slotsRef (rI (rS (g0 m) (g1 m) (g2 m) (g3 m))) := by
  funext (i : Cert.GateReferenceIdeal.S2048x3.Idx)
  obtain ⟨t, k, rfl⟩ : ∃ (t : Fin 2048) (k : Fin 3), i = ix2 t k := ⟨i 0, i 1, (ix2_eta i).symm⟩
  have hh := hots_at _ (chosen m) (chosen_word m hp)
  refine (out_5 m 0 t k).trans ?_
  rw [out5_at, ch_args]
  exact (slotted_at (chosen m) _ _ _ (hot_at _ (chosen m) (chosen_word m hp)) (begins_at (chosen m) _ (filled_at (chosen m) _ hh)) (ranked_at (chosen m) _ hh) t k).symm

include hp in
open Cert.GateIdeal.Gen in
/-- The experts of the tiles are the reference's. -/
theorem tiles_eq : (dats m 0 0).arrAt 6 Cert.GateIdeal.cfg0.N = tilesRef (rI (rS (g0 m) (g1 m) (g2 m) (g3 m))) := by
  funext (i : Cert.GateReferenceIdeal.S1x72.Idx)
  obtain ⟨o, j, rfl⟩ : ∃ (o : Fin 1) (j : Fin 72), i = ix2 o j := ⟨i 0, i 1, (ix2_eta i).symm⟩
  obtain rfl : o = 0 := Subsingleton.elim _ _
  refine (out_6 m 0 j).trans ?_
  rw [out6_at, ch_args]
  exact (tiled_at _ _ (begins_at (chosen m) _ (filled_at (chosen m) _ (hots_at _ (chosen m) (chosen_word m hp)))) j).symm

open Cert.GateIdeal.Gen in
/-- The tokens' rows are passed on as they are. -/
theorem rows_eq : (dats m 0 0).arrAt 8 Cert.GateIdeal.cfg0.N = g0 m := by
  funext (i : Cert.GateReferenceIdeal.S2048x768.Idx)
  obtain ⟨t, k, rfl⟩ : ∃ (t : Fin 2048) (k : Fin 768), i = ix2 t k := ⟨i 0, i 1, (ix2_eta i).symm⟩
  exact (out_8 m 0 t k).trans ((out8_at _ _ _ _ _).trans (in_0 m 0 t k))

end Values

theorem algebraic : Cert.algebraic_GateIdeal_GateReferenceIdeal_pre_biased := fun m g m' g' hp ha => by
  refine ⟨fun _ => normed (taken (rW (g0 m) (g1 m) (g2 m)) (rI (rS (g0 m) (g1 m) (g2 m) (g3 m)))),
    fun _ => slotsRef (rI (rS (g0 m) (g1 m) (g2 m) (g3 m))), fun _ => tilesRef (rI (rS (g0 m) (g1 m) (g2 m) (g3 m))),
    fun _ => balanced (rW (g0 m) (g1 m) (g2 m)) (counted (rI (rS (g0 m) (g1 m) (g2 m) (g3 m)))), fun _ => g0 m,
    (θ_run Cert.GateIdeal.defs _ _).mono (fun _ q c => ?_) (Cert.GateIdeal.Value.run_blocks (F := Ideal) m g),
    (θ_run Cert.GateReferenceIdeal.defs _ _).mono (fun _ q c => ?_) (Cert.GateReferenceIdeal.Value.run (F := Ideal) m' g')⟩
  · obtain rfl : c = 0 := Subsingleton.elim _ _
    obtain ⟨h4, h5, h6, h7, h8, hr⟩ := q 0
    exact ⟨h4.trans (weights_eq m hp), h5.trans (slots_eq m hp), h6.trans (tiles_eq m hp), h7.trans (balance_eq m hp), h8.trans (rows_eq m), hr⟩
  · obtain rfl : c = 0 := Subsingleton.elim _ _
    obtain ⟨a0, a1, a2, a3⟩ := ha 0
    obtain ⟨h0, h1, h2, h3, h4, hr⟩ := q 0
    have e0 : m' (0, Proc.devRef .tc Cert.GateReferenceIdeal.main_arg0) = g0 m := a0
    have e1 : m' (0, Proc.devRef .tc Cert.GateReferenceIdeal.main_arg1) = g1 m := a1
    have e2 : m' (0, Proc.devRef .tc Cert.GateReferenceIdeal.main_arg2) = g2 m := a2
    have e3 : m' (0, Proc.devRef .tc Cert.GateReferenceIdeal.main_arg3) = g3 m := a3
    have hS : rI (rS (m' (0, Proc.devRef .tc Cert.GateReferenceIdeal.main_arg0)) (m' (0, Proc.devRef .tc Cert.GateReferenceIdeal.main_arg1)) (m' (0, Proc.devRef .tc Cert.GateReferenceIdeal.main_arg2)) (m' (0, Proc.devRef .tc Cert.GateReferenceIdeal.main_arg3)))
        = rI (rS (g0 m) (g1 m) (g2 m) (g3 m)) := by
      rw [e0, e1, e2, e3]
    refine ⟨h0.trans ((top_parts m' 0).trans ?_), h1.trans ((slot_parts m' 0).trans (congrArg slotsRef hS)), h2.trans (congrArg tilesRef hS),
      h3.trans ((aux_parts m' 0).trans ?_), h4.trans e0, hr⟩
    · rw [e0, e1, e2, e3]
    · rw [e0, e1, e2, e3]

theorem frame_p : Cert.quiescent_Gate := fun m ρ _ => Cert.Gate.Gen.frame m ρ

theorem frame_pi : Cert.quiescent_GateIdeal := fun m ρ _ => Cert.GateIdeal.Gen.frame m ρ

theorem frame_pi_biased : Cert.quiescent_GateIdeal_pre_biased := fun m ρ _ => Cert.GateIdeal.Gen.frame m ρ

theorem frame_ri : Cert.quiescent_GateReferenceIdeal := fun m ρ _ =>
  (θ_run _ _ _).mono (fun r q => ⟨fun c => (q c).2.2.2.2.2, sem_eq_zero_of_no_sems (by decide) r.2⟩) (Cert.GateReferenceIdeal.Value.run (F := Ideal) m ρ)

theorem frame_ri_biased : Cert.quiescent_GateReferenceIdeal_pre_biased := fun m ρ _ => frame_ri m ρ trivial

end Cert.Proof.Moe.Gate

end
-- ==== Proof.Moe.GateOrder.lean ====
/-
  The slots that the gate hands out, counted in whole numbers: they lie in their expert's tiles, no two copies have the same one, and a
  tile's expert is the one whose copies lie in it.
-/
module

public import proofs.«01_k».proof.Proof.Moe.GateSlots

@[expose] public section

noncomputable section

namespace Cert.Proof.Moe.Gate

open Idealize.ShloMosaic
open scoped BigOperators

/-- The copies of a token an expert has, as a whole number. -/
def rowN (σ : Fin 2048 → Fin 3 → Fin 23) (e : Fin 23) (n : ℕ) : ℕ := if h : n < 2048 then ∑ k : Fin 3, (if e = σ ⟨n, h⟩ k then 1 else 0) else 0

/-- The copies an expert has of the first tokens. -/
def rankN (σ : Fin 2048 → Fin 3 → Fin 23) (e : Fin 23) (n : ℕ) : ℕ := ∑ i ∈ Finset.range n, rowN σ e i

/-- A copy's slot, as a whole number. -/
def slotN (σ : Fin 2048 → Fin 3 → Fin 23) (t : Fin 2048) (e : Fin 23) : ℕ := rankN σ e t.val + 128 * firstOf σ e

/-- The experts that have begun at a tile. -/
def begunN (σ : Fin 2048 → Fin 3 → Fin 23) (j : ℕ) : ℕ := (Finset.univ.filter fun e : Fin 23 => firstOf σ e ≤ j).card

variable (σ : Fin 2048 → Fin 3 → Fin 23)

theorem row_nat (e : Fin 23) (n : ℕ) : row σ e n = (((rowN σ e n : ℕ) : ℝ) : EReal) := by
  unfold row rowN
  by_cases h : n < 2048
  · rw [dif_pos h, dif_pos h, EReal.coe_natCast, Nat.cast_sum]
    refine Finset.sum_congr rfl fun k _ => ?_
    unfold one
    split <;> simp
  · rw [dif_neg h, dif_neg h]
    simp

theorem slot_nat (t : Fin 2048) (e : Fin 23) : slotOf σ t e = (((slotN σ t e : ℕ) : ℝ) : EReal) := by
  unfold slotOf slotN rankN
  have h : ∑ i ∈ Finset.range t.val, row σ e i = (((∑ i ∈ Finset.range t.val, rowN σ e i : ℕ) : ℝ) : EReal) := by
    rw [EReal.coe_natCast, Nat.cast_sum]
    exact Finset.sum_congr rfl fun i _ => (row_nat σ e i).trans EReal.coe_natCast
  rw [h, ← EReal.coe_mul, ← EReal.coe_add]
  congr 1
  push_cast
  ring

theorem begun_nat (j : ℕ) : ∑ e : Fin 23, one (firstOf σ e ≤ j) = (((begunN σ j : ℕ) : ℝ) : EReal) := by
  unfold begunN one
  rw [Finset.card_filter, EReal.coe_natCast, Nat.cast_sum]
  refine Finset.sum_congr rfl fun e _ => ?_
  split <;> simp

/-! ## The order of the slots -/

theorem rank_mono (e : Fin 23) {a b : ℕ} (h : a ≤ b) : rankN σ e a ≤ rankN σ e b :=
  Finset.sum_le_sum_of_subset (Finset.range_subset_range.mpr h)

theorem rank_all (e : Fin 23) : rankN σ e 2048 = load σ e := by
  unfold rankN load
  rw [← Fin.sum_univ_eq_sum_range (rowN σ e) 2048]
  exact Finset.sum_congr rfl fun t _ => dif_pos t.isLt

/-- A copy raises its expert's number of copies. -/
theorem rank_step (t : Fin 2048) (k : Fin 3) : rankN σ (σ t k) t.val < rankN σ (σ t k) (t.val + 1) := by
  unfold rankN
  rw [Finset.sum_range_succ]
  have : 1 ≤ rowN σ (σ t k) t.val := by
    unfold rowN
    rw [dif_pos t.isLt]
    exact (if_pos rfl : (if σ t k = σ t k then 1 else 0) = 1).symm.le.trans (Finset.single_le_sum (f := fun k' : Fin 3 => if σ t k = σ t k' then 1 else 0) (fun _ _ => Nat.zero_le _) (Finset.mem_univ k))
  omega

theorem rank_lt (t : Fin 2048) (k : Fin 3) : rankN σ (σ t k) t.val < load σ (σ t k) := by
  have h := rank_step σ t k
  have h' := rank_mono σ (σ t k) (show t.val + 1 ≤ 2048 by omega)
  rw [rank_all] at h'
  omega

theorem load_tiles (e : Fin 23) : load σ e ≤ 128 * tilesOf σ e := by
  unfold tilesOf
  omega

/-- A later expert's tiles come after. -/
theorem first_next {e e' : Fin 23} (h : e.val < e'.val) : firstOf σ e + tilesOf σ e ≤ firstOf σ e' := by
  unfold firstOf
  have h1 : ∑ x : Fin 23, ((if x.val < e.val then tilesOf σ x else 0) + if x = e then tilesOf σ x else 0) ≤ ∑ x : Fin 23, if x.val < e'.val then tilesOf σ x else 0 := by
    refine Finset.sum_le_sum fun x _ => ?_
    by_cases hx : x = e
    · subst hx
      rw [if_neg (lt_irrefl _), if_pos rfl, if_pos h, zero_add]
    · rw [if_neg hx, add_zero]
      by_cases h2 : x.val < e.val
      · rw [if_pos h2, if_pos (h2.trans h)]
      · rw [if_neg h2]
        exact Nat.zero_le _
  rw [Finset.sum_add_distrib, Finset.sum_ite_eq' Finset.univ e, if_pos (Finset.mem_univ e)] at h1
  exact h1

theorem load_total : ∑ e : Fin 23, load σ e = 6144 := by
  unfold load
  rw [Finset.sum_comm]
  have h : ∀ t : Fin 2048, ∑ e : Fin 23, ∑ k : Fin 3, (if e = σ t k then 1 else 0) = 3 := fun t => by
    rw [Finset.sum_comm]
    have : ∀ k : Fin 3, ∑ e : Fin 23, (if e = σ t k then 1 else 0) = 1 := fun k => by
      rw [Finset.sum_ite_eq' Finset.univ (σ t k), if_pos (Finset.mem_univ _)]
    rw [Finset.sum_congr rfl fun k _ => this k]
    simp
  rw [Finset.sum_congr rfl fun t _ => h t]
  simp

/-- The tiles of an expert end within the seventy-two. -/
theorem last_tile (e : Fin 23) : firstOf σ e + tilesOf σ e ≤ 72 := by
  have h : firstOf σ e + tilesOf σ e ≤ ∑ x : Fin 23, tilesOf σ x := by
    unfold firstOf
    have h1 : ∑ x : Fin 23, ((if x.val < e.val then tilesOf σ x else 0) + if x = e then tilesOf σ x else 0) ≤ ∑ x : Fin 23, tilesOf σ x := by
      refine Finset.sum_le_sum fun x _ => ?_
      by_cases hx : x = e
      · subst hx
        rw [if_neg (lt_irrefl _), if_pos rfl, zero_add]
      · rw [if_neg hx, add_zero]
        split <;> omega
    rw [Finset.sum_add_distrib, Finset.sum_ite_eq' Finset.univ e, if_pos (Finset.mem_univ e)] at h1
    exact h1
  have h2 : ∑ x : Fin 23, 128 * tilesOf σ x ≤ ∑ x : Fin 23, (load σ x + 127) := Finset.sum_le_sum fun x _ => by
    unfold tilesOf
    omega
  rw [← Finset.mul_sum, Finset.sum_add_distrib, load_total] at h2
  simp at h2
  omega

/-- A copy's slot lies in its expert's tiles. -/
theorem slot_in (t : Fin 2048) (k : Fin 3) : 128 * firstOf σ (σ t k) ≤ slotN σ t (σ t k) ∧ slotN σ t (σ t k) < 128 * (firstOf σ (σ t k) + tilesOf σ (σ t k)) := by
  have h1 := rank_lt σ t k
  have h2 := load_tiles σ (σ t k)
  unfold slotN
  omega

theorem slot_lt (t : Fin 2048) (k : Fin 3) : slotN σ t (σ t k) < 9216 := by
  have h1 := (slot_in σ t k).2
  have h2 := last_tile σ (σ t k)
  omega

/-- Two copies with one slot are the same copy. -/
theorem slot_apart (hσ : ∀ t, Function.Injective (σ t)) (t t' : Fin 2048) (k k' : Fin 3) (h : slotN σ t (σ t k) = slotN σ t' (σ t' k')) : t = t' ∧ k = k' := by
  have i1 := slot_in σ t k
  have i2 := slot_in σ t' k'
  have he : σ t k = σ t' k' := by
    rcases lt_trichotomy (σ t k).val (σ t' k').val with l | l | l
    · have := first_next σ l
      omega
    · exact Fin.ext l
    · have := first_next σ l
      omega
  have ht : t = t' := by
    have s1 := rank_step σ t k
    have s2 := rank_step σ t' k'
    unfold slotN at h
    rw [← he] at h s2
    rcases lt_trichotomy t.val t'.val with l | l | l
    · have := rank_mono σ (σ t k) (show t.val + 1 ≤ t'.val from l)
      omega
    · exact Fin.ext l
    · have := rank_mono σ (σ t k) (show t'.val + 1 ≤ t.val from l)
      omega
  subst ht
  exact ⟨rfl, hσ t he⟩

/-- At an expert's tiles that expert and those before it have begun. -/
theorem begun_of (e : Fin 23) (j : ℕ) (h1 : firstOf σ e ≤ j) (h2 : j < firstOf σ e + tilesOf σ e) : begunN σ j = e.val + 1 := by
  unfold begunN
  have h : (Finset.univ.filter fun x : Fin 23 => firstOf σ x ≤ j) = Finset.Iic e := by
    ext x
    rw [Finset.mem_filter, Finset.mem_Iic, Fin.le_def]
    constructor
    · intro hx
      by_contra hn
      have := first_next σ (not_le.mp hn)
      have := hx.2
      omega
    · intro hx
      refine ⟨Finset.mem_univ x, ?_⟩
      rcases hx.lt_or_eq with l | l
      · have := first_next σ l
        omega
      · rw [Fin.ext l]
        exact h1
  rw [h, Fin.card_Iic]

/-- Some expert has begun at every tile, and no more than there are. -/
theorem begun_pos (j : ℕ) : 1 ≤ begunN σ j ∧ begunN σ j ≤ 23 := by
  unfold begunN
  constructor
  · refine Finset.card_pos.mpr ⟨0, Finset.mem_filter.mpr ⟨Finset.mem_univ _, ?_⟩⟩
    have : firstOf σ 0 = 0 := Finset.sum_eq_zero fun x _ => if_neg (Nat.not_lt_zero _)
    rw [this]
    exact Nat.zero_le _
  · exact (Finset.card_le_univ _).trans_eq (Fintype.card_fin 23)

/-- The slot of a copy as a word. -/
theorem slot_word (t : Fin 2048) (k : Fin 3) : Ideal.fptosi 32 (slotOf σ t (σ t k)) = BitVec.ofNat 32 (slotN σ t (σ t k)) :=
  word_of _ (by have := slot_lt σ t k; omega) _ (slot_nat σ t _)

/-- The expert of a tile as a word. -/
theorem begun_word (j : ℕ) : Ideal.fptosi 32 ((∑ e : Fin 23, one (firstOf σ e ≤ j)) - 1) = BitVec.ofNat 32 (begunN σ j - 1) := by
  have hb := begun_pos σ j
  refine word_of _ (by omega) _ ?_
  rw [begun_nat, Nat.cast_sub hb.1, Nat.cast_one]
  exact (EReal.coe_sub _ _).symm

end Cert.Proof.Moe.Gate

end
-- ==== Proof.Moe.GateRouted.lean ====
/-
  The routing tables that the gate leaves meet the precondition of the four calls.
-/
module

public import proofs.«01_k».proof.Proof.Moe.Frames
public import proofs.«01_k».proof.Proof.Moe.GateEqual
public import proofs.«01_k».proof.Proof.Moe.GateOrder

@[expose] public section

set_option maxRecDepth 16384

noncomputable section

namespace Cert.Proof.Moe

open Cert.KernelIdeal Cert.KernelIdeal.Gen
open Idealize.ShloMosaic Idealize.ShloMosaic.TcCoe Idealize.ShloMosaic.WordCmp Idealize.SL.Sem

/-! ## The precondition from its plain facts -/

theorem in_range_back {x : BitVec 32} {n : ℕ} (hn : n < 2 ^ 31) (h : x.toNat < n) : IntOp.andi (IntOp.cmpi .sge x 0#32) (IntOp.cmpi .slt x (BitVec.ofNat 32 n)) = 1#1 := by
  simp only [IntOp.cmpi, andi_ofBool, ofBool_eq_one_iff, Bool.and_eq_true, BitVec.sle_eq_decide, BitVec.slt_eq_decide, decide_eq_true_eq, BitVec.toInt_eq_toNat_cond, BitVec.toNat_ofNat]
  omega

theorem apart_back {p q : BitVec 32} {a b : ℕ} (h : p = q → a = b) :
    IntOp.ori (IntOp.cmpi .ne p q) (IntOp.cmpi .eq (BitVec.ofNat 32 a) (BitVec.ofNat 32 b)) = 1#1 := by
  simp only [cmpi_ne_eq, cmpi_eq_eq, ori_ofBool, ofBool_eq_one_iff, Bool.or_eq_true, decide_eq_true_eq]
  by_cases e : p = q
  · exact Or.inr (congrArg _ (h e))
  · exact Or.inl e

theorem agree_back {p x y : BitVec 32} {j : ℕ} (hj : j < 72) (hp : p.toNat < 9216) (h : 128 * j ≤ p.toNat → p.toNat < 128 * j + 128 → x = y) :
    IntOp.ori (IntOp.cmpi .eq x y) (~~~(IntOp.andi (IntOp.cmpi .sge p (IntOp.muli (BitVec.ofNat 32 j) 128#32))
      (IntOp.cmpi .slt p (IntOp.addi (IntOp.muli (BitVec.ofNat 32 j) 128#32) 128#32)))) = 1#1 := by
  have eA : IntOp.cmpi .sge p (IntOp.muli (BitVec.ofNat 32 j) 128#32) = BitVec.ofBool (decide (128 * j ≤ p.toNat)) := by
    simp only [IntOp.cmpi, IntOp.muli, BitVec.sle_eq_decide, BitVec.toInt_eq_toNat_cond, BitVec.toNat_ofNat, BitVec.toNat_mul]
    refine congrArg BitVec.ofBool (decide_eq_decide.mpr ?_)
    omega
  have eB : IntOp.cmpi .slt p (IntOp.addi (IntOp.muli (BitVec.ofNat 32 j) 128#32) 128#32) = BitVec.ofBool (decide (p.toNat < 128 * j + 128)) := by
    simp only [IntOp.cmpi, IntOp.muli, IntOp.addi, BitVec.slt_eq_decide, BitVec.toInt_eq_toNat_cond, BitVec.toNat_ofNat, BitVec.toNat_mul, BitVec.toNat_add]
    refine congrArg BitVec.ofBool (decide_eq_decide.mpr ?_)
    omega
  rw [eA, eB, cmpi_eq_eq]
  by_cases h1 : 128 * j ≤ p.toNat
  · by_cases h2 : p.toNat < 128 * j + 128
    · rw [decide_eq_true (h h1 h2), decide_eq_true h1, decide_eq_true h2]
      decide
    · rw [decide_eq_true h1, decide_eq_false h2]
      cases decide (x = y) <;> decide
  · rw [decide_eq_false h1]
    cases decide (x = y) <;> cases decide (p.toNat < 128 * j + 128) <;> decide

theorem i3_eta {n m l : ℕ} (x : (⟨3, ![n, m, l]⟩ : Shape).Idx) : i3 (x 0) (x 1) (x 2) = x := by
  funext a; match a with | 0 => rfl | 1 => rfl | 2 => rfl

section Meet

variable {a0 : FVec Ideal Cert.Pre_routed.S2048x768 .f32} {a1 : IVec Cert.Pre_routed.S2048x3 32} {a2 : IVec Cert.Pre_routed.S1x72 32} {a3 : FVec Ideal Cert.Pre_routed.S2048x3 .f32}
  {a4 : FVec Ideal Cert.Pre_routed.S23x384x768 .f32} {a5 : FVec Ideal Cert.Pre_routed.S23x384 .f32} {a6 : FVec Ideal Cert.Pre_routed.S23x768x384 .f32} {a7 : FVec Ideal Cert.Pre_routed.S23x768 .f32}
  {a8 : FVec Ideal Cert.Pre_routed.S384x768 .f32} {a9 : FVec Ideal Cert.Pre_routed.S384 .f32} {a10 : FVec Ideal Cert.Pre_routed.S768x384 .f32} {a11 : FVec Ideal Cert.Pre_routed.S768 .f32}
  {a12 : IVec Cert.Pre_routed.S2048x3 32} (h : Routed a1 a2 a12)

open Cert.Pre_routed (fn)

include h

theorem meet1 : (fn (F := Ideal) a0 a1 a2 a3 a4 a5 a6 a7 a8 a9 a10 a11 a12).1 = fun _ => 1#1 := funext fun i => in_range_back (by decide) (h.pos_lt i)

theorem meet2 : (fn (F := Ideal) a0 a1 a2 a3 a4 a5 a6 a7 a8 a9 a10 a11 a12).2.1 = fun _ => 1#1 := funext fun i => in_range_back (by decide) (h.te_lt i)

theorem meet3 : (fn (F := Ideal) a0 a1 a2 a3 a4 a5 a6 a7 a8 a9 a10 a11 a12).2.2.1 = fun _ => 1#1 := by
  funext (i : Cert.Pre_routed.S6144x6144.Idx)
  obtain ⟨x, y, rfl⟩ : ∃ (x y : Fin 6144), i = i2 x y := ⟨i 0, i 1, (i2_eta i).symm⟩
  have hx : (x.val : ℕ) = 3 * (⟨x.val / 3, by omega⟩ : Fin 2048).val + (⟨x.val % 3, by omega⟩ : Fin 3).val := by show x.val = 3 * (x.val / 3) + x.val % 3; omega
  have hy : (y.val : ℕ) = 3 * (⟨y.val / 3, by omega⟩ : Fin 2048).val + (⟨y.val % 3, by omega⟩ : Fin 3).val := by show y.val = 3 * (y.val / 3) + y.val % 3; omega
  refine apart_back (p := shapeCast S6144 a1 (by decide) (i1 x)) (q := shapeCast S6144 a1 (by decide) (i1 y)) (a := x.val) (b := y.val) fun e => ?_
  obtain ⟨e1, e2⟩ := h.apart _ _ _ _ ((flat_at a1 _ _ _ (i1 x) hx).symm.trans (e.trans (flat_at a1 _ _ _ (i1 y) hy)))
  have e1 := congrArg Fin.val e1
  have e2 := congrArg Fin.val e2
  dsimp only at e1 e2
  omega

theorem meet4 : (fn (F := Ideal) a0 a1 a2 a3 a4 a5 a6 a7 a8 a9 a10 a11 a12).2.2.2.1 = fun _ => 1#1 := by
  funext (i : Cert.Pre_routed.S2048x3x72.Idx)
  obtain ⟨t, k, j, rfl⟩ : ∃ (t : Fin 2048) (k : Fin 3) (j : Fin 72), i = i3 t k j := ⟨i 0, i 1, i 2, (i3_eta i).symm⟩
  have sp (x : S2048x3.Idx → BitVec 32) := spread (l := 72) (by decide) (by decide) x (by decide) (by decide) t k j
  show IntOp.ori (IntOp.cmpi .eq (shapeCast S72 a2 (by decide) (i1 j)) (broadcastInDim _ _ _ (broadcastInDim _ _ _ a12) (i3 t k j)))
      (~~~(IntOp.andi (IntOp.cmpi .sge (broadcastInDim _ _ _ (broadcastInDim _ _ _ a1) (i3 t k j)) _) (IntOp.cmpi .slt (broadcastInDim _ _ _ (broadcastInDim _ _ _ a1) (i3 t k j)) _))) = 1#1
  rw [sp, sp]
  refine agree_back (p := a1 (i2 t k)) (x := shapeCast S72 a2 (by decide) (i1 j)) (y := a12 (i2 t k)) j.isLt (h.pos_lt _) fun l1 l2 => ?_
  exact (cast_at (j := i2 0 j) a2 _ (by rw [Shape.rowMajor_val_two, Shape.rowMajor_val_one]; show 0 * 72 + j.val = j.val; omega)).trans (h.agree t k j l1 l2)

theorem meet5 : (fn (F := Ideal) a0 a1 a2 a3 a4 a5 a6 a7 a8 a9 a10 a11 a12).2.2.2.2.1 = fun _ => 1#1 := by
  funext (i : Cert.Pre_routed.S2048.Idx)
  obtain ⟨t, rfl⟩ : ∃ t : Fin 2048, i = i1 t := ⟨i 0, (i1_eta i).symm⟩
  show IntOp.cmpi .ne (shapeCast S2048 (extractStridedSlice S2048x1 ![0, (0 : Fin 3).val] a12 (by decide)) shapeCasts_S2048x1_S2048 (i1 t))
      (shapeCast S2048 (extractStridedSlice S2048x1 ![0, (1 : Fin 3).val] a12 (by decide)) shapeCasts_S2048x1_S2048 (i1 t)) = 1#1
  rw [column a12 0, column a12 1, cmpi_ne_eq, ofBool_eq_one_iff, decide_eq_true_eq]
  exact (h.apart0 t).1

theorem meet6 : (fn (F := Ideal) a0 a1 a2 a3 a4 a5 a6 a7 a8 a9 a10 a11 a12).2.2.2.2.2.1 = fun _ => 1#1 := by
  funext (i : Cert.Pre_routed.S2048.Idx)
  obtain ⟨t, rfl⟩ : ∃ t : Fin 2048, i = i1 t := ⟨i 0, (i1_eta i).symm⟩
  show IntOp.cmpi .ne (shapeCast S2048 (extractStridedSlice S2048x1 ![0, (0 : Fin 3).val] a12 (by decide)) shapeCasts_S2048x1_S2048 (i1 t))
      (shapeCast S2048 (extractStridedSlice S2048x1 ![0, (2 : Fin 3).val] a12 (by decide)) shapeCasts_S2048x1_S2048 (i1 t)) = 1#1
  rw [column a12 0, column a12 2, cmpi_ne_eq, ofBool_eq_one_iff, decide_eq_true_eq]
  exact (h.apart0 t).2.1

theorem meet7 : (fn (F := Ideal) a0 a1 a2 a3 a4 a5 a6 a7 a8 a9 a10 a11 a12).2.2.2.2.2.2 = fun _ => 1#1 := by
  funext (i : Cert.Pre_routed.S2048.Idx)
  obtain ⟨t, rfl⟩ : ∃ t : Fin 2048, i = i1 t := ⟨i 0, (i1_eta i).symm⟩
  show IntOp.cmpi .ne (shapeCast S2048 (extractStridedSlice S2048x1 ![0, (1 : Fin 3).val] a12 (by decide)) shapeCasts_S2048x1_S2048 (i1 t))
      (shapeCast S2048 (extractStridedSlice S2048x1 ![0, (2 : Fin 3).val] a12 (by decide)) shapeCasts_S2048x1_S2048 (i1 t)) = 1#1
  rw [column a12 1, column a12 2, cmpi_ne_eq, ofBool_eq_one_iff, decide_eq_true_eq]
  exact (h.apart0 t).2.2

end Meet

/-- Tables with these facts meet the precondition. -/
theorem meets {m : (ℓ : Loc nD τ sig) → Buf (Elt Ideal) ℓ} (h : Routed (m (0, arg1')) (m (0, arg2')) (m (0, arg12'))) : Cert.Pre_KernelIdeal m := fun c => by
  obtain rfl : c = 0 := Subsingleton.elim _ _
  exact ⟨meet1 h, meet2 h, meet3 h, meet4 h, meet5 h, meet6 h, meet7 h⟩

/-! ## The gate's tables -/

theorem i2_ix2 {n m : ℕ} (a : Fin n) (b : Fin m) : i2 a b = ix2 a b := by
  funext x; match x with | 0 => rfl | 1 => rfl

/-- Slots handed out in order, the tiles' experts and three different choices for every token have these facts. -/
theorem routed_tables (σ : Fin 2048 → Fin 3 → Fin 23) (hσ : ∀ t, Function.Injective (σ t)) (pos : S2048x3.Idx → BitVec 32) (te : S1x72.Idx → BitVec 32) (ti : S2048x3.Idx → BitVec 32)
    (hpos : ∀ t k, pos (ix2 t k) = BitVec.ofNat 32 (Gate.slotN σ t (σ t k))) (hte : ∀ j : Fin 72, te (ix2 0 j) = BitVec.ofNat 32 (Gate.begunN σ j.val - 1))
    (hti : ∀ t k, ti (ix2 t k) = BitVec.ofNat 32 (σ t k).val) : Routed pos te ti := by
  have np (t : Fin 2048) (k : Fin 3) : (pos (ix2 t k)).toNat = Gate.slotN σ t (σ t k) := by
    rw [hpos, BitVec.toNat_ofNat]
    have := Gate.slot_lt σ t k
    omega
  have ne (t : Fin 2048) {k k' : Fin 3} (hk : k ≠ k') : ti (i2 t k) ≠ ti (i2 t k') := fun e => by
    rw [i2_ix2, i2_ix2, hti, hti] at e
    have e := congrArg BitVec.toNat e
    rw [BitVec.toNat_ofNat, BitVec.toNat_ofNat] at e
    exact hk (hσ t (Fin.ext (by omega)))
  refine ⟨fun i => ?_, fun i => ?_, fun t k t' k' e => ?_, fun t k j l1 l2 => ?_, fun t => ⟨ne t (by decide), ne t (by decide), ne t (by decide)⟩⟩
  · obtain ⟨t, k, rfl⟩ : ∃ (t : Fin 2048) (k : Fin 3), i = ix2 t k := ⟨i 0, i 1, (ix2_eta i).symm⟩
    rw [np]
    exact Gate.slot_lt σ t k
  · obtain ⟨o, j, rfl⟩ : ∃ (o : Fin 1) (j : Fin 72), i = ix2 o j := ⟨i 0, i 1, (ix2_eta i).symm⟩
    obtain rfl : o = 0 := Subsingleton.elim _ _
    rw [hte, BitVec.toNat_ofNat]
    have := Gate.begun_pos σ j.val
    omega
  · rw [i2_ix2, i2_ix2] at e
    have e := congrArg BitVec.toNat e
    rw [np, np] at e
    exact Gate.slot_apart σ hσ t t' k k' e
  · rw [i2_ix2, np] at l1 l2
    rw [i2_ix2, i2_ix2, hte, hti]
    have hs := Gate.slot_in σ t k
    rw [Gate.begun_of σ (σ t k) j.val (by omega) (by omega), Nat.add_sub_cancel]

open Gate in
/-- The reference's slots and tiles, with its choices, have these facts. -/
theorem gate_routed (m : (ℓ : Loc Cert.GateIdeal.nD Cert.GateIdeal.τ Cert.GateIdeal.sig) → Buf (Elt Ideal) ℓ) (hp : Cert.Pre_GateIdeal_biased m) :
    Routed (slotsRef (rI (rS (g0 m) (g1 m) (g2 m) (g3 m)))) (tilesRef (rI (rS (g0 m) (g1 m) (g2 m) (g3 m)))) (rI (rS (g0 m) (g1 m) (g2 m) (g3 m))) := by
  have hI := chosen_word m hp
  have hh := hots_at _ (chosen m) hI
  have hb := begins_at (chosen m) _ (filled_at (chosen m) _ hh)
  refine routed_tables (chosen m) (fun t => sel_inj (above m hp t)) _ _ _ (fun t k => ?_) (fun j => ?_) hI
  · exact (slotted_at (chosen m) _ _ _ (hot_at _ (chosen m) hI) hb (ranked_at (chosen m) _ hh) t k).trans (slot_word (chosen m) t k)
  · exact (tiled_at _ _ hb j).trans (begun_word (chosen m) j.val)

open Gate in
/-- After the gate's run, its slots and tiles' experts, with the experts that the reference chooses, meet the precondition of the four calls. -/
theorem gate_meets (m : (ℓ : Loc Cert.GateIdeal.nD Cert.GateIdeal.τ Cert.GateIdeal.sig) → Buf (Elt Ideal) ℓ) (g : Dev Cert.GateIdeal.nD → PrngReg) (hp : Cert.Pre_GateIdeal_biased m) :
    θ_run (Cert.GateIdeal.defs (F := Ideal)) (onTc (τ := Cert.GateIdeal.τ) (Cert.GateIdeal.main (F := Ideal))) ⟨m, fun _ => 0, g⟩ fun r =>
      ∀ m' : (ℓ : Loc nD τ sig) → Buf (Elt Ideal) ℓ,
        m' (0, arg1') = r.2.mem (0, Proc.devRef .tc Cert.GateIdeal.main_v2_1) → m' (0, arg2') = r.2.mem (0, Proc.devRef .tc Cert.GateIdeal.main_v2_2) →
        m' (0, arg12') = rI (rS (g0 m) (g1 m) (g2 m) (g3 m)) → Cert.Pre_KernelIdeal m' := by
  refine (θ_run Cert.GateIdeal.defs _ _).mono (fun r q m' e1 e2 e12 => ?_) (Cert.GateIdeal.Value.run_blocks (F := Ideal) m g)
  obtain ⟨-, h5, h6, -⟩ := q 0
  refine meets ?_
  have e1 := e1.trans (h5.trans (Gate.slots_eq m hp))
  have e2 := e2.trans (h6.trans (Gate.tiles_eq m hp))
  rw [e1, e2, e12]
  exact gate_routed m hp

end Cert.Proof.Moe

end
-- ==== Proof.lean ====
/-
  The certificate's claims, put together: the frames of the kernel, of its ideal reading and of the reference, that the ideal
  program is the kernel over the extended reals, and that kernel and reference compute the same function over them; for the four
  calls that route, work and combine, and for the gate call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_routed
public import proofs.«01_k».proof.Proof.Gen.ReferenceIdeal.Run
public import proofs.«01_k».proof.Proof.Gen.Pre_biased
public import proofs.«01_k».proof.Proof.Gen.Gate
public import proofs.«01_k».proof.Proof.Gen.Gate.Frame
public import proofs.«01_k».proof.Proof.Gen.GateIdeal
public import proofs.«01_k».proof.Proof.Gen.GateIdeal.Value
public import proofs.«01_k».proof.Proof.Gen.GateReferenceIdeal
public import proofs.«01_k».proof.Proof.Gen.GateReferenceIdeal.Run
public import Idealize.ShloMosaic.Adequacy
public import Idealize.ShloMosaic.Init
public import proofs.«01_k».proof.Proof.Moe.Equal
public import proofs.«01_k».proof.Proof.Moe.GateEqual
public import proofs.«01_k».proof.Proof.Moe.GateRouted

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Gate.Gen.facts, Cert.GateIdeal.Gen.facts,
  Cert.GateReferenceIdeal.Gen.facts, Cert.Pre_routed.Gen.facts, Cert.Pre_biased.Gen.facts,
  Moe.frame_p, Moe.frame_pi, Moe.frame_ri, Moe.frame_ri_pre, Moe.Gate.frame_p, Moe.Gate.frame_pi, Moe.Gate.frame_pi_biased, Moe.Gate.frame_ri, Moe.Gate.frame_ri_biased,
  trivial, Moe.algebraic, trivial, Moe.Gate.algebraic⟩

end Cert.Proof

end
